-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "s" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v25)) (v2 : (c : Dev Cert.Kernel2Ideal.nD) → Buf (Elt Ideal) ((c.tc : Thread Cert.Kernel2Ideal.nD Cert.Kernel2Ideal.τ).loc Cert.Kernel2Ideal.main_v26)) (v3 : (c : Dev Cert.Kernel2Ideal.nD) → Buf (Elt Ideal) ((c.tc : Thread Cert.Kernel2Ideal.nD Cert.Kernel2Ideal.τ).loc Cert.Kernel2Ideal.main_v27)) (v4 : (c : Dev Cert.Kernel2Ideal.nD) → Buf (Elt Ideal) ((c.tc : Thread Cert.Kernel2Ideal.nD Cert.Kernel2Ideal.τ).loc Cert.Kernel2Ideal.main_v28)) (v5 : (c : Dev Cert.Kernel2Ideal.nD) → Buf (Elt Ideal) ((c.tc : Thread Cert.Kernel2Ideal.nD Cert.Kernel2Ideal.τ).loc Cert.Kernel2Ideal.main_v29)) (v6 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v25) = v1 c
          ∧ r.2.mem ((c.tc : Thread Cert.Kernel2Ideal.nD Cert.Kernel2Ideal.τ).loc Cert.Kernel2Ideal.main_v26) = v2 c
          ∧ r.2.mem ((c.tc : Thread Cert.Kernel2Ideal.nD Cert.Kernel2Ideal.τ).loc Cert.Kernel2Ideal.main_v27) = v3 c
          ∧ r.2.mem ((c.tc : Thread Cert.Kernel2Ideal.nD Cert.Kernel2Ideal.τ).loc Cert.Kernel2Ideal.main_v28) = v4 c
          ∧ r.2.mem ((c.tc : Thread Cert.Kernel2Ideal.nD Cert.Kernel2Ideal.τ).loc Cert.Kernel2Ideal.main_v29) = v5 c
          ∧ r.2.mem ((c.tc : Thread Cert.Kernel2Ideal.nD Cert.Kernel2Ideal.τ).loc Cert.Kernel2Ideal.main_v30) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v36) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_v39) = v5 c
          ∧ r.2.mem ((c.tc : Thread Cert.Reference2Ideal.nD Cert.Reference2Ideal.τ).loc Cert.Reference2Ideal.main_v41) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "mask" .f32 0xF149F2CA#32 ⊥
  ∧ IdealRules.named_const.Statement Cert.Kernel5Ideal.κ "s" .f32 0x3DB504F3#32 (((Real.sqrt 128)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v10)) (v1 : (c : Dev Cert.Kernel6Ideal.nD) → Buf (Elt Ideal) ((c.tc : Thread Cert.Kernel6Ideal.nD Cert.Kernel6Ideal.τ).loc Cert.Kernel6Ideal.main_v19)) (v2 : (c : Dev Cert.Kernel6Ideal.nD) → Buf (Elt Ideal) ((c.tc : Thread Cert.Kernel6Ideal.nD Cert.Kernel6Ideal.τ).loc Cert.Kernel6Ideal.main_v20)) (v3 : (c : Dev Cert.Kernel6Ideal.nD) → Buf (Elt Ideal) ((c.tc : Thread Cert.Kernel6Ideal.nD Cert.Kernel6Ideal.τ).loc Cert.Kernel6Ideal.main_v21)) (v4 : (c : Dev Cert.Kernel6Ideal.nD) → Buf (Elt Ideal) ((c.tc : Thread Cert.Kernel6Ideal.nD Cert.Kernel6Ideal.τ).loc Cert.Kernel6Ideal.main_v22)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_v19) = v1 c
          ∧ r.2.mem ((c.tc : Thread Cert.Kernel6Ideal.nD Cert.Kernel6Ideal.τ).loc Cert.Kernel6Ideal.main_v20) = v2 c
          ∧ r.2.mem ((c.tc : Thread Cert.Kernel6Ideal.nD Cert.Kernel6Ideal.τ).loc Cert.Kernel6Ideal.main_v21) = v3 c
          ∧ r.2.mem ((c.tc : Thread Cert.Kernel6Ideal.nD Cert.Kernel6Ideal.τ).loc Cert.Kernel6Ideal.main_v22) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v31) = v2 c
          ∧ r.2.mem ((c.tc : Thread Cert.Reference6Ideal.nD Cert.Reference6Ideal.τ).loc Cert.Reference6Ideal.main_v32) = v3 c
          ∧ r.2.mem ((c.tc : Thread Cert.Reference6Ideal.nD Cert.Reference6Ideal.τ).loc Cert.Reference6Ideal.main_v33) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v14)) (v1 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_v16) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S8192x11520 : Shape := ⟨2, ![8192, 11520]⟩
abbrev S8192x2048 : Shape := ⟨2, ![8192, 2048]⟩
abbrev S128x512 : Shape := ⟨2, ![128, 512]⟩
abbrev S4096x128 : Shape := ⟨2, ![4096, 128]⟩
abbrev S4608x128 : Shape := ⟨2, ![4608, 128]⟩
abbrev S36x128x128 : Shape := ⟨3, ![36, 128, 128]⟩
abbrev S512x128 : Shape := ⟨2, ![512, 128]⟩
abbrev S128x128 : Shape := ⟨2, ![128, 128]⟩
abbrev S1x128x128 : Shape := ⟨3, ![1, 128, 128]⟩
abbrev S640x128 : Shape := ⟨2, ![640, 128]⟩
abbrev S640x512 : Shape := ⟨2, ![640, 512]⟩
abbrev S512 : Shape := ⟨1, ![512]⟩
abbrev S1x512 : Shape := ⟨2, ![1, 512]⟩

abbrev nBuf : Space → Nat
  | .hbm => 2
  | .vmem => 10
  | .smem => 0
  | _ => 0

abbrev bufTy : (tb : Table) → Fin (tcTables nBuf tb) → BufTy
  | .hbm, ⟨0, _⟩ => ⟨S8192x11520, .f32⟩
  | .hbm, ⟨1, _⟩ => ⟨S8192x2048, .bf16⟩
  | .local _ .vmem, ⟨0, _⟩ => ⟨S128x512, .f32⟩
  | .local _ .vmem, ⟨1, _⟩ => ⟨S128x512, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x512, .bf16⟩
  | .local _ .vmem, ⟨7, _⟩ => ⟨S128x512, .bf16⟩
  | .local _ .vmem, ⟨8, _⟩ => ⟨S4608x128, .bf16⟩
  | .local _ .vmem, ⟨9, _⟩ => ⟨S36x128x128, .bf16⟩
  | _, _ => ⟨S8192x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_off1 (i : grid0.Coords) : Fin 2 → Nat :=
  let arg2 : BitVec 32 := BitVec.ofNat 32 (i 2).val
  let c128_i32 : BitVec 32 := 128#32
  let v0 : BitVec 32 := Scalar.muli arg2 c128_i32
  let v1 : BitVec 32 := v0
  let v12 : Index := Scalar.indexCast v1
  let c0_2 : Index := 0#32
  ![v12.toNat, 0]
def k0_off2 (i : grid0.Coords) (c0_i32_12 : BitVec 32) : Fin 3 → Nat :=
  let arg2 : BitVec 32 := BitVec.ofNat 32 (i 2).val
  let v51 : BitVec 32 := Scalar.addi arg2 c0_i32_12
  let v52 : Index := Scalar.indexCast v51
  let c0_13 : Index := 0#32
  let c0_14 : Index := 0#32
  ![v52.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S8192x11520 : Shape := ⟨2, ![8192, 11520]⟩
abbrev S8192x2048 : Shape := ⟨2, ![8192, 2048]⟩
abbrev S2x4096x4x4x128 : Shape := ⟨5, ![2, 4096, 4, 4, 128]⟩
abbrev S8192x512 : Shape := ⟨2, ![8192, 512]⟩
abbrev S2x4096x4x128 : Shape := ⟨4, ![2, 4096, 4, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4x4096x4096x4 : Shape := ⟨5, ![2, 4, 4096, 4096, 4]⟩
abbrev S2x4x4x4096x4096 : Shape := ⟨5, ![2, 4, 4, 4096, 4096]⟩
abbrev S1x1x4096x4096 : Shape := ⟨4, ![1, 1, 4096, 4096]⟩
abbrev S2x4x4x4096 : Shape := ⟨4, ![2, 4, 4, 4096]⟩
abbrev S2x4x4x4096x1 : Shape := ⟨5, ![2, 4, 4, 4096, 1]⟩
abbrev S2x4x128x4x4096 : Shape := ⟨5, ![2, 4, 128, 4, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x11520, .f32⟩
  | .hbm, ⟨1, _⟩ => ⟨S8192x2048, .f32⟩
  | .hbm, ⟨2, _⟩ => ⟨S2x4096x4x4x128, .f32⟩
  | .hbm, ⟨3, _⟩ => ⟨S8192x512, .f32⟩
  | .hbm, ⟨4, _⟩ => ⟨S2x4096x4x128, .f32⟩
  | .hbm, ⟨5, _⟩ => ⟨S8192x512, .f32⟩
  | .hbm, ⟨6, _⟩ => ⟨S2x4096x4x128, .f32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S4096x4096, .i1⟩
  | .hbm, ⟨21, _⟩ => ⟨S2x4x4096x4096x4, .f32⟩
  | .hbm, ⟨22, _⟩ => ⟨S2x4x4x4096x4096, .f32⟩
  | .hbm, ⟨23, _⟩ => ⟨S_, .f32⟩
  | .hbm, ⟨24, _⟩ => ⟨S_, .f32⟩
  | .hbm, ⟨25, _⟩ => ⟨S2x4x4x4096x4096, .f32⟩
  | .hbm, ⟨26, _⟩ => ⟨S2x4x4x4096x4096, .f32⟩
  | .hbm, ⟨27, _⟩ => ⟨S1x1x4096x4096, .i1⟩
  | .hbm, ⟨28, _⟩ => ⟨S_, .f32⟩
  | .hbm, ⟨29, _⟩ => ⟨S_, .f32⟩
  | .hbm, ⟨30, _⟩ => ⟨S2x4x4x4096x4096, .i1⟩
  | .hbm, ⟨31, _⟩ => ⟨S2x4x4x4096x4096, .f32⟩
  | .hbm, ⟨32, _⟩ => ⟨S2x4x4x4096x4096, .f32⟩
  | .hbm, ⟨33, _⟩ => ⟨S_, .f32⟩
  | .hbm, ⟨34, _⟩ => ⟨S2x4x4x4096, .f32⟩
  | .hbm, ⟨35, _⟩ => ⟨S2x4x4x4096x1, .f32⟩
  | .hbm, ⟨36, _⟩ => ⟨S2x4x4x4096x4096, .f32⟩
  | .hbm, ⟨37, _⟩ => ⟨S2x4x4x4096x4096, .f32⟩
  | .hbm, ⟨38, _⟩ => ⟨S2x4x4x4096x4096, .f32⟩
  | .hbm, ⟨39, _⟩ => ⟨S_, .f32⟩
  | .hbm, ⟨40, _⟩ => ⟨S_, .f32⟩
  | .hbm, ⟨41, _⟩ => ⟨S2x4x4x4096x4096, .i1⟩
  | .hbm, ⟨42, _⟩ => ⟨S2x4x4x4096x4096, .f32⟩
  | .hbm, ⟨43, _⟩ => ⟨S2x4x4x4096x4096, .f32⟩
  | .hbm, ⟨44, _⟩ => ⟨S_, .f32⟩
  | .hbm, ⟨45, _⟩ => ⟨S2x4x4x4096, .f32⟩
  | .hbm, ⟨46, _⟩ => ⟨S2x4x4x4096x1, .f32⟩
  | .hbm, ⟨47, _⟩ => ⟨S_, .f32⟩
  | .hbm, ⟨48, _⟩ => ⟨S2x4x4x4096x1, .f32⟩
  | .hbm, ⟨49, _⟩ => ⟨S2x4x4x4096x1, .f32⟩
  | .hbm, ⟨50, _⟩ => ⟨S2x4x4x4096x4096, .f32⟩
  | .hbm, ⟨51, _⟩ => ⟨S2x4x4x4096x4096, .f32⟩
  | .hbm, ⟨52, _⟩ => ⟨S2x4x128x4x4096, .f32⟩
  | .hbm, ⟨53, _⟩ => ⟨S2x4096x4x4x128, .f32⟩
  | .hbm, ⟨54, _⟩ => ⟨S8192x2048, .f32⟩
  | .hbm, ⟨55, _⟩ => ⟨S8192x2048, .bf16⟩
  | _, _ => ⟨S8192x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel2.lean ====
abbrev S2x4096x2048 : Shape := ⟨3, ![2, 4096, 2048]⟩
abbrev S1x2048 : Shape := ⟨2, ![1, 2048]⟩
abbrev S1x2048x11312 : Shape := ⟨3, ![1, 2048, 11312]⟩
abbrev S8192x2048 : Shape := ⟨2, ![8192, 2048]⟩
abbrev S2048 : Shape := ⟨1, ![2048]⟩
abbrev S2048x11312 : Shape := ⟨2, ![2048, 11312]⟩
abbrev S2048x5120 : Shape := ⟨2, ![2048, 5120]⟩
abbrev S2048x6144 : Shape := ⟨2, ![2048, 6144]⟩
abbrev S2048x48 : Shape := ⟨2, ![2048, 48]⟩
abbrev S_ : Shape := ⟨0, ![]⟩
abbrev S2048x208 : Shape := ⟨2, ![2048, 208]⟩
abbrev S2048x11520 : Shape := ⟨2, ![2048, 11520]⟩
abbrev S8192x11520 : Shape := ⟨2, ![8192, 11520]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩
abbrev S8192x512 : Shape := ⟨2, ![8192, 512]⟩
abbrev S2x4096x4x128 : Shape := ⟨4, ![2, 4096, 4, 128]⟩
abbrev S2x512x4x128 : Shape := ⟨4, ![2, 512, 4, 128]⟩
abbrev S1x2x4096x4x128 : Shape := ⟨5, ![1, 2, 4096, 4, 128]⟩
abbrev S1x2x512x4x128 : Shape := ⟨5, ![1, 2, 512, 4, 128]⟩

abbrev nBuf : Space → Nat
  | .hbm => 35
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11312, .f32⟩
  | .hbm, ⟨3, _⟩ => ⟨S8192x2048, .f32⟩
  | .hbm, ⟨4, _⟩ => ⟨S2048, .f32⟩
  | .hbm, ⟨5, _⟩ => ⟨S2048x11312, .f32⟩
  | .hbm, ⟨6, _⟩ => ⟨S2048x5120, .f32⟩
  | .hbm, ⟨7, _⟩ => ⟨S2048x6144, .f32⟩
  | .hbm, ⟨8, _⟩ => ⟨S2048x48, .f32⟩
  | .hbm, ⟨9, _⟩ => ⟨S_, .f32⟩
  | .hbm, ⟨10, _⟩ => ⟨S2048x208, .f32⟩
  | .hbm, ⟨11, _⟩ => ⟨S2048x11520, .f32⟩
  | .hbm, ⟨12, _⟩ => ⟨S2048x11520, .bf16⟩
  | .hbm, ⟨13, _⟩ => ⟨S1x2048, .f32⟩
  | .hbm, ⟨14, _⟩ => ⟨S8192x11520, .f32⟩
  | .hbm, ⟨15, _⟩ => ⟨S8192x512, .f32⟩
  | .hbm, ⟨16, _⟩ => ⟨S2x4096x4x128, .f32⟩
  | .hbm, ⟨17, _⟩ => ⟨S8192x512, .f32⟩
  | .hbm, ⟨18, _⟩ => ⟨S2x4096x4x128, .f32⟩
  | .hbm, ⟨19, _⟩ => ⟨S8192x512, .f32⟩
  | .hbm, ⟨20, _⟩ => ⟨S2x4096x4x128, .f32⟩
  | .hbm, ⟨21, _⟩ => ⟨S8192x512, .f32⟩
  | .hbm, ⟨22, _⟩ => ⟨S2x4096x4x128, .f32⟩
  | .hbm, ⟨23, _⟩ => ⟨S8192x512, .f32⟩
  | .hbm, ⟨24, _⟩ => ⟨S2x4096x4x128, .f32⟩
  | .hbm, ⟨25, _⟩ => ⟨S2x512x4x128, .f32⟩
  | .hbm, ⟨26, _⟩ => ⟨S8192x512, .f32⟩
  | .hbm, ⟨27, _⟩ => ⟨S2x4096x4x128, .f32⟩
  | .hbm, ⟨28, _⟩ => ⟨S2x512x4x128, .f32⟩
  | .hbm, ⟨29, _⟩ => ⟨S1x2x4096x4x128, .f32⟩
  | .hbm, ⟨30, _⟩ => ⟨S1x2x4096x4x128, .f32⟩
  | .hbm, ⟨31, _⟩ => ⟨S1x2x4096x4x128, .f32⟩
  | .hbm, ⟨32, _⟩ => ⟨S1x2x4096x4x128, .f32⟩
  | .hbm, ⟨33, _⟩ => ⟨S1x2x512x4x128, .f32⟩
  | .hbm, ⟨34, _⟩ => ⟨S1x2x512x4x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4096x2048 : Shape := ⟨3, ![2, 4096, 2048]⟩
abbrev S1x2048 : Shape := ⟨2, ![1, 2048]⟩
abbrev S1x2048x11312 : Shape := ⟨3, ![1, 2048, 11312]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11312 : Shape := ⟨2, ![2048, 11312]⟩
abbrev S2x4096x11312 : Shape := ⟨3, ![2, 4096, 11312]⟩
abbrev S2x4096x512 : Shape := ⟨3, ![2, 4096, 512]⟩
abbrev S2x4096x4x128 : Shape := ⟨4, ![2, 4096, 4, 128]⟩
abbrev S2x4096x208 : Shape := ⟨3, ![2, 4096, 208]⟩
abbrev S2x4096x5120 : Shape := ⟨3, ![2, 4096, 5120]⟩
abbrev S2x4096x6144 : Shape := ⟨3, ![2, 4096, 6144]⟩
abbrev S2x4096x48 : Shape := ⟨3, ![2, 4096, 48]⟩
abbrev S2x4096x11520 : Shape := ⟨3, ![2, 4096, 11520]⟩
abbrev S8192x11520 : Shape := ⟨2, ![8192, 11520]⟩
abbrev S1x2x4096x4x128 : Shape := ⟨5, ![1, 2, 4096, 4, 128]⟩
abbrev S2x512x4x128 : Shape := ⟨4, ![2, 512, 4, 128]⟩
abbrev S1x2x512x4x128 : Shape := ⟨5, ![1, 2, 512, 4, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11312, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x11312, .f32⟩
  | .hbm, ⟨21, _⟩ => ⟨S2x4096x11312, .f32⟩
  | .hbm, ⟨22, _⟩ => ⟨S2x4096x512, .f32⟩
  | .hbm, ⟨23, _⟩ => ⟨S2x4096x4x128, .f32⟩
  | .hbm, ⟨24, _⟩ => ⟨S2x4096x512, .f32⟩
  | .hbm, ⟨25, _⟩ => ⟨S2x4096x4x128, .f32⟩
  | .hbm, ⟨26, _⟩ => ⟨S2x4096x512, .f32⟩
  | .hbm, ⟨27, _⟩ => ⟨S2x4096x4x128, .f32⟩
  | .hbm, ⟨28, _⟩ => ⟨S2x4096x512, .f32⟩
  | .hbm, ⟨29, _⟩ => ⟨S2x4096x4x128, .f32⟩
  | .hbm, ⟨30, _⟩ => ⟨S2x4096x512, .f32⟩
  | .hbm, ⟨31, _⟩ => ⟨S2x4096x4x128, .f32⟩
  | .hbm, ⟨32, _⟩ => ⟨S2x4096x512, .f32⟩
  | .hbm, ⟨33, _⟩ => ⟨S2x4096x4x128, .f32⟩
  | .hbm, ⟨34, _⟩ => ⟨S_, .f32⟩
  | .hbm, ⟨35, _⟩ => ⟨S2x4096x208, .f32⟩
  | .hbm, ⟨36, _⟩ => ⟨S2x4096x5120, .f32⟩
  | .hbm, ⟨37, _⟩ => ⟨S2x4096x6144, .f32⟩
  | .hbm, ⟨38, _⟩ => ⟨S2x4096x48, .f32⟩
  | .hbm, ⟨39, _⟩ => ⟨S2x4096x11520, .f32⟩
  | .hbm, ⟨40, _⟩ => ⟨S8192x11520, .f32⟩
  | .hbm, ⟨41, _⟩ => ⟨S1x2x4096x4x128, .f32⟩
  | .hbm, ⟨42, _⟩ => ⟨S1x2x4096x4x128, .f32⟩
  | .hbm, ⟨43, _⟩ => ⟨S1x2x4096x4x128, .f32⟩
  | .hbm, ⟨44, _⟩ => ⟨S1x2x4096x4x128, .f32⟩
  | .hbm, ⟨45, _⟩ => ⟨S2x512x4x128, .f32⟩
  | .hbm, ⟨46, _⟩ => ⟨S1x2x512x4x128, .f32⟩
  | .hbm, ⟨47, _⟩ => ⟨S2x512x4x128, .f32⟩
  | .hbm, ⟨48, _⟩ => ⟨S1x2x512x4x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S8192x11520 : Shape := ⟨2, ![8192, 11520]⟩
abbrev S2048x2048 : Shape := ⟨2, ![2048, 2048]⟩
abbrev S1024x2048 : Shape := ⟨2, ![1024, 2048]⟩
abbrev S256x2048 : Shape := ⟨2, ![256, 2048]⟩
abbrev S256x256 : Shape := ⟨2, ![256, 256]⟩
abbrev S256x1024 : Shape := ⟨2, ![256, 1024]⟩
abbrev S256x512 : Shape := ⟨2, ![256, 512]⟩
abbrev S2048x512 : Shape := ⟨2, ![2048, 512]⟩
abbrev S1024x512 : Shape := ⟨2, ![1024, 512]⟩
abbrev S256x1 : Shape := ⟨2, ![256, 1]⟩
abbrev S256x128 : Shape := ⟨2, ![256, 128]⟩

abbrev nBuf : Space → Nat
  | .hbm => 10
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x1024, .bf16⟩
  | .hbm, ⟨4, _⟩ => ⟨S8192x11520, .f32⟩
  | .hbm, ⟨5, _⟩ => ⟨S2048x2048, .f32⟩
  | .hbm, ⟨6, _⟩ => ⟨S1024x2048, .f32⟩
  | .hbm, ⟨7, _⟩ => ⟨S2048x2048, .bf16⟩
  | .hbm, ⟨8, _⟩ => ⟨S1024x2048, .bf16⟩
  | .hbm, ⟨9, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x256, .f32⟩
  | .local _ .vmem, ⟨7, _⟩ => ⟨S256x256, .f32⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S2048x512, .bf16⟩
  | .local _ .vmem, ⟨15, _⟩ => ⟨S2048x512, .bf16⟩
  | .local _ .vmem, ⟨16, _⟩ => ⟨S1024x512, .bf16⟩
  | .local _ .vmem, ⟨17, _⟩ => ⟨S1024x512, .bf16⟩
  | .local _ .vmem, ⟨18, _⟩ => ⟨S256x512, .bf16⟩
  | .local _ .vmem, ⟨19, _⟩ => ⟨S256x512, .bf16⟩
  | .local _ .vmem, ⟨20, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, c44_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8192x2048 : Shape := ⟨2, ![8192, 2048]⟩
abbrev S8192x1024 : Shape := ⟨2, ![8192, 1024]⟩
abbrev S8192x11520 : Shape := ⟨2, ![8192, 11520]⟩
abbrev S2048x2048 : Shape := ⟨2, ![2048, 2048]⟩
abbrev S1024x2048 : Shape := ⟨2, ![1024, 2048]⟩
abbrev S8192x16x128 : Shape := ⟨3, ![8192, 16, 128]⟩
abbrev S8192x48 : Shape := ⟨2, ![8192, 48]⟩
abbrev S_ : Shape := ⟨0, ![]⟩
abbrev S8192x16x3 : Shape := ⟨3, ![8192, 16, 3]⟩
abbrev S8192x16x1 : Shape := ⟨3, ![8192, 16, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x1024, .bf16⟩
  | .hbm, ⟨4, _⟩ => ⟨S8192x11520, .f32⟩
  | .hbm, ⟨5, _⟩ => ⟨S2048x2048, .f32⟩
  | .hbm, ⟨6, _⟩ => ⟨S1024x2048, .f32⟩
  | .hbm, ⟨7, _⟩ => ⟨S8192x2048, .f32⟩
  | .hbm, ⟨8, _⟩ => ⟨S8192x16x128, .f32⟩
  | .hbm, ⟨9, _⟩ => ⟨S8192x2048, .f32⟩
  | .hbm, ⟨10, _⟩ => ⟨S8192x16x128, .f32⟩
  | .hbm, ⟨11, _⟩ => ⟨S8192x2048, .f32⟩
  | .hbm, ⟨12, _⟩ => ⟨S8192x16x128, .f32⟩
  | .hbm, ⟨13, _⟩ => ⟨S8192x48, .f32⟩
  | .hbm, ⟨14, _⟩ => ⟨S8192x48, .f32⟩
  | .hbm, ⟨15, _⟩ => ⟨S8192x48, .f32⟩
  | .hbm, ⟨16, _⟩ => ⟨S_, .f32⟩
  | .hbm, ⟨17, _⟩ => ⟨S8192x48, .f32⟩
  | .hbm, ⟨18, _⟩ => ⟨S8192x48, .f32⟩
  | .hbm, ⟨19, _⟩ => ⟨S_, .f32⟩
  | .hbm, ⟨20, _⟩ => ⟨S8192x48, .f32⟩
  | .hbm, ⟨21, _⟩ => ⟨S8192x48, .f32⟩
  | .hbm, ⟨22, _⟩ => ⟨S8192x16x3, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x16x1, .f32⟩
  | .hbm, ⟨42, _⟩ => ⟨S8192x16x128, .f32⟩
  | .hbm, ⟨43, _⟩ => ⟨S8192x16x128, .f32⟩
  | .hbm, ⟨44, _⟩ => ⟨S8192x16x1, .f32⟩
  | .hbm, ⟨45, _⟩ => ⟨S8192x16x128, .f32⟩
  | .hbm, ⟨46, _⟩ => ⟨S8192x16x128, .f32⟩
  | .hbm, ⟨47, _⟩ => ⟨S8192x16x128, .f32⟩
  | .hbm, ⟨48, _⟩ => ⟨S8192x16x1, .f32⟩
  | .hbm, ⟨49, _⟩ => ⟨S8192x16x128, .f32⟩
  | .hbm, ⟨50, _⟩ => ⟨S8192x16x128, .f32⟩
  | .hbm, ⟨51, _⟩ => ⟨S8192x16x128, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x1024, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Kernel5.lean ====
abbrev S8192x11520 : Shape := ⟨2, ![8192, 11520]⟩
abbrev S2x4x4096x128 : Shape := ⟨4, ![2, 4, 4096, 128]⟩
abbrev S8192x2048 : Shape := ⟨2, ![8192, 2048]⟩
abbrev S256x512 : Shape := ⟨2, ![256, 512]⟩
abbrev S1x1x256x128 : Shape := ⟨4, ![1, 1, 256, 128]⟩
abbrev S4096x128 : Shape := ⟨2, ![4096, 128]⟩
abbrev S4096x256 : Shape := ⟨2, ![4096, 256]⟩
abbrev S16x128x256 : Shape := ⟨3, ![16, 128, 256]⟩
abbrev S128x1024 : Shape := ⟨2, ![128, 1024]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S1024x256 : Shape := ⟨2, ![1024, 256]⟩
abbrev S256x1024 : Shape := ⟨2, ![256, 1024]⟩
abbrev S1x1024 : Shape := ⟨2, ![1, 1024]⟩
abbrev S1024 : Shape := ⟨1, ![1024]⟩
abbrev S1024x128 : Shape := ⟨2, ![1024, 128]⟩

abbrev nBuf : Space → Nat
  | .hbm => 3
  | .vmem => 13
  | .smem => 0
  | _ => 0

abbrev bufTy : (tb : Table) → Fin (tcTables nBuf tb) → BufTy
  | .hbm, ⟨0, _⟩ => ⟨S8192x11520, .f32⟩
  | .hbm, ⟨1, _⟩ => ⟨S2x4x4096x128, .bf16⟩
  | .hbm, ⟨2, _⟩ => ⟨S8192x2048, .bf16⟩
  | .local _ .vmem, ⟨0, _⟩ => ⟨S256x512, .f32⟩
  | .local _ .vmem, ⟨1, _⟩ => ⟨S256x512, .f32⟩
  | .local _ .vmem, ⟨2, _⟩ => ⟨S1x1x256x128, .bf16⟩
  | .local _ .vmem, ⟨3, _⟩ => ⟨S1x1x256x128, .bf16⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S256x512, .bf16⟩
  | .local _ .vmem, ⟨9, _⟩ => ⟨S256x512, .bf16⟩
  | .local _ .vmem, ⟨10, _⟩ => ⟨S4096x256, .bf16⟩
  | .local _ .vmem, ⟨11, _⟩ => ⟨S16x128x256, .bf16⟩
  | .local _ .vmem, ⟨12, _⟩ => ⟨S128x1024, .f32⟩
  | _, _ => ⟨S8192x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_24 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_18 : BitVec 32 := 0#32
  let v52 : BitVec 1 := Scalar.cmpi .sgt v48 c0_i32_18
  let v53 : BitVec 32 := Scalar.extui v52
  let c0_i32_19 : BitVec 32 := 0#32
  let v54 : BitVec 1 := Scalar.cmpi .slt v48 c0_i32_19
  let v55 : BitVec 32 := Scalar.extui v54
  let v56 : BitVec 32 := Scalar.subi v53 v55
  let c2_i32 : BitVec 32 := 2#32
  let c0_i32_20 : BitVec 32 := 0#32
  let v57 : BitVec 1 := Scalar.cmpi .sgt c2_i32 c0_i32_20
  let v58 : BitVec 32 := Scalar.extui v57
  let c0_i32_21 : BitVec 32 := 0#32
  let v59 : BitVec 1 := Scalar.cmpi .slt c2_i32 c0_i32_21
  let v60 : BitVec 32 := Scalar.extui v59
  let v61 : BitVec 32 := Scalar.subi v58 v60
  let v62 : BitVec 1 := Scalar.cmpi .ne v56 v61
  let v63 : BitVec 32 := Scalar.remsi v48 c2_i32
  let c0_i32_22 : BitVec 32 := 0#32
  let v64 : BitVec 1 := Scalar.cmpi .ne v63 c0_i32_22
  let v65 : BitVec 1 := Scalar.andi v62 v64
  let v51 : BitVec 32 := Scalar.divsi v48 c2_i32
  let c1_i32_23 : BitVec 32 := 1#32
  let v66 : BitVec 32 := Scalar.subi v51 c1_i32_23
  let v67 : BitVec 32 := Scalar.select v65 v66 v51
  let v68 : BitVec 32 := Scalar.subi v67 c0_i32_24
  let c1_i32_25 : BitVec 32 := 1#32
  let v70 : BitVec 32 := Scalar.divsi v68 c1_i32_25
  let v71 : BitVec 32 := Scalar.muli v70 c1_i32_25
  let v72 : BitVec 32 := Scalar.addi c0_i32_24 v71
  let c1_i32_26 : BitVec 32 := 1#32
  ⟨c0_i32_24, v72, c1_i32_26⟩
def k0_mult1 (i : grid0.Coords) (k0_t1 : Fin (k0_t1_loop i).trips) : BitVec 32 :=
  let c2_i32_58 : BitVec 32 := 2#32
  let c0_i32_24 : BitVec 32 := 0#32
  let c1_i32_26 : BitVec 32 := 1#32
  let arg11 : BitVec 32 := Scf.iv c0_i32_24 c1_i32_26 k0_t1
  let v149 : BitVec 32 := Scalar.muli c2_i32_58 arg11
  let c256_i32_59 : BitVec 32 := 256#32
  let v150 : BitVec 32 := Scalar.muli v149 c256_i32_59
  v150
def k0_off1 (i : grid0.Coords) (k0_t1 : Fin (k0_t1_loop i).trips) : Fin 2 → Nat :=
  let c2_i32_58 : BitVec 32 := 2#32
  let c0_i32_24 : BitVec 32 := 0#32
  let c1_i32_26 : BitVec 32 := 1#32
  let arg11 : BitVec 32 := Scf.iv c0_i32_24 c1_i32_26 k0_t1
  let v149 : BitVec 32 := Scalar.muli c2_i32_58 arg11
  let c256_i32_59 : BitVec 32 := 256#32
  let v150 : BitVec 32 := Scalar.muli v149 c256_i32_59
  let v151 : BitVec 32 := v150
  let v152 : Index := Scalar.indexCast v151
  let c0_60 : Index := 0#32
  ![v152.toNat, 0]
def k0_off2 (i : grid0.Coords) (k0_t1 : Fin (k0_t1_loop i).trips) : Fin 3 → Nat :=
  let c2_i32_58 : BitVec 32 := 2#32
  let c0_i32_24 : BitVec 32 := 0#32
  let c1_i32_26 : BitVec 32 := 1#32
  let arg11 : BitVec 32 := Scf.iv c0_i32_24 c1_i32_26 k0_t1
  let v149 : BitVec 32 := Scalar.muli c2_i32_58 arg11
  let v172 : Index := Scalar.indexCast v149
  let c0_67 : Index := 0#32
  let c0_68 : Index := 0#32
  ![v172.toNat, 0, 0]
def k0_mult2 (i : grid0.Coords) (k0_t1 : Fin (k0_t1_loop i).trips) : BitVec 32 :=
  let c2_i32_72 : BitVec 32 := 2#32
  let c0_i32_24 : BitVec 32 := 0#32
  let c1_i32_26 : BitVec 32 := 1#32
  let arg11 : BitVec 32 := Scf.iv c0_i32_24 c1_i32_26 k0_t1
  let v181 : BitVec 32 := Scalar.muli c2_i32_72 arg11
  let c1_i32_73 : BitVec 32 := 1#32
  let v182 : BitVec 32 := Scalar.addi v181 c1_i32_73
  let c256_i32_74 : BitVec 32 := 256#32
  let v183 : BitVec 32 := Scalar.muli v182 c256_i32_74
  v183
def k0_off3 (i : grid0.Coords) (k0_t1 : Fin (k0_t1_loop i).trips) : Fin 2 → Nat :=
  let c2_i32_72 : BitVec 32 := 2#32
  let c0_i32_24 : BitVec 32 := 0#32
  let c1_i32_26 : BitVec 32 := 1#32
  let arg11 : BitVec 32 := Scf.iv c0_i32_24 c1_i32_26 k0_t1
  let v181 : BitVec 32 := Scalar.muli c2_i32_72 arg11
  let c1_i32_73 : BitVec 32 := 1#32
  let v182 : BitVec 32 := Scalar.addi v181 c1_i32_73
  let c256_i32_74 : BitVec 32 := 256#32
  let v183 : BitVec 32 := Scalar.muli v182 c256_i32_74
  let v184 : BitVec 32 := v183
  let v185 : Index := Scalar.indexCast v184
  let c0_75 : Index := 0#32
  ![v185.toNat, 0]
def k0_off4 (i : grid0.Coords) (k0_t1 : Fin (k0_t1_loop i).trips) : Fin 3 → Nat :=
  let c2_i32_72 : BitVec 32 := 2#32
  let c0_i32_24 : BitVec 32 := 0#32
  let c1_i32_26 : BitVec 32 := 1#32
  let arg11 : BitVec 32 := Scf.iv c0_i32_24 c1_i32_26 k0_t1
  let v181 : BitVec 32 := Scalar.muli c2_i32_72 arg11
  let c1_i32_73 : BitVec 32 := 1#32
  let v182 : BitVec 32 := Scalar.addi v181 c1_i32_73
  let v205 : Index := Scalar.indexCast v182
  let c0_82 : Index := 0#32
  let c0_83 : Index := 0#32
  ![v205.toNat, 0, 0]
@[reducible] def k0_t2_loop (i : grid0.Coords) : Scf.Loop 32 :=
  let c0_i32_24 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_18 : BitVec 32 := 0#32
  let v52 : BitVec 1 := Scalar.cmpi .sgt v48 c0_i32_18
  let v53 : BitVec 32 := Scalar.extui v52
  let c0_i32_19 : BitVec 32 := 0#32
  let v54 : BitVec 1 := Scalar.cmpi .slt v48 c0_i32_19
  let v55 : BitVec 32 := Scalar.extui v54
  let v56 : BitVec 32 := Scalar.subi v53 v55
  let c2_i32 : BitVec 32 := 2#32
  let c0_i32_20 : BitVec 32 := 0#32
  let v57 : BitVec 1 := Scalar.cmpi .sgt c2_i32 c0_i32_20
  let v58 : BitVec 32 := Scalar.extui v57
  let c0_i32_21 : BitVec 32 := 0#32
  let v59 : BitVec 1 := Scalar.cmpi .slt c2_i32 c0_i32_21
  let v60 : BitVec 32 := Scalar.extui v59
  let v61 : BitVec 32 := Scalar.subi v58 v60
  let v62 : BitVec 1 := Scalar.cmpi .ne v56 v61
  let v63 : BitVec 32 := Scalar.remsi v48 c2_i32
  let c0_i32_22 : BitVec 32 := 0#32
  let v64 : BitVec 1 := Scalar.cmpi .ne v63 c0_i32_22
  let v65 : BitVec 1 := Scalar.andi v62 v64
  let v51 : BitVec 32 := Scalar.divsi v48 c2_i32
  let c1_i32_23 : BitVec 32 := 1#32
  let v66 : BitVec 32 := Scalar.subi v51 c1_i32_23
  let v67 : BitVec 32 := Scalar.select v65 v66 v51
  let v68 : BitVec 32 := Scalar.subi v67 c0_i32_24
  let c1_i32_25 : BitVec 32 := 1#32
  let v70 : BitVec 32 := Scalar.divsi v68 c1_i32_25
  let v71 : BitVec 32 := Scalar.muli v70 c1_i32_25
  let v72 : BitVec 32 := Scalar.addi c0_i32_24 v71
  let v69 : BitVec 32 := Scalar.addi c0_i32_24 v68
  let c1_i32_27 : BitVec 32 := 1#32
  ⟨v72, v69, c1_i32_27⟩
def k0_mult3 (i : grid0.Coords) (k0_t2 : Fin (k0_t2_loop i).trips) : BitVec 32 :=
  let c2_i32_58 : BitVec 32 := 2#32
  let c0_i32_24 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_18 : BitVec 32 := 0#32
  let v52 : BitVec 1 := Scalar.cmpi .sgt v48 c0_i32_18
  let v53 : BitVec 32 := Scalar.extui v52
  let c0_i32_19 : BitVec 32 := 0#32
  let v54 : BitVec 1 := Scalar.cmpi .slt v48 c0_i32_19
  let v55 : BitVec 32 := Scalar.extui v54
  let v56 : BitVec 32 := Scalar.subi v53 v55
  let c2_i32 : BitVec 32 := 2#32
  let c0_i32_20 : BitVec 32 := 0#32
  let v57 : BitVec 1 := Scalar.cmpi .sgt c2_i32 c0_i32_20
  let v58 : BitVec 32 := Scalar.extui v57
  let c0_i32_21 : BitVec 32 := 0#32
  let v59 : BitVec 1 := Scalar.cmpi .slt c2_i32 c0_i32_21
  let v60 : BitVec 32 := Scalar.extui v59
  let v61 : BitVec 32 := Scalar.subi v58 v60
  let v62 : BitVec 1 := Scalar.cmpi .ne v56 v61
  let v63 : BitVec 32 := Scalar.remsi v48 c2_i32
  let c0_i32_22 : BitVec 32 := 0#32
  let v64 : BitVec 1 := Scalar.cmpi .ne v63 c0_i32_22
  let v65 : BitVec 1 := Scalar.andi v62 v64
  let v51 : BitVec 32 := Scalar.divsi v48 c2_i32
  let c1_i32_23 : BitVec 32 := 1#32
  let v66 : BitVec 32 := Scalar.subi v51 c1_i32_23
  let v67 : BitVec 32 := Scalar.select v65 v66 v51
  let v68 : BitVec 32 := Scalar.subi v67 c0_i32_24
  let c1_i32_25 : BitVec 32 := 1#32
  let v70 : BitVec 32 := Scalar.divsi v68 c1_i32_25
  let v71 : BitVec 32 := Scalar.muli v70 c1_i32_25
  let v72 : BitVec 32 := Scalar.addi c0_i32_24 v71
  let c1_i32_27 : BitVec 32 := 1#32
  let arg11 : BitVec 32 := Scf.iv v72 c1_i32_27 k0_t2
  let v149 : BitVec 32 := Scalar.muli c2_i32_58 arg11
  let c256_i32_59 : BitVec 32 := 256#32
  let v150 : BitVec 32 := Scalar.muli v149 c256_i32_59
  v150
def k0_off5 (i : grid0.Coords) (k0_t2 : Fin (k0_t2_loop i).trips) : Fin 2 → Nat :=
  let c2_i32_58 : BitVec 32 := 2#32
  let c0_i32_24 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_18 : BitVec 32 := 0#32
  let v52 : BitVec 1 := Scalar.cmpi .sgt v48 c0_i32_18
  let v53 : BitVec 32 := Scalar.extui v52
  let c0_i32_19 : BitVec 32 := 0#32
  let v54 : BitVec 1 := Scalar.cmpi .slt v48 c0_i32_19
  let v55 : BitVec 32 := Scalar.extui v54
  let v56 : BitVec 32 := Scalar.subi v53 v55
  let c2_i32 : BitVec 32 := 2#32
  let c0_i32_20 : BitVec 32 := 0#32
  let v57 : BitVec 1 := Scalar.cmpi .sgt c2_i32 c0_i32_20
  let v58 : BitVec 32 := Scalar.extui v57
  let c0_i32_21 : BitVec 32 := 0#32
  let v59 : BitVec 1 := Scalar.cmpi .slt c2_i32 c0_i32_21
  let v60 : BitVec 32 := Scalar.extui v59
  let v61 : BitVec 32 := Scalar.subi v58 v60
  let v62 : BitVec 1 := Scalar.cmpi .ne v56 v61
  let v63 : BitVec 32 := Scalar.remsi v48 c2_i32
  let c0_i32_22 : BitVec 32 := 0#32
  let v64 : BitVec 1 := Scalar.cmpi .ne v63 c0_i32_22
  let v65 : BitVec 1 := Scalar.andi v62 v64
  let v51 : BitVec 32 := Scalar.divsi v48 c2_i32
  let c1_i32_23 : BitVec 32 := 1#32
  let v66 : BitVec 32 := Scalar.subi v51 c1_i32_23
  let v67 : BitVec 32 := Scalar.select v65 v66 v51
  let v68 : BitVec 32 := Scalar.subi v67 c0_i32_24
  let c1_i32_25 : BitVec 32 := 1#32
  let v70 : BitVec 32 := Scalar.divsi v68 c1_i32_25
  let v71 : BitVec 32 := Scalar.muli v70 c1_i32_25
  let v72 : BitVec 32 := Scalar.addi c0_i32_24 v71
  let c1_i32_27 : BitVec 32 := 1#32
  let arg11 : BitVec 32 := Scf.iv v72 c1_i32_27 k0_t2
  let v149 : BitVec 32 := Scalar.muli c2_i32_58 arg11
  let c256_i32_59 : BitVec 32 := 256#32
  let v150 : BitVec 32 := Scalar.muli v149 c256_i32_59
  let v151 : BitVec 32 := v150
  let v152 : Index := Scalar.indexCast v151
  let c0_60 : Index := 0#32
  ![v152.toNat, 0]
def k0_off6 (i : grid0.Coords) (k0_t2 : Fin (k0_t2_loop i).trips) : Fin 3 → Nat :=
  let c2_i32_58 : BitVec 32 := 2#32
  let c0_i32_24 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_18 : BitVec 32 := 0#32
  let v52 : BitVec 1 := Scalar.cmpi .sgt v48 c0_i32_18
  let v53 : BitVec 32 := Scalar.extui v52
  let c0_i32_19 : BitVec 32 := 0#32
  let v54 : BitVec 1 := Scalar.cmpi .slt v48 c0_i32_19
  let v55 : BitVec 32 := Scalar.extui v54
  let v56 : BitVec 32 := Scalar.subi v53 v55
  let c2_i32 : BitVec 32 := 2#32
  let c0_i32_20 : BitVec 32 := 0#32
  let v57 : BitVec 1 := Scalar.cmpi .sgt c2_i32 c0_i32_20
  let v58 : BitVec 32 := Scalar.extui v57
  let c0_i32_21 : BitVec 32 := 0#32
  let v59 : BitVec 1 := Scalar.cmpi .slt c2_i32 c0_i32_21
  let v60 : BitVec 32 := Scalar.extui v59
  let v61 : BitVec 32 := Scalar.subi v58 v60
  let v62 : BitVec 1 := Scalar.cmpi .ne v56 v61
  let v63 : BitVec 32 := Scalar.remsi v48 c2_i32
  let c0_i32_22 : BitVec 32 := 0#32
  let v64 : BitVec 1 := Scalar.cmpi .ne v63 c0_i32_22
  let v65 : BitVec 1 := Scalar.andi v62 v64
  let v51 : BitVec 32 := Scalar.divsi v48 c2_i32
  let c1_i32_23 : BitVec 32 := 1#32
  let v66 : BitVec 32 := Scalar.subi v51 c1_i32_23
  let v67 : BitVec 32 := Scalar.select v65 v66 v51
  let v68 : BitVec 32 := Scalar.subi v67 c0_i32_24
  let c1_i32_25 : BitVec 32 := 1#32
  let v70 : BitVec 32 := Scalar.divsi v68 c1_i32_25
  let v71 : BitVec 32 := Scalar.muli v70 c1_i32_25
  let v72 : BitVec 32 := Scalar.addi c0_i32_24 v71
  let c1_i32_27 : BitVec 32 := 1#32
  let arg11 : BitVec 32 := Scf.iv v72 c1_i32_27 k0_t2
  let v149 : BitVec 32 := Scalar.muli c2_i32_58 arg11
  let v172 : Index := Scalar.indexCast v149
  let c0_67 : Index := 0#32
  let c0_68 : Index := 0#32
  ![v172.toNat, 0, 0]
def k0_mult4 (i : grid0.Coords) (k0_t2 : Fin (k0_t2_loop i).trips) : BitVec 32 :=
  let c2_i32_72 : BitVec 32 := 2#32
  let c0_i32_24 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_18 : BitVec 32 := 0#32
  let v52 : BitVec 1 := Scalar.cmpi .sgt v48 c0_i32_18
  let v53 : BitVec 32 := Scalar.extui v52
  let c0_i32_19 : BitVec 32 := 0#32
  let v54 : BitVec 1 := Scalar.cmpi .slt v48 c0_i32_19
  let v55 : BitVec 32 := Scalar.extui v54
  let v56 : BitVec 32 := Scalar.subi v53 v55
  let c2_i32 : BitVec 32 := 2#32
  let c0_i32_20 : BitVec 32 := 0#32
  let v57 : BitVec 1 := Scalar.cmpi .sgt c2_i32 c0_i32_20
  let v58 : BitVec 32 := Scalar.extui v57
  let c0_i32_21 : BitVec 32 := 0#32
  let v59 : BitVec 1 := Scalar.cmpi .slt c2_i32 c0_i32_21
  let v60 : BitVec 32 := Scalar.extui v59
  let v61 : BitVec 32 := Scalar.subi v58 v60
  let v62 : BitVec 1 := Scalar.cmpi .ne v56 v61
  let v63 : BitVec 32 := Scalar.remsi v48 c2_i32
  let c0_i32_22 : BitVec 32 := 0#32
  let v64 : BitVec 1 := Scalar.cmpi .ne v63 c0_i32_22
  let v65 : BitVec 1 := Scalar.andi v62 v64
  let v51 : BitVec 32 := Scalar.divsi v48 c2_i32
  let c1_i32_23 : BitVec 32 := 1#32
  let v66 : BitVec 32 := Scalar.subi v51 c1_i32_23
  let v67 : BitVec 32 := Scalar.select v65 v66 v51
  let v68 : BitVec 32 := Scalar.subi v67 c0_i32_24
  let c1_i32_25 : BitVec 32 := 1#32
  let v70 : BitVec 32 := Scalar.divsi v68 c1_i32_25
  let v71 : BitVec 32 := Scalar.muli v70 c1_i32_25
  let v72 : BitVec 32 := Scalar.addi c0_i32_24 v71
  let c1_i32_27 : BitVec 32 := 1#32
  let arg11 : BitVec 32 := Scf.iv v72 c1_i32_27 k0_t2
  let v181 : BitVec 32 := Scalar.muli c2_i32_72 arg11
  let c1_i32_73 : BitVec 32 := 1#32
  let v182 : BitVec 32 := Scalar.addi v181 c1_i32_73
  let c256_i32_74 : BitVec 32 := 256#32
  let v183 : BitVec 32 := Scalar.muli v182 c256_i32_74
  v183
def k0_off7 (i : grid0.Coords) (k0_t2 : Fin (k0_t2_loop i).trips) : Fin 2 → Nat :=
  let c2_i32_72 : BitVec 32 := 2#32
  let c0_i32_24 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_18 : BitVec 32 := 0#32
  let v52 : BitVec 1 := Scalar.cmpi .sgt v48 c0_i32_18
  let v53 : BitVec 32 := Scalar.extui v52
  let c0_i32_19 : BitVec 32 := 0#32
  let v54 : BitVec 1 := Scalar.cmpi .slt v48 c0_i32_19
  let v55 : BitVec 32 := Scalar.extui v54
  let v56 : BitVec 32 := Scalar.subi v53 v55
  let c2_i32 : BitVec 32 := 2#32
  let c0_i32_20 : BitVec 32 := 0#32
  let v57 : BitVec 1 := Scalar.cmpi .sgt c2_i32 c0_i32_20
  let v58 : BitVec 32 := Scalar.extui v57
  let c0_i32_21 : BitVec 32 := 0#32
  let v59 : BitVec 1 := Scalar.cmpi .slt c2_i32 c0_i32_21
  let v60 : BitVec 32 := Scalar.extui v59
  let v61 : BitVec 32 := Scalar.subi v58 v60
  let v62 : BitVec 1 := Scalar.cmpi .ne v56 v61
  let v63 : BitVec 32 := Scalar.remsi v48 c2_i32
  let c0_i32_22 : BitVec 32 := 0#32
  let v64 : BitVec 1 := Scalar.cmpi .ne v63 c0_i32_22
  let v65 : BitVec 1 := Scalar.andi v62 v64
  let v51 : BitVec 32 := Scalar.divsi v48 c2_i32
  let c1_i32_23 : BitVec 32 := 1#32
  let v66 : BitVec 32 := Scalar.subi v51 c1_i32_23
  let v67 : BitVec 32 := Scalar.select v65 v66 v51
  let v68 : BitVec 32 := Scalar.subi v67 c0_i32_24
  let c1_i32_25 : BitVec 32 := 1#32
  let v70 : BitVec 32 := Scalar.divsi v68 c1_i32_25
  let v71 : BitVec 32 := Scalar.muli v70 c1_i32_25
  let v72 : BitVec 32 := Scalar.addi c0_i32_24 v71
  let c1_i32_27 : BitVec 32 := 1#32
  let arg11 : BitVec 32 := Scf.iv v72 c1_i32_27 k0_t2
  let v181 : BitVec 32 := Scalar.muli c2_i32_72 arg11
  let c1_i32_73 : BitVec 32 := 1#32
  let v182 : BitVec 32 := Scalar.addi v181 c1_i32_73
  let c256_i32_74 : BitVec 32 := 256#32
  let v183 : BitVec 32 := Scalar.muli v182 c256_i32_74
  let v184 : BitVec 32 := v183
  let v185 : Index := Scalar.indexCast v184
  let c0_75 : Index := 0#32
  ![v185.toNat, 0]
def k0_off8 (i : grid0.Coords) (k0_t2 : Fin (k0_t2_loop i).trips) : Fin 3 → Nat :=
  let c2_i32_72 : BitVec 32 := 2#32
  let c0_i32_24 : BitVec 32 := 0#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_18 : BitVec 32 := 0#32
  let v52 : BitVec 1 := Scalar.cmpi .sgt v48 c0_i32_18
  let v53 : BitVec 32 := Scalar.extui v52
  let c0_i32_19 : BitVec 32 := 0#32
  let v54 : BitVec 1 := Scalar.cmpi .slt v48 c0_i32_19
  let v55 : BitVec 32 := Scalar.extui v54
  let v56 : BitVec 32 := Scalar.subi v53 v55
  let c2_i32 : BitVec 32 := 2#32
  let c0_i32_20 : BitVec 32 := 0#32
  let v57 : BitVec 1 := Scalar.cmpi .sgt c2_i32 c0_i32_20
  let v58 : BitVec 32 := Scalar.extui v57
  let c0_i32_21 : BitVec 32 := 0#32
  let v59 : BitVec 1 := Scalar.cmpi .slt c2_i32 c0_i32_21
  let v60 : BitVec 32 := Scalar.extui v59
  let v61 : BitVec 32 := Scalar.subi v58 v60
  let v62 : BitVec 1 := Scalar.cmpi .ne v56 v61
  let v63 : BitVec 32 := Scalar.remsi v48 c2_i32
  let c0_i32_22 : BitVec 32 := 0#32
  let v64 : BitVec 1 := Scalar.cmpi .ne v63 c0_i32_22
  let v65 : BitVec 1 := Scalar.andi v62 v64
  let v51 : BitVec 32 := Scalar.divsi v48 c2_i32
  let c1_i32_23 : BitVec 32 := 1#32
  let v66 : BitVec 32 := Scalar.subi v51 c1_i32_23
  let v67 : BitVec 32 := Scalar.select v65 v66 v51
  let v68 : BitVec 32 := Scalar.subi v67 c0_i32_24
  let c1_i32_25 : BitVec 32 := 1#32
  let v70 : BitVec 32 := Scalar.divsi v68 c1_i32_25
  let v71 : BitVec 32 := Scalar.muli v70 c1_i32_25
  let v72 : BitVec 32 := Scalar.addi c0_i32_24 v71
  let c1_i32_27 : BitVec 32 := 1#32
  let arg11 : BitVec 32 := Scf.iv v72 c1_i32_27 k0_t2
  let v181 : BitVec 32 := Scalar.muli c2_i32_72 arg11
  let c1_i32_73 : BitVec 32 := 1#32
  let v182 : BitVec 32 := Scalar.addi v181 c1_i32_73
  let v205 : Index := Scalar.indexCast v182
  let c0_82 : Index := 0#32
  let c0_83 : Index := 0#32
  ![v205.toNat, 0, 0]
@[reducible] def k0_t3_loop (i : grid0.Coords) : Scf.Loop 32 :=
  let c2_i32_35 : BitVec 32 := 2#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_29 : BitVec 32 := 0#32
  let v76 : BitVec 1 := Scalar.cmpi .sgt v48 c0_i32_29
  let v77 : BitVec 32 := Scalar.extui v76
  let c0_i32_30 : BitVec 32 := 0#32
  let v78 : BitVec 1 := Scalar.cmpi .slt v48 c0_i32_30
  let v79 : BitVec 32 := Scalar.extui v78
  let v80 : BitVec 32 := Scalar.subi v77 v79
  let c2_i32_28 : BitVec 32 := 2#32
  let c0_i32_31 : BitVec 32 := 0#32
  let v81 : BitVec 1 := Scalar.cmpi .sgt c2_i32_28 c0_i32_31
  let v82 : BitVec 32 := Scalar.extui v81
  let c0_i32_32 : BitVec 32 := 0#32
  let v83 : BitVec 1 := Scalar.cmpi .slt c2_i32_28 c0_i32_32
  let v84 : BitVec 32 := Scalar.extui v83
  let v85 : BitVec 32 := Scalar.subi v82 v84
  let v86 : BitVec 1 := Scalar.cmpi .ne v80 v85
  let v87 : BitVec 32 := Scalar.remsi v48 c2_i32_28
  let c0_i32_33 : BitVec 32 := 0#32
  let v88 : BitVec 1 := Scalar.cmpi .ne v87 c0_i32_33
  let v89 : BitVec 1 := Scalar.andi v86 v88
  let v75 : BitVec 32 := Scalar.divsi v48 c2_i32_28
  let c1_i32_34 : BitVec 32 := 1#32
  let v90 : BitVec 32 := Scalar.subi v75 c1_i32_34
  let v91 : BitVec 32 := Scalar.select v89 v90 v75
  let v92 : BitVec 32 := Scalar.muli c2_i32_35 v91
  let v93 : BitVec 32 := Scalar.subi v48 v92
  let c1_i32_36 : BitVec 32 := 1#32
  let v95 : BitVec 32 := Scalar.divsi v93 c1_i32_36
  let v96 : BitVec 32 := Scalar.muli v95 c1_i32_36
  let v97 : BitVec 32 := Scalar.addi v92 v96
  let c1_i32_37 : BitVec 32 := 1#32
  ⟨v92, v97, c1_i32_37⟩
def k0_mult5 (i : grid0.Coords) (k0_t3 : Fin (k0_t3_loop i).trips) : BitVec 32 :=
  let c2_i32_35 : BitVec 32 := 2#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_29 : BitVec 32 := 0#32
  let v76 : BitVec 1 := Scalar.cmpi .sgt v48 c0_i32_29
  let v77 : BitVec 32 := Scalar.extui v76
  let c0_i32_30 : BitVec 32 := 0#32
  let v78 : BitVec 1 := Scalar.cmpi .slt v48 c0_i32_30
  let v79 : BitVec 32 := Scalar.extui v78
  let v80 : BitVec 32 := Scalar.subi v77 v79
  let c2_i32_28 : BitVec 32 := 2#32
  let c0_i32_31 : BitVec 32 := 0#32
  let v81 : BitVec 1 := Scalar.cmpi .sgt c2_i32_28 c0_i32_31
  let v82 : BitVec 32 := Scalar.extui v81
  let c0_i32_32 : BitVec 32 := 0#32
  let v83 : BitVec 1 := Scalar.cmpi .slt c2_i32_28 c0_i32_32
  let v84 : BitVec 32 := Scalar.extui v83
  let v85 : BitVec 32 := Scalar.subi v82 v84
  let v86 : BitVec 1 := Scalar.cmpi .ne v80 v85
  let v87 : BitVec 32 := Scalar.remsi v48 c2_i32_28
  let c0_i32_33 : BitVec 32 := 0#32
  let v88 : BitVec 1 := Scalar.cmpi .ne v87 c0_i32_33
  let v89 : BitVec 1 := Scalar.andi v86 v88
  let v75 : BitVec 32 := Scalar.divsi v48 c2_i32_28
  let c1_i32_34 : BitVec 32 := 1#32
  let v90 : BitVec 32 := Scalar.subi v75 c1_i32_34
  let v91 : BitVec 32 := Scalar.select v89 v90 v75
  let v92 : BitVec 32 := Scalar.muli c2_i32_35 v91
  let c1_i32_37 : BitVec 32 := 1#32
  let arg11 : BitVec 32 := Scf.iv v92 c1_i32_37 k0_t3
  let c256_i32_58 : BitVec 32 := 256#32
  let v149 : BitVec 32 := Scalar.muli arg11 c256_i32_58
  v149
def k0_off9 (i : grid0.Coords) (k0_t3 : Fin (k0_t3_loop i).trips) : Fin 2 → Nat :=
  let c2_i32_35 : BitVec 32 := 2#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_29 : BitVec 32 := 0#32
  let v76 : BitVec 1 := Scalar.cmpi .sgt v48 c0_i32_29
  let v77 : BitVec 32 := Scalar.extui v76
  let c0_i32_30 : BitVec 32 := 0#32
  let v78 : BitVec 1 := Scalar.cmpi .slt v48 c0_i32_30
  let v79 : BitVec 32 := Scalar.extui v78
  let v80 : BitVec 32 := Scalar.subi v77 v79
  let c2_i32_28 : BitVec 32 := 2#32
  let c0_i32_31 : BitVec 32 := 0#32
  let v81 : BitVec 1 := Scalar.cmpi .sgt c2_i32_28 c0_i32_31
  let v82 : BitVec 32 := Scalar.extui v81
  let c0_i32_32 : BitVec 32 := 0#32
  let v83 : BitVec 1 := Scalar.cmpi .slt c2_i32_28 c0_i32_32
  let v84 : BitVec 32 := Scalar.extui v83
  let v85 : BitVec 32 := Scalar.subi v82 v84
  let v86 : BitVec 1 := Scalar.cmpi .ne v80 v85
  let v87 : BitVec 32 := Scalar.remsi v48 c2_i32_28
  let c0_i32_33 : BitVec 32 := 0#32
  let v88 : BitVec 1 := Scalar.cmpi .ne v87 c0_i32_33
  let v89 : BitVec 1 := Scalar.andi v86 v88
  let v75 : BitVec 32 := Scalar.divsi v48 c2_i32_28
  let c1_i32_34 : BitVec 32 := 1#32
  let v90 : BitVec 32 := Scalar.subi v75 c1_i32_34
  let v91 : BitVec 32 := Scalar.select v89 v90 v75
  let v92 : BitVec 32 := Scalar.muli c2_i32_35 v91
  let c1_i32_37 : BitVec 32 := 1#32
  let arg11 : BitVec 32 := Scf.iv v92 c1_i32_37 k0_t3
  let c256_i32_58 : BitVec 32 := 256#32
  let v149 : BitVec 32 := Scalar.muli arg11 c256_i32_58
  let v150 : BitVec 32 := v149
  let v151 : Index := Scalar.indexCast v150
  let c0_59 : Index := 0#32
  ![v151.toNat, 0]
def k0_off10 (i : grid0.Coords) (k0_t3 : Fin (k0_t3_loop i).trips) : Fin 3 → Nat :=
  let c2_i32_35 : BitVec 32 := 2#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_29 : BitVec 32 := 0#32
  let v76 : BitVec 1 := Scalar.cmpi .sgt v48 c0_i32_29
  let v77 : BitVec 32 := Scalar.extui v76
  let c0_i32_30 : BitVec 32 := 0#32
  let v78 : BitVec 1 := Scalar.cmpi .slt v48 c0_i32_30
  let v79 : BitVec 32 := Scalar.extui v78
  let v80 : BitVec 32 := Scalar.subi v77 v79
  let c2_i32_28 : BitVec 32 := 2#32
  let c0_i32_31 : BitVec 32 := 0#32
  let v81 : BitVec 1 := Scalar.cmpi .sgt c2_i32_28 c0_i32_31
  let v82 : BitVec 32 := Scalar.extui v81
  let c0_i32_32 : BitVec 32 := 0#32
  let v83 : BitVec 1 := Scalar.cmpi .slt c2_i32_28 c0_i32_32
  let v84 : BitVec 32 := Scalar.extui v83
  let v85 : BitVec 32 := Scalar.subi v82 v84
  let v86 : BitVec 1 := Scalar.cmpi .ne v80 v85
  let v87 : BitVec 32 := Scalar.remsi v48 c2_i32_28
  let c0_i32_33 : BitVec 32 := 0#32
  let v88 : BitVec 1 := Scalar.cmpi .ne v87 c0_i32_33
  let v89 : BitVec 1 := Scalar.andi v86 v88
  let v75 : BitVec 32 := Scalar.divsi v48 c2_i32_28
  let c1_i32_34 : BitVec 32 := 1#32
  let v90 : BitVec 32 := Scalar.subi v75 c1_i32_34
  let v91 : BitVec 32 := Scalar.select v89 v90 v75
  let v92 : BitVec 32 := Scalar.muli c2_i32_35 v91
  let c1_i32_37 : BitVec 32 := 1#32
  let arg11 : BitVec 32 := Scf.iv v92 c1_i32_37 k0_t3
  let v171 : Index := Scalar.indexCast arg11
  let c0_66 : Index := 0#32
  let c0_67 : Index := 0#32
  ![v171.toNat, 0, 0]
@[reducible] def k0_t4_loop (i : grid0.Coords) : Scf.Loop 32 :=
  let c2_i32_35 : BitVec 32 := 2#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_29 : BitVec 32 := 0#32
  let v76 : BitVec 1 := Scalar.cmpi .sgt v48 c0_i32_29
  let v77 : BitVec 32 := Scalar.extui v76
  let c0_i32_30 : BitVec 32 := 0#32
  let v78 : BitVec 1 := Scalar.cmpi .slt v48 c0_i32_30
  let v79 : BitVec 32 := Scalar.extui v78
  let v80 : BitVec 32 := Scalar.subi v77 v79
  let c2_i32_28 : BitVec 32 := 2#32
  let c0_i32_31 : BitVec 32 := 0#32
  let v81 : BitVec 1 := Scalar.cmpi .sgt c2_i32_28 c0_i32_31
  let v82 : BitVec 32 := Scalar.extui v81
  let c0_i32_32 : BitVec 32 := 0#32
  let v83 : BitVec 1 := Scalar.cmpi .slt c2_i32_28 c0_i32_32
  let v84 : BitVec 32 := Scalar.extui v83
  let v85 : BitVec 32 := Scalar.subi v82 v84
  let v86 : BitVec 1 := Scalar.cmpi .ne v80 v85
  let v87 : BitVec 32 := Scalar.remsi v48 c2_i32_28
  let c0_i32_33 : BitVec 32 := 0#32
  let v88 : BitVec 1 := Scalar.cmpi .ne v87 c0_i32_33
  let v89 : BitVec 1 := Scalar.andi v86 v88
  let v75 : BitVec 32 := Scalar.divsi v48 c2_i32_28
  let c1_i32_34 : BitVec 32 := 1#32
  let v90 : BitVec 32 := Scalar.subi v75 c1_i32_34
  let v91 : BitVec 32 := Scalar.select v89 v90 v75
  let v92 : BitVec 32 := Scalar.muli c2_i32_35 v91
  let v93 : BitVec 32 := Scalar.subi v48 v92
  let c1_i32_36 : BitVec 32 := 1#32
  let v95 : BitVec 32 := Scalar.divsi v93 c1_i32_36
  let v96 : BitVec 32 := Scalar.muli v95 c1_i32_36
  let v97 : BitVec 32 := Scalar.addi v92 v96
  let v94 : BitVec 32 := Scalar.addi v92 v93
  let c1_i32_38 : BitVec 32 := 1#32
  ⟨v97, v94, c1_i32_38⟩
def k0_mult6 (i : grid0.Coords) (k0_t4 : Fin (k0_t4_loop i).trips) : BitVec 32 :=
  let c2_i32_35 : BitVec 32 := 2#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_29 : BitVec 32 := 0#32
  let v76 : BitVec 1 := Scalar.cmpi .sgt v48 c0_i32_29
  let v77 : BitVec 32 := Scalar.extui v76
  let c0_i32_30 : BitVec 32 := 0#32
  let v78 : BitVec 1 := Scalar.cmpi .slt v48 c0_i32_30
  let v79 : BitVec 32 := Scalar.extui v78
  let v80 : BitVec 32 := Scalar.subi v77 v79
  let c2_i32_28 : BitVec 32 := 2#32
  let c0_i32_31 : BitVec 32 := 0#32
  let v81 : BitVec 1 := Scalar.cmpi .sgt c2_i32_28 c0_i32_31
  let v82 : BitVec 32 := Scalar.extui v81
  let c0_i32_32 : BitVec 32 := 0#32
  let v83 : BitVec 1 := Scalar.cmpi .slt c2_i32_28 c0_i32_32
  let v84 : BitVec 32 := Scalar.extui v83
  let v85 : BitVec 32 := Scalar.subi v82 v84
  let v86 : BitVec 1 := Scalar.cmpi .ne v80 v85
  let v87 : BitVec 32 := Scalar.remsi v48 c2_i32_28
  let c0_i32_33 : BitVec 32 := 0#32
  let v88 : BitVec 1 := Scalar.cmpi .ne v87 c0_i32_33
  let v89 : BitVec 1 := Scalar.andi v86 v88
  let v75 : BitVec 32 := Scalar.divsi v48 c2_i32_28
  let c1_i32_34 : BitVec 32 := 1#32
  let v90 : BitVec 32 := Scalar.subi v75 c1_i32_34
  let v91 : BitVec 32 := Scalar.select v89 v90 v75
  let v92 : BitVec 32 := Scalar.muli c2_i32_35 v91
  let v93 : BitVec 32 := Scalar.subi v48 v92
  let c1_i32_36 : BitVec 32 := 1#32
  let v95 : BitVec 32 := Scalar.divsi v93 c1_i32_36
  let v96 : BitVec 32 := Scalar.muli v95 c1_i32_36
  let v97 : BitVec 32 := Scalar.addi v92 v96
  let c1_i32_38 : BitVec 32 := 1#32
  let arg11 : BitVec 32 := Scf.iv v97 c1_i32_38 k0_t4
  let c256_i32_58 : BitVec 32 := 256#32
  let v149 : BitVec 32 := Scalar.muli arg11 c256_i32_58
  v149
def k0_off11 (i : grid0.Coords) (k0_t4 : Fin (k0_t4_loop i).trips) : Fin 2 → Nat :=
  let c2_i32_35 : BitVec 32 := 2#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_29 : BitVec 32 := 0#32
  let v76 : BitVec 1 := Scalar.cmpi .sgt v48 c0_i32_29
  let v77 : BitVec 32 := Scalar.extui v76
  let c0_i32_30 : BitVec 32 := 0#32
  let v78 : BitVec 1 := Scalar.cmpi .slt v48 c0_i32_30
  let v79 : BitVec 32 := Scalar.extui v78
  let v80 : BitVec 32 := Scalar.subi v77 v79
  let c2_i32_28 : BitVec 32 := 2#32
  let c0_i32_31 : BitVec 32 := 0#32
  let v81 : BitVec 1 := Scalar.cmpi .sgt c2_i32_28 c0_i32_31
  let v82 : BitVec 32 := Scalar.extui v81
  let c0_i32_32 : BitVec 32 := 0#32
  let v83 : BitVec 1 := Scalar.cmpi .slt c2_i32_28 c0_i32_32
  let v84 : BitVec 32 := Scalar.extui v83
  let v85 : BitVec 32 := Scalar.subi v82 v84
  let v86 : BitVec 1 := Scalar.cmpi .ne v80 v85
  let v87 : BitVec 32 := Scalar.remsi v48 c2_i32_28
  let c0_i32_33 : BitVec 32 := 0#32
  let v88 : BitVec 1 := Scalar.cmpi .ne v87 c0_i32_33
  let v89 : BitVec 1 := Scalar.andi v86 v88
  let v75 : BitVec 32 := Scalar.divsi v48 c2_i32_28
  let c1_i32_34 : BitVec 32 := 1#32
  let v90 : BitVec 32 := Scalar.subi v75 c1_i32_34
  let v91 : BitVec 32 := Scalar.select v89 v90 v75
  let v92 : BitVec 32 := Scalar.muli c2_i32_35 v91
  let v93 : BitVec 32 := Scalar.subi v48 v92
  let c1_i32_36 : BitVec 32 := 1#32
  let v95 : BitVec 32 := Scalar.divsi v93 c1_i32_36
  let v96 : BitVec 32 := Scalar.muli v95 c1_i32_36
  let v97 : BitVec 32 := Scalar.addi v92 v96
  let c1_i32_38 : BitVec 32 := 1#32
  let arg11 : BitVec 32 := Scf.iv v97 c1_i32_38 k0_t4
  let c256_i32_58 : BitVec 32 := 256#32
  let v149 : BitVec 32 := Scalar.muli arg11 c256_i32_58
  let v150 : BitVec 32 := v149
  let v151 : Index := Scalar.indexCast v150
  let c0_59 : Index := 0#32
  ![v151.toNat, 0]
def k0_off12 (i : grid0.Coords) (k0_t4 : Fin (k0_t4_loop i).trips) : Fin 3 → Nat :=
  let c2_i32_35 : BitVec 32 := 2#32
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c0_i32_29 : BitVec 32 := 0#32
  let v76 : BitVec 1 := Scalar.cmpi .sgt v48 c0_i32_29
  let v77 : BitVec 32 := Scalar.extui v76
  let c0_i32_30 : BitVec 32 := 0#32
  let v78 : BitVec 1 := Scalar.cmpi .slt v48 c0_i32_30
  let v79 : BitVec 32 := Scalar.extui v78
  let v80 : BitVec 32 := Scalar.subi v77 v79
  let c2_i32_28 : BitVec 32 := 2#32
  let c0_i32_31 : BitVec 32 := 0#32
  let v81 : BitVec 1 := Scalar.cmpi .sgt c2_i32_28 c0_i32_31
  let v82 : BitVec 32 := Scalar.extui v81
  let c0_i32_32 : BitVec 32 := 0#32
  let v83 : BitVec 1 := Scalar.cmpi .slt c2_i32_28 c0_i32_32
  let v84 : BitVec 32 := Scalar.extui v83
  let v85 : BitVec 32 := Scalar.subi v82 v84
  let v86 : BitVec 1 := Scalar.cmpi .ne v80 v85
  let v87 : BitVec 32 := Scalar.remsi v48 c2_i32_28
  let c0_i32_33 : BitVec 32 := 0#32
  let v88 : BitVec 1 := Scalar.cmpi .ne v87 c0_i32_33
  let v89 : BitVec 1 := Scalar.andi v86 v88
  let v75 : BitVec 32 := Scalar.divsi v48 c2_i32_28
  let c1_i32_34 : BitVec 32 := 1#32
  let v90 : BitVec 32 := Scalar.subi v75 c1_i32_34
  let v91 : BitVec 32 := Scalar.select v89 v90 v75
  let v92 : BitVec 32 := Scalar.muli c2_i32_35 v91
  let v93 : BitVec 32 := Scalar.subi v48 v92
  let c1_i32_36 : BitVec 32 := 1#32
  let v95 : BitVec 32 := Scalar.divsi v93 c1_i32_36
  let v96 : BitVec 32 := Scalar.muli v95 c1_i32_36
  let v97 : BitVec 32 := Scalar.addi v92 v96
  let c1_i32_38 : BitVec 32 := 1#32
  let arg11 : BitVec 32 := Scf.iv v97 c1_i32_38 k0_t4
  let v171 : Index := Scalar.indexCast arg11
  let c0_66 : Index := 0#32
  let c0_67 : Index := 0#32
  ![v171.toNat, 0, 0]
def k0_mult7 (i : grid0.Coords) : BitVec 32 :=
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c256_i32_39 : BitVec 32 := 256#32
  let v100 : BitVec 32 := Scalar.muli v48 c256_i32_39
  v100
def k0_off13 (i : grid0.Coords) : Fin 2 → Nat :=
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let c256_i32_39 : BitVec 32 := 256#32
  let v100 : BitVec 32 := Scalar.muli v48 c256_i32_39
  let v101 : BitVec 32 := v100
  let v102 : Index := Scalar.indexCast v101
  let c0_40 : Index := 0#32
  ![v102.toNat, 0]
def k0_off14 (i : grid0.Coords) : Fin 3 → Nat :=
  let arg2 : BitVec 32 := BitVec.ofNat 32 (i 2).val
  let c256_i32 : BitVec 32 := 256#32
  let v0 : BitVec 32 := Scalar.muli arg2 c256_i32
  let c256_i32_8 : BitVec 32 := 256#32
  let v30 : BitVec 32 := Scalar.addi v0 c256_i32_8
  let c1_i32 : BitVec 32 := 1#32
  let v31 : BitVec 32 := Scalar.subi v30 c1_i32
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c256_i32_9 : BitVec 32 := 256#32
  let c0_i32_12 : BitVec 32 := 0#32
  let v38 : BitVec 1 := Scalar.cmpi .sgt c256_i32_9 c0_i32_12
  let v39 : BitVec 32 := Scalar.extui v38
  let c0_i32_13 : BitVec 32 := 0#32
  let v40 : BitVec 1 := Scalar.cmpi .slt c256_i32_9 c0_i32_13
  let v41 : BitVec 32 := Scalar.extui v40
  let v42 : BitVec 32 := Scalar.subi v39 v41
  let v43 : BitVec 1 := Scalar.cmpi .ne v37 v42
  let v44 : BitVec 32 := Scalar.remsi v31 c256_i32_9
  let c0_i32_14 : BitVec 32 := 0#32
  let v45 : BitVec 1 := Scalar.cmpi .ne v44 c0_i32_14
  let v46 : BitVec 1 := Scalar.andi v43 v45
  let v32 : BitVec 32 := Scalar.divsi v31 c256_i32_9
  let c1_i32_15 : BitVec 32 := 1#32
  let v47 : BitVec 32 := Scalar.subi v32 c1_i32_15
  let v48 : BitVec 32 := Scalar.select v46 v47 v32
  let v127 : Index := Scalar.indexCast v48
  let c0_48 : Index := 0#32
  let c0_49 : Index := 0#32
  ![v127.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel5Ideal.lean ====
variable {F : FTy → Type} [FloatOps F] [Named F]
def κ : String → Option EReal := fun
  | "mask" => some ⊥
  | "s" => some (((Real.sqrt 128)⁻¹ : ℝ) : EReal)
  | _ => none
-- ==== Reference5Ideal.lean ====
abbrev S8192x11520 : Shape := ⟨2, ![8192, 11520]⟩
abbrev S2x4x4096x128 : Shape := ⟨4, ![2, 4, 4096, 128]⟩
abbrev S8192x2048 : Shape := ⟨2, ![8192, 2048]⟩
abbrev S2x4096x4x4x128 : Shape := ⟨5, ![2, 4096, 4, 4, 128]⟩
abbrev S8192x512 : Shape := ⟨2, ![8192, 512]⟩
abbrev S2x4096x4x128 : Shape := ⟨4, ![2, 4096, 4, 128]⟩
abbrev S4096 : Shape := ⟨1, ![4096]⟩
abbrev S2x4x4096x64 : Shape := ⟨4, ![2, 4, 4096, 64]⟩
abbrev S2x4x4096x64x64 : Shape := ⟨5, ![2, 4, 4096, 64, 64]⟩
abbrev S2x4x4096x4096 : Shape := ⟨4, ![2, 4, 4096, 4096]⟩
abbrev S2x4x4096x4096x4 : Shape := ⟨5, ![2, 4, 4096, 4096, 4]⟩
abbrev S2x4x4x4096x4096 : Shape := ⟨5, ![2, 4, 4, 4096, 4096]⟩
abbrev S2x4x1x4096x4096 : Shape := ⟨5, ![2, 4, 1, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x4x4x4096 : Shape := ⟨4, ![2, 4, 4, 4096]⟩
abbrev S2x4x4x4096x1 : Shape := ⟨5, ![2, 4, 4, 4096, 1]⟩
abbrev S2x4x128x4x4096 : Shape := ⟨5, ![2, 4, 128, 4, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8192x11520, .f32⟩
  | .hbm, ⟨1, _⟩ => ⟨S2x4x4096x128, .bf16⟩
  | .hbm, ⟨2, _⟩ => ⟨S8192x2048, .f32⟩
  | .hbm, ⟨3, _⟩ => ⟨S2x4096x4x4x128, .f32⟩
  | .hbm, ⟨4, _⟩ => ⟨S8192x512, .f32⟩
  | .hbm, ⟨5, _⟩ => ⟨S2x4096x4x128, .f32⟩
  | .hbm, ⟨6, _⟩ => ⟨S8192x512, .f32⟩
  | .hbm, ⟨7, _⟩ => ⟨S2x4096x4x128, .f32⟩
  | .hbm, ⟨8, _⟩ => ⟨S4096, .i32⟩
  | .hbm, ⟨9, _⟩ => ⟨S2x4x4096x128, .f32⟩
  | .hbm, ⟨10, _⟩ => ⟨S2x4x4096x64, .f32⟩
  | .hbm, ⟨11, _⟩ => ⟨S2x4x4096x64x64, .f32⟩
  | .hbm, ⟨12, _⟩ => ⟨S2x4x4096x4096, .f32⟩
  | .hbm, ⟨13, _⟩ => ⟨S2x4x4096x4096x4, .f32⟩
  | .hbm, ⟨14, _⟩ => ⟨S2x4x4x4096x4096, .f32⟩
  | .hbm, ⟨15, _⟩ => ⟨S2x4x1x4096x4096, .f32⟩
  | .hbm, ⟨16, _⟩ => ⟨S2x4x4x4096x4096, .f32⟩
  | .hbm, ⟨17, _⟩ => ⟨S2x4x4x4096x4096, .f32⟩
  | .hbm, ⟨18, _⟩ => ⟨S_, .f32⟩
  | .hbm, ⟨19, _⟩ => ⟨S_, .f32⟩
  | .hbm, ⟨20, _⟩ => ⟨S2x4x4x4096x4096, .f32⟩
  | .hbm, ⟨21, _⟩ => ⟨S2x4x4x4096x4096, .f32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S2x4x4x4096x4096, .i1⟩
  | .hbm, ⟨30, _⟩ => ⟨S2x4x4x4096x4096, .f32⟩
  | .hbm, ⟨31, _⟩ => ⟨S2x4x4x4096x4096, .f32⟩
  | .hbm, ⟨32, _⟩ => ⟨S_, .f32⟩
  | .hbm, ⟨33, _⟩ => ⟨S2x4x4x4096, .f32⟩
  | .hbm, ⟨34, _⟩ => ⟨S2x4x4x4096x1, .f32⟩
  | .hbm, ⟨35, _⟩ => ⟨S2x4x4x4096x4096, .f32⟩
  | .hbm, ⟨36, _⟩ => ⟨S2x4x4x4096x4096, .f32⟩
  | .hbm, ⟨37, _⟩ => ⟨S2x4x4x4096x4096, .f32⟩
  | .hbm, ⟨38, _⟩ => ⟨S_, .f32⟩
  | .hbm, ⟨39, _⟩ => ⟨S_, .f32⟩
  | .hbm, ⟨40, _⟩ => ⟨S2x4x4x4096x4096, .i1⟩
  | .hbm, ⟨41, _⟩ => ⟨S2x4x4x4096x4096, .f32⟩
  | .hbm, ⟨42, _⟩ => ⟨S2x4x4x4096x4096, .f32⟩
  | .hbm, ⟨43, _⟩ => ⟨S_, .f32⟩
  | .hbm, ⟨44, _⟩ => ⟨S2x4x4x4096, .f32⟩
  | .hbm, ⟨45, _⟩ => ⟨S2x4x4x4096x1, .f32⟩
  | .hbm, ⟨46, _⟩ => ⟨S_, .f32⟩
  | .hbm, ⟨47, _⟩ => ⟨S2x4x4x4096x1, .f32⟩
  | .hbm, ⟨48, _⟩ => ⟨S2x4x4x4096x1, .f32⟩
  | .hbm, ⟨49, _⟩ => ⟨S2x4x4x4096x4096, .f32⟩
  | .hbm, ⟨50, _⟩ => ⟨S2x4x4x4096x4096, .f32⟩
  | .hbm, ⟨51, _⟩ => ⟨S2x4x128x4x4096, .f32⟩
  | .hbm, ⟨52, _⟩ => ⟨S2x4096x4x4x128, .f32⟩
  | .hbm, ⟨53, _⟩ => ⟨S8192x2048, .f32⟩
  | .hbm, ⟨54, _⟩ => ⟨S8192x2048, .bf16⟩
  | _, _ => ⟨S8192x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S32x8x2048 : Shape := ⟨3, ![32, 8, 2048]⟩
abbrev S1x2048 : Shape := ⟨2, ![1, 2048]⟩
abbrev S1x2048x11312 : Shape := ⟨3, ![1, 2048, 11312]⟩
abbrev S256x2048 : Shape := ⟨2, ![256, 2048]⟩
abbrev S2048 : Shape := ⟨1, ![2048]⟩
abbrev S2048x11312 : Shape := ⟨2, ![2048, 11312]⟩
abbrev S2048x5120 : Shape := ⟨2, ![2048, 5120]⟩
abbrev S2048x6144 : Shape := ⟨2, ![2048, 6144]⟩
abbrev S2048x48 : Shape := ⟨2, ![2048, 48]⟩
abbrev S_ : Shape := ⟨0, ![]⟩
abbrev S2048x208 : Shape := ⟨2, ![2048, 208]⟩
abbrev S2048x11520 : Shape := ⟨2, ![2048, 11520]⟩
abbrev S256x11520 : Shape := ⟨2, ![256, 11520]⟩
abbrev S2048x768 : Shape := ⟨2, ![2048, 768]⟩
abbrev S256x768 : Shape := ⟨2, ![256, 768]⟩
abbrev S256 : Shape := ⟨1, ![256]⟩
abbrev S256x1 : Shape := ⟨2, ![256, 1]⟩
abbrev S256x512 : Shape := ⟨2, ![256, 512]⟩
abbrev S32x8x4x128 : Shape := ⟨4, ![32, 8, 4, 128]⟩
abbrev S1x32x8x4x128 : Shape := ⟨5, ![1, 32, 8, 4, 128]⟩

abbrev nBuf : Space → Nat
  | .hbm => 27
  | .vmem => 7
  | .smem => 0
  | _ => 0

abbrev bufTy : (tb : Table) → Fin (tcTables nBuf tb) → BufTy
  | .hbm, ⟨0, _⟩ => ⟨S32x8x2048, .f32⟩
  | .hbm, ⟨1, _⟩ => ⟨S1x2048, .f32⟩
  | .hbm, ⟨2, _⟩ => ⟨S1x2048x11312, .f32⟩
  | .hbm, ⟨3, _⟩ => ⟨S256x2048, .f32⟩
  | .hbm, ⟨4, _⟩ => ⟨S2048, .f32⟩
  | .hbm, ⟨5, _⟩ => ⟨S2048x11312, .f32⟩
  | .hbm, ⟨6, _⟩ => ⟨S2048x5120, .f32⟩
  | .hbm, ⟨7, _⟩ => ⟨S2048x6144, .f32⟩
  | .hbm, ⟨8, _⟩ => ⟨S2048x48, .f32⟩
  | .hbm, ⟨9, _⟩ => ⟨S_, .f32⟩
  | .hbm, ⟨10, _⟩ => ⟨S2048x208, .f32⟩
  | .hbm, ⟨11, _⟩ => ⟨S2048x11520, .f32⟩
  | .hbm, ⟨12, _⟩ => ⟨S2048x11520, .bf16⟩
  | .hbm, ⟨13, _⟩ => ⟨S1x2048, .f32⟩
  | .hbm, ⟨14, _⟩ => ⟨S256x11520, .f32⟩
  | .hbm, ⟨15, _⟩ => ⟨S256x512, .f32⟩
  | .hbm, ⟨16, _⟩ => ⟨S32x8x4x128, .f32⟩
  | .hbm, ⟨17, _⟩ => ⟨S256x512, .f32⟩
  | .hbm, ⟨18, _⟩ => ⟨S32x8x4x128, .f32⟩
  | .hbm, ⟨19, _⟩ => ⟨S256x512, .f32⟩
  | .hbm, ⟨20, _⟩ => ⟨S32x8x4x128, .f32⟩
  | .hbm, ⟨21, _⟩ => ⟨S256x512, .f32⟩
  | .hbm, ⟨22, _⟩ => ⟨S32x8x4x128, .f32⟩
  | .hbm, ⟨23, _⟩ => ⟨S1x32x8x4x128, .f32⟩
  | .hbm, ⟨24, _⟩ => ⟨S1x32x8x4x128, .f32⟩
  | .hbm, ⟨25, _⟩ => ⟨S1x32x8x4x128, .f32⟩
  | .hbm, ⟨26, _⟩ => ⟨S1x32x8x4x128, .f32⟩
  | .local _ .vmem, ⟨0, _⟩ => ⟨S256x2048, .f32⟩
  | .local _ .vmem, ⟨1, _⟩ => ⟨S1x2048, .f32⟩
  | .local _ .vmem, ⟨2, _⟩ => ⟨S2048x768, .bf16⟩
  | .local _ .vmem, ⟨3, _⟩ => ⟨S2048x768, .bf16⟩
  | .local _ .vmem, ⟨4, _⟩ => ⟨S256x768, .f32⟩
  | .local _ .vmem, ⟨5, _⟩ => ⟨S256x768, .f32⟩
  | .local _ .vmem, ⟨6, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32x8x2048 : Shape := ⟨3, ![32, 8, 2048]⟩
abbrev S1x2048 : Shape := ⟨2, ![1, 2048]⟩
abbrev S1x2048x11312 : Shape := ⟨3, ![1, 2048, 11312]⟩
abbrev S2048 : Shape := ⟨1, ![2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S2048x11312 : Shape := ⟨2, ![2048, 11312]⟩
abbrev S32x8x11312 : Shape := ⟨3, ![32, 8, 11312]⟩
abbrev S32x8x512 : Shape := ⟨3, ![32, 8, 512]⟩
abbrev S32x8x4x128 : Shape := ⟨4, ![32, 8, 4, 128]⟩
abbrev S32x8x208 : Shape := ⟨3, ![32, 8, 208]⟩
abbrev S32x8x5120 : Shape := ⟨3, ![32, 8, 5120]⟩
abbrev S32x8x6144 : Shape := ⟨3, ![32, 8, 6144]⟩
abbrev S32x8x48 : Shape := ⟨3, ![32, 8, 48]⟩
abbrev S32x8x11520 : Shape := ⟨3, ![32, 8, 11520]⟩
abbrev S256x11520 : Shape := ⟨2, ![256, 11520]⟩
abbrev S1x32x8x4x128 : Shape := ⟨5, ![1, 32, 8, 4, 128]⟩

abbrev nBuf : Space → Nat
  | .hbm => 41
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S1x2048, .f32⟩
  | .hbm, ⟨2, _⟩ => ⟨S1x2048x11312, .f32⟩
  | .hbm, ⟨3, _⟩ => ⟨S2048, .f32⟩
  | .hbm, ⟨4, _⟩ => ⟨S32x8x2048, .f32⟩
  | .hbm, ⟨5, _⟩ => ⟨S_, .f32⟩
  | .hbm, ⟨6, _⟩ => ⟨S32x8, .f32⟩
  | .hbm, ⟨7, _⟩ => ⟨S32x8x1, .f32⟩
  | .hbm, ⟨8, _⟩ => ⟨S_, .f32⟩
  | .hbm, ⟨9, _⟩ => ⟨S32x8x1, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S32x8x1, .f32⟩
  | .hbm, ⟨15, _⟩ => ⟨S32x8x2048, .f32⟩
  | .hbm, ⟨16, _⟩ => ⟨S32x8x2048, .f32⟩
  | .hbm, ⟨17, _⟩ => ⟨S1x1x2048, .f32⟩
  | .hbm, ⟨18, _⟩ => ⟨S32x8x2048, .f32⟩
  | .hbm, ⟨19, _⟩ => ⟨S32x8x2048, .f32⟩
  | .hbm, ⟨20, _⟩ => ⟨S2048x11312, .f32⟩
  | .hbm, ⟨21, _⟩ => ⟨S32x8x11312, .f32⟩
  | .hbm, ⟨22, _⟩ => ⟨S32x8x512, .f32⟩
  | .hbm, ⟨23, _⟩ => ⟨S32x8x4x128, .f32⟩
  | .hbm, ⟨24, _⟩ => ⟨S32x8x512, .f32⟩
  | .hbm, ⟨25, _⟩ => ⟨S32x8x4x128, .f32⟩
  | .hbm, ⟨26, _⟩ => ⟨S32x8x512, .f32⟩
  | .hbm, ⟨27, _⟩ => ⟨S32x8x4x128, .f32⟩
  | .hbm, ⟨28, _⟩ => ⟨S32x8x512, .f32⟩
  | .hbm, ⟨29, _⟩ => ⟨S32x8x4x128, .f32⟩
  | .hbm, ⟨30, _⟩ => ⟨S_, .f32⟩
  | .hbm, ⟨31, _⟩ => ⟨S32x8x208, .f32⟩
  | .hbm, ⟨32, _⟩ => ⟨S32x8x5120, .f32⟩
  | .hbm, ⟨33, _⟩ => ⟨S32x8x6144, .f32⟩
  | .hbm, ⟨34, _⟩ => ⟨S32x8x48, .f32⟩
  | .hbm, ⟨35, _⟩ => ⟨S32x8x11520, .f32⟩
  | .hbm, ⟨36, _⟩ => ⟨S256x11520, .f32⟩
  | .hbm, ⟨37, _⟩ => ⟨S1x32x8x4x128, .f32⟩
  | .hbm, ⟨38, _⟩ => ⟨S1x32x8x4x128, .f32⟩
  | .hbm, ⟨39, _⟩ => ⟨S1x32x8x4x128, .f32⟩
  | .hbm, ⟨40, _⟩ => ⟨S1x32x8x4x128, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel7.lean ====
abbrev S256x11520 : Shape := ⟨2, ![256, 11520]⟩
abbrev S1x32x512x4x128 : Shape := ⟨5, ![1, 32, 512, 4, 128]⟩
abbrev S32x512x4x128 : Shape := ⟨4, ![32, 512, 4, 128]⟩
abbrev S65536x128 : Shape := ⟨2, ![65536, 128]⟩
abbrev S256x512 : Shape := ⟨2, ![256, 512]⟩
abbrev S32x32x128 : Shape := ⟨3, ![32, 32, 128]⟩
abbrev S_ : Shape := ⟨0, ![]⟩
abbrev S32x512x128 : Shape := ⟨3, ![32, 512, 128]⟩
abbrev S16384x128 : Shape := ⟨2, ![16384, 128]⟩
abbrev S256x2048 : Shape := ⟨2, ![256, 2048]⟩
abbrev S8x2048 : Shape := ⟨2, ![8, 2048]⟩
abbrev S2048x128 : Shape := ⟨2, ![2048, 128]⟩
abbrev S512x128 : Shape := ⟨2, ![512, 128]⟩
abbrev S8x128 : Shape := ⟨2, ![8, 128]⟩
abbrev S128x128 : Shape := ⟨2, ![128, 128]⟩
abbrev S128x1 : Shape := ⟨2, ![128, 1]⟩
abbrev S640x128 : Shape := ⟨2, ![640, 128]⟩
abbrev S128x640 : Shape := ⟨2, ![128, 640]⟩
abbrev S128 : Shape := ⟨1, ![128]⟩
abbrev S2016x128 : Shape := ⟨2, ![2016, 128]⟩
abbrev S32x128 : Shape := ⟨2, ![32, 128]⟩

abbrev nBuf : Space → Nat
  | .hbm => 26
  | .vmem => 16
  | .smem => 0
  | _ => 0

abbrev bufTy : (tb : Table) → Fin (tcTables nBuf tb) → BufTy
  | .hbm, ⟨0, _⟩ => ⟨S256x11520, .f32⟩
  | .hbm, ⟨1, _⟩ => ⟨S1x32x512x4x128, .f32⟩
  | .hbm, ⟨2, _⟩ => ⟨S1x32x512x4x128, .f32⟩
  | .hbm, ⟨3, _⟩ => ⟨S32x512x4x128, .f32⟩
  | .hbm, ⟨4, _⟩ => ⟨S65536x128, .f32⟩
  | .hbm, ⟨5, _⟩ => ⟨S32x512x4x128, .f32⟩
  | .hbm, ⟨6, _⟩ => ⟨S65536x128, .f32⟩
  | .hbm, ⟨7, _⟩ => ⟨S256x512, .f32⟩
  | .hbm, ⟨8, _⟩ => ⟨S32x32x128, .f32⟩
  | .hbm, ⟨9, _⟩ => ⟨S_, .i32⟩
  | .hbm, ⟨10, _⟩ => ⟨S_, .f32⟩
  | .hbm, ⟨11, _⟩ => ⟨S32x512x128, .f32⟩
  | .hbm, ⟨12, _⟩ => ⟨S16384x128, .f32⟩
  | .hbm, ⟨13, _⟩ => ⟨S256x512, .f32⟩
  | .hbm, ⟨14, _⟩ => ⟨S32x32x128, .f32⟩
  | .hbm, ⟨15, _⟩ => ⟨S_, .i32⟩
  | .hbm, ⟨16, _⟩ => ⟨S_, .f32⟩
  | .hbm, ⟨17, _⟩ => ⟨S32x512x128, .f32⟩
  | .hbm, ⟨18, _⟩ => ⟨S16384x128, .f32⟩
  | .hbm, ⟨19, _⟩ => ⟨S256x2048, .f32⟩
  | .hbm, ⟨20, _⟩ => ⟨S65536x128, .f32⟩
  | .hbm, ⟨21, _⟩ => ⟨S65536x128, .f32⟩
  | .hbm, ⟨22, _⟩ => ⟨S32x512x4x128, .f32⟩
  | .hbm, ⟨23, _⟩ => ⟨S1x32x512x4x128, .f32⟩
  | .hbm, ⟨24, _⟩ => ⟨S32x512x4x128, .f32⟩
  | .hbm, ⟨25, _⟩ => ⟨S1x32x512x4x128, .f32⟩
  | .local _ .vmem, ⟨0, _⟩ => ⟨S8x2048, .f32⟩
  | .local _ .vmem, ⟨1, _⟩ => ⟨S8x2048, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S8x2048, .f32⟩
  | .local _ .vmem, ⟨11, _⟩ => ⟨S8x2048, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S256x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S256x11520 : Shape := ⟨2, ![256, 11520]⟩
abbrev S1x32x512x4x128 : Shape := ⟨5, ![1, 32, 512, 4, 128]⟩
abbrev S256x512 : Shape := ⟨2, ![256, 512]⟩
abbrev S32x8x4x128 : Shape := ⟨4, ![32, 8, 4, 128]⟩
abbrev S32x512x4x128 : Shape := ⟨4, ![32, 512, 4, 128]⟩
abbrev S32x520x4x128 : Shape := ⟨4, ![32, 520, 4, 128]⟩

abbrev nBuf : Space → Nat
  | .hbm => 15
  | .vmem => 0
  | .smem => 0
  | _ => 0

abbrev bufTy : (tb : Table) → Fin (tcTables nBuf tb) → BufTy
  | .hbm, ⟨0, _⟩ => ⟨S256x11520, .f32⟩
  | .hbm, ⟨1, _⟩ => ⟨S1x32x512x4x128, .f32⟩
  | .hbm, ⟨2, _⟩ => ⟨S1x32x512x4x128, .f32⟩
  | .hbm, ⟨3, _⟩ => ⟨S256x512, .f32⟩
  | .hbm, ⟨4, _⟩ => ⟨S32x8x4x128, .f32⟩
  | .hbm, ⟨5, _⟩ => ⟨S256x512, .f32⟩
  | .hbm, ⟨6, _⟩ => ⟨S32x8x4x128, .f32⟩
  | .hbm, ⟨7, _⟩ => ⟨S32x512x4x128, .f32⟩
  | .hbm, ⟨8, _⟩ => ⟨S32x520x4x128, .f32⟩
  | .hbm, ⟨9, _⟩ => ⟨S32x512x4x128, .f32⟩
  | .hbm, ⟨10, _⟩ => ⟨S32x520x4x128, .f32⟩
  | .hbm, ⟨11, _⟩ => ⟨S32x512x4x128, .f32⟩
  | .hbm, ⟨12, _⟩ => ⟨S1x32x512x4x128, .f32⟩
  | .hbm, ⟨13, _⟩ => ⟨S32x512x4x128, .f32⟩
  | .hbm, ⟨14, _⟩ => ⟨S1x32x512x4x128, .f32⟩
  | _, _ => ⟨S256x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel8.lean ====
abbrev S8192x11520 : Shape := ⟨2, ![8192, 11520]⟩
abbrev S1x31x1024 : Shape := ⟨3, ![1, 31, 1024]⟩
abbrev S1x1024 : Shape := ⟨2, ![1, 1024]⟩
abbrev S31x1024 : Shape := ⟨2, ![31, 1024]⟩
abbrev S1024 : Shape := ⟨1, ![1024]⟩
abbrev S8192x1024 : Shape := ⟨2, ![8192, 1024]⟩
abbrev S2x32x1024 : Shape := ⟨3, ![2, 32, 1024]⟩
abbrev S256x1024 : Shape := ⟨2, ![256, 1024]⟩
abbrev S32x1024 : Shape := ⟨2, ![32, 1024]⟩
abbrev S1x32x1024 : Shape := ⟨3, ![1, 32, 1024]⟩
abbrev S288x1024 : Shape := ⟨2, ![288, 1024]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S2x30x1024 : Shape := ⟨3, ![2, 30, 1024]⟩

abbrev nBuf : Space → Nat
  | .hbm => 15
  | .vmem => 18
  | .smem => 0
  | _ => 0

abbrev bufTy : (tb : Table) → Fin (tcTables nBuf tb) → BufTy
  | .hbm, ⟨0, _⟩ => ⟨S8192x11520, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .bf16⟩
  | .hbm, ⟨13, _⟩ => ⟨S2x32x1024, .f32⟩
  | .hbm, ⟨14, _⟩ => ⟨S2x30x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S1x32x1024, .f32⟩
  | .local _ .vmem, ⟨15, _⟩ => ⟨S1x32x1024, .f32⟩
  | .local _ .vmem, ⟨16, _⟩ => ⟨S288x1024, .f32⟩
  | .local _ .vmem, ⟨17, _⟩ => ⟨S256x1024, .f32⟩
  | _, _ => ⟨S8192x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c15_i32 : BitVec 32 := 15#32
  let v1556 : BitVec 1 := Scalar.cmpi .eq arg1 c15_i32
  let v1557 : BitVec 32 := Scalar.extui v1556
  let c0_i32_995 : BitVec 32 := 0#32
  let v1558 : BitVec 1 := Scalar.cmpi .ne v1557 c0_i32_995
  v1558

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c5_i32 : BitVec 32 := 5#32
  let c0_i32_0 : BitVec 32 := 0#32
  ![v4.toNat, c5_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c6_i32 : BitVec 32 := 6#32
  let c0_i32_0 : BitVec 32 := 0#32
  ![v4.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference8Ideal.lean ====
abbrev S8192x11520 : Shape := ⟨2, ![8192, 11520]⟩
abbrev S1x31x1024 : Shape := ⟨3, ![1, 31, 1024]⟩
abbrev S1x1024 : Shape := ⟨2, ![1, 1024]⟩
abbrev S8192x1024 : Shape := ⟨2, ![8192, 1024]⟩
abbrev S_ : Shape := ⟨0, ![]⟩
abbrev S2x4096x1024 : Shape := ⟨3, ![2, 4096, 1024]⟩
abbrev S2x30x1024 : Shape := ⟨3, ![2, 30, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x11520, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S2x4096x1024, .f32⟩
  | .hbm, ⟨17, _⟩ => ⟨S2x30x1024, .f32⟩
  | _, _ => ⟨S8192x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel9.lean ====
abbrev S256x11520 : Shape := ⟨2, ![256, 11520]⟩
abbrev S1x32x30x1024 : Shape := ⟨4, ![1, 32, 30, 1024]⟩
abbrev S1x31x1024 : Shape := ⟨3, ![1, 31, 1024]⟩
abbrev S1x1024 : Shape := ⟨2, ![1, 1024]⟩
abbrev S32x30x1024 : Shape := ⟨3, ![32, 30, 1024]⟩
abbrev S31x1024 : Shape := ⟨2, ![31, 1024]⟩
abbrev S1024 : Shape := ⟨1, ![1024]⟩
abbrev S256x1024 : Shape := ⟨2, ![256, 1024]⟩
abbrev S8x1024 : Shape := ⟨2, ![8, 1024]⟩
abbrev S1x30x1024 : Shape := ⟨3, ![1, 30, 1024]⟩
abbrev S40x1024 : Shape := ⟨2, ![40, 1024]⟩
abbrev S30x1024 : Shape := ⟨2, ![30, 1024]⟩
abbrev S1x128 : Shape := ⟨2, ![1, 128]⟩
abbrev S8x128 : Shape := ⟨2, ![8, 128]⟩
abbrev S8 : Shape := ⟨1, ![8]⟩
abbrev S8x1 : Shape := ⟨2, ![8, 1]⟩

abbrev nBuf : Space → Nat
  | .hbm => 16
  | .vmem => 16
  | .smem => 0
  | _ => 0

abbrev bufTy : (tb : Table) → Fin (tcTables nBuf tb) → BufTy
  | .hbm, ⟨0, _⟩ => ⟨S256x11520, .f32⟩
  | .hbm, ⟨1, _⟩ => ⟨S1x32x30x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S32x30x1024, .f32⟩
  | .hbm, ⟨7, _⟩ => ⟨S31x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S256x1024, .f32⟩
  | .hbm, ⟨15, _⟩ => ⟨S32x30x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S1x30x1024, .f32⟩
  | .local _ .vmem, ⟨5, _⟩ => ⟨S1x30x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S8x1024, .f32⟩
  | .local _ .vmem, ⟨11, _⟩ => ⟨S8x1024, .f32⟩
  | .local _ .vmem, ⟨12, _⟩ => ⟨S1x30x1024, .f32⟩
  | .local _ .vmem, ⟨13, _⟩ => ⟨S1x30x1024, .f32⟩
  | .local _ .vmem, ⟨14, _⟩ => ⟨S40x1024, .f32⟩
  | .local _ .vmem, ⟨15, _⟩ => ⟨S8x1024, .f32⟩
  | _, _ => ⟨S256x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x30x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x30x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S256x11520 : Shape := ⟨2, ![256, 11520]⟩
abbrev S1x32x30x1024 : Shape := ⟨4, ![1, 32, 30, 1024]⟩
abbrev S1x31x1024 : Shape := ⟨3, ![1, 31, 1024]⟩
abbrev S1x1024 : Shape := ⟨2, ![1, 1024]⟩
abbrev S256x1024 : Shape := ⟨2, ![256, 1024]⟩
abbrev S_ : Shape := ⟨0, ![]⟩
abbrev S32x8x1024 : Shape := ⟨3, ![32, 8, 1024]⟩
abbrev S32x30x1024 : Shape := ⟨3, ![32, 30, 1024]⟩
abbrev S32x38x1024 : Shape := ⟨3, ![32, 38, 1024]⟩

abbrev nBuf : Space → Nat
  | .hbm => 21
  | .vmem => 0
  | .smem => 0
  | _ => 0

abbrev bufTy : (tb : Table) → Fin (tcTables nBuf tb) → BufTy
  | .hbm, ⟨0, _⟩ => ⟨S256x11520, .f32⟩
  | .hbm, ⟨1, _⟩ => ⟨S1x32x30x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S32x8x1024, .f32⟩
  | .hbm, ⟨18, _⟩ => ⟨S32x30x1024, .f32⟩
  | .hbm, ⟨19, _⟩ => ⟨S32x38x1024, .f32⟩
  | .hbm, ⟨20, _⟩ => ⟨S32x30x1024, .f32⟩
  | _, _ => ⟨S256x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel10.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2x4096x2048 : Shape := ⟨3, ![2, 4096, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8192x2048, .f32⟩
  | .hbm, ⟨5, _⟩ => ⟨S2x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x4096x2048 : Shape := ⟨3, ![2, 4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2x4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 6
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S1x2048, .f32⟩
  | .hbm, ⟨4, _⟩ => ⟨S256x2048, .f32⟩
  | .hbm, ⟨5, _⟩ => ⟨S32x8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference11Ideal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S32x8x2048 : Shape := ⟨3, ![32, 8, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S32x8x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.WinBody.lean ====
/- What one grid point of the window attention leaves behind: the padded keys and the turned-round
   value blocks kept in the two scratches, and the point's block of the output. -/
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Win

open Cert.KernelIdeal Cert.KernelIdeal.Gen

variable (m : (ℓ : Loc nD τ sig) → Buf (Elt Ideal) ℓ)

/-- The block indices at a point `(b, g, i)`. -/
theorem idx : ∀ t : Fin cfg0.N, win0_0.index t = ![t.val / 128 * 32 + t.val % 32, t.val / 32 % 4]
    ∧ win0_1.index t = ![t.val / 128, 32 + t.val / 32 % 4] ∧ win0_2.index t = ![t.val / 128, 36 + t.val / 32 % 4]
    ∧ win0_3.index t = ![t.val / 128 * 32 + t.val % 32, t.val / 32 % 4] ∧ (grid0.coords t 2).val = t.val % 32 :=
  (by decide +kernel : ∀ t : Fin grid0.N, _)

/-- The keys with 512 rows of zero before them. -/
def keys (x : FVec Ideal S4096x128 .f32) : FVec Ideal S4608x128 .bf16 := fun j =>
  if h : (j 0).val < 512 then 0 else x (ix2 ⟨(j 0).val - 512, by have h0 : (j 0).val < 4608 := (j 0).isLt; omega⟩ ⟨(j 1).val, (j 1).isLt⟩)

/-- The value blocks turned round, with four blocks of zero before them. -/
def vals (x : FVec Ideal S4096x128 .f32) : FVec Ideal S36x128x128 .bf16 := fun j =>
  if h : (j 0).val < 4 then 0 else x (ix2 ⟨((j 0).val - 4) * 128 + (j 2).val, by have h0 : (j 0).val < 36 := (j 0).isLt; have h2 : (j 2).val < 128 := (j 2).isLt; omega⟩ ⟨(j 1).val, (j 1).isLt⟩)

theorem keys_hi (x : FVec Ideal S4096x128 .f32) (y : S4608x128.Idx) (i : S4096x128.Idx) (h0 : (y 0).val = 512 + (i 0).val)
    (h1 : (y 1).val = (i 1).val) : x i = keys x y := by
  unfold keys
  rw [dif_neg (by omega)]
  refine congrArg x (funext fun a => ?_)
  fin_cases a
  · exact Fin.ext (show (i 0).val = (y 0).val - 512 by omega)
  · exact Fin.ext h1.symm

theorem keys_lo (x : FVec Ideal S4096x128 .f32) (y : S4608x128.Idx) (h : (y 0).val < 512) : 0 = keys x y := by
  unfold keys
  rw [dif_pos h]

theorem vals_hi (x : FVec Ideal S4096x128 .f32) (y : S36x128x128.Idx) (a : Fin 4096) (b : Fin 128) (h : ¬(y 0).val < 4)
    (h0 : a.val = ((y 0).val - 4) * 128 + (y 2).val) (h1 : b.val = (y 1).val) : x (ix2 a b) = vals x y := by
  unfold vals
  rw [dif_neg h]
  exact congrArg x (congrArg₂ ix2 (Fin.ext h0) (Fin.ext h1))

theorem vals_lo (x : FVec Ideal S4096x128 .f32) (y : S36x128x128.Idx) (h : (y 0).val < 4) : 0 = vals x y := by
  unfold vals
  rw [dif_pos h]

/-- A point's output block, from the query block and the two scratches. -/
def outW (i : grid0.Coords) (q : FVec Ideal S128x512 .f32) (K : Vec Ideal S4608x128 .bf16) (V : Vec Ideal S36x128x128 .bf16) : FVec Ideal S128x512 .bf16 :=
  let s := k0_pay48 (F := Ideal) i q (View.ld K (Rect.unit (k0_off1 i) S640x128.size (k0_off1_inb i)))
  k0_pay1 (F := Ideal) (k0_pay49 (F := Ideal) (k0_pay47 i) s)
    (k0_pay50 (F := Ideal) (k0_pay47 i) s (View.ld V (Rect.unit (k0_off2 i 0#32) S1x128x128.size (k0_off2_inb i 0)))
      (View.ld V (Rect.unit (k0_off2 i 1#32) S1x128x128.size (k0_off2_inb i 1)))
      (View.ld V (Rect.unit (k0_off2 i 2#32) S1x128x128.size (k0_off2_inb i 2)))
      (View.ld V (Rect.unit (k0_off2 i 3#32) S1x128x128.size (k0_off2_inb i 3))))
    (View.ld V (Rect.unit (k0_off2 i 4#32) S1x128x128.size (k0_off2_inb i 4)))

/-- The later points of a run leave both scratches as they were. -/
theorem scr_B (c : Dev nD) (t : Fin cfg0.N) (h : ¬t.val % 32 = 0) :
    (outsAt0 m c t.val t.isLt).2 = (outsAt0 m c (t.val - 1) (Nat.lt_of_le_of_lt (Nat.sub_le _ _) t.isLt)).2 := by
  rw [outsAt0_B m c t h]
  dsimp only
  unfold sout0_B_0 sout0_B_1
  rfl

/-- The first point of a run leaves the padded keys in the first scratch. -/
theorem keys_A (c : Dev nD) (t : Fin cfg0.N) (h : t.val % 32 = 0) :
    (outsAt0 m c t.val t.isLt).2.1 = keys (iblk m c 1 t) := by
  rw [outsAt0_A m c t h]
  frame_out
  clear h
  funext y
  canon_tiles x h using (View.cover_of_tiledBy _ ![512, 128] (by sl_kernel_rfl) y)
  all_goals (open_payloads; pointwise)
  · exact keys_hi _ _ _ h0 h1
  · exact keys_lo _ _ (by omega)

/-- The first point of a run leaves the turned-round value blocks in the second scratch. -/
theorem vals_A (c : Dev nD) (t : Fin cfg0.N) (h : t.val % 32 = 0) :
    (outsAt0 m c t.val t.isLt).2.2 = vals (iblk m c 2 t) := by
  rw [outsAt0_A m c t h]
  frame_out
  clear h
  funext y
  canon_tiles x h
  all_goals (open_payloads; pointwise)
  all_goals first
    | exact vals_hi _ _ _ _ (by omega) (by dsimp only; omega) (by omega)
    | exact vals_lo _ _ (by omega)

theorem out_B (c : Dev nD) (t : Fin cfg0.N) (h : ¬t.val % 32 = 0) :
    (outsAt0 m c t.val t.isLt).1 = outW (grid0.coords t) (X0_0 m c t)
      (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h]
  frame_out
  simp only [read_unread_whole]
  rfl

theorem out_A (c : Dev nD) (t : Fin cfg0.N) (h : t.val % 32 = 0) :
    (outsAt0 m c t.val t.isLt).1 = outW (grid0.coords t) (X0_0 m c t)
      (outsAt0 m c t.val t.isLt).2.1
      (outsAt0 m c t.val t.isLt).2.2 := by
  rw [outsAt0_A m c t h]
  frame_out
  refine Eq.trans (b := outW (grid0.coords t) (X0_0 m c t) _ _) rfl (congrArg₂ (outW (grid0.coords t) (X0_0 m c t)) ?_ ?_)
  · symm
    frame_out
  · symm
    frame_out

end Cert.KernelIdeal.Win

end
-- ==== Proof.MaskedSum.lean ====
/- A masked softmax-weighted sum over a finite list of keys, and the fact that it only depends on the keys the mask
   keeps: two lists with the same kept keys give the same value, as long as each has a key that is masked out. -/
module

public import Idealize.ShloMosaic.Lib.Pointwise

@[expose] public section

set_option maxRecDepth 16384

noncomputable section

open Idealize.ShloMosaic Idealize.ShloMosaic.TcCoe Idealize.SL.Sem

namespace Cert.MaskedSum

/-- The largest masked score. -/
def top (lo init : EReal) {n : ℕ} (ok : Fin n → Prop) [DecidablePred ok] (s : Fin n → EReal) : EReal :=
  Finset.univ.fold max init fun x => if ok x then s x else lo

/-- The unnormalised weight of a key. -/
def wgt (M : EReal) {n : ℕ} (ok : Fin n → Prop) [DecidablePred ok] (s : Fin n → EReal) (x : Fin n) : EReal :=
  if ok x then Ideal.exp (s x - M) else 0

/-- The values summed with the normalised weights. -/
def attn (lo init tiny : EReal) {n : ℕ} (ok : Fin n → Prop) [DecidablePred ok] (s v : Fin n → EReal) : EReal :=
  ∑ x, v x * Ideal.div (wgt (top lo init ok s) ok s x) (max (∑ y, wgt (top lo init ok s) ok s y) tiny)

theorem div_zero_left (d : EReal) (h : 0 < d) : Ideal.div 0 d = 0 := by
  simp [Ideal.div, h.ne']

/-- The constant the sum of weights is kept above is positive. -/
theorem tiny_pos : 0 < Ideal.ofBits FTy.f32 228737632#32 := by
  simp [Ideal.ofBits, Ideal.ieee]
  have h : (0 : ℝ) < 10633824 * ((2 : ℝ) ^ 123)⁻¹ := by positivity
  rw [← EReal.coe_mul]
  exact EReal.coe_pos.mpr h

/-- The pattern of the infinity the masks and the maxima start from. -/
theorem ofBits_low : Ideal.ofBits FTy.f32 4286578688#32 = ⊥ := by
  simp [Ideal.ofBits, Ideal.ieee]

/-- The head dimension, as the reference spells it. -/
theorem ofBits_dim : Ideal.ofBits FTy.f32 1124073472#32 = ((128 : ℝ) : EReal) := by
  simp [Ideal.ofBits, Ideal.ieee, -EReal.coe_mul]; norm_num

/-- A quotient by the root of the head dimension is a product with the reciprocal. -/
theorem div_root (x : EReal) :
    Ideal.div x (Ideal.sqrt (Ideal.ofBits FTy.f32 1124073472#32)) = x * (((Real.sqrt 128)⁻¹ : ℝ) : EReal) := by
  rw [ofBits_dim, Ideal.sqrt_coe, if_neg (by norm_num), Ideal.div_coe (Real.sqrt_pos.mpr (by norm_num)).ne', one_div]

variable {n n' : ℕ} {ok : Fin n → Prop} [DecidablePred ok] {ok' : Fin n' → Prop} [DecidablePred ok']

/-- Two sums whose kept terms correspond are equal. -/
theorem sum_eq (φ : Fin n' → Fin n) (hok : ∀ x, ok' x → ok (φ x))
    (hinj : ∀ x y, ok' x → ok' y → φ x = φ y → x = y) (hsur : ∀ x, ok x → ∃ y, ok' y ∧ φ y = x)
    (f : Fin n → EReal) (f' : Fin n' → EReal) (h : ∀ x, ok' x → f' x = f (φ x))
    (h0 : ∀ x, ¬ok x → f x = 0) (h0' : ∀ x, ¬ok' x → f' x = 0) : ∑ x, f' x = ∑ x, f x := by
  rw [← Finset.sum_filter_of_ne (s := Finset.univ) (p := ok') (f := f') (fun x _ hx => by_contra fun hn => hx (h0' x hn)),
    ← Finset.sum_filter_of_ne (s := Finset.univ) (p := ok) (f := f) (fun x _ hx => by_contra fun hn => hx (h0 x hn))]
  refine Finset.sum_bij (fun x _ => φ x) ?_ ?_ ?_ ?_
  · intro x hx; simp only [Finset.mem_filter, Finset.mem_univ, true_and] at hx ⊢; exact hok x hx
  · intro x hx y hy e; simp only [Finset.mem_filter, Finset.mem_univ, true_and] at hx hy; exact hinj x y hx hy e
  · intro x hx; simp only [Finset.mem_filter, Finset.mem_univ, true_and] at hx
    obtain ⟨y, hy, e⟩ := hsur x hx
    exact ⟨y, by simpa using hy, e⟩
  · intro x hx; simp only [Finset.mem_filter, Finset.mem_univ, true_and] at hx; exact h x hx

/-- The largest masked scores agree. -/
theorem top_eq (lo init : EReal) (φ : Fin n' → Fin n) (hok : ∀ x, ok' x → ok (φ x))
    (hsur : ∀ x, ok x → ∃ y, ok' y ∧ φ y = x) (hn : ∃ x, ¬ok x) (hn' : ∃ x, ¬ok' x)
    (s : Fin n → EReal) (s' : Fin n' → EReal) (h : ∀ x, ok' x → s' x = s (φ x)) :
    top lo init ok' s' = top lo init ok s := by
  obtain ⟨a, ha⟩ := hn
  obtain ⟨a', ha'⟩ := hn'
  unfold top
  apply le_antisymm
  · rw [Finset.fold_max_le]
    refine ⟨by rw [Finset.le_fold_max]; exact Or.inl le_rfl, fun x _ => ?_⟩
    rw [Finset.le_fold_max]
    by_cases hx : ok' x
    · exact Or.inr ⟨φ x, Finset.mem_univ _, by rw [if_pos hx, if_pos (hok x hx), h x hx]⟩
    · exact Or.inr ⟨a, Finset.mem_univ _, by rw [if_neg hx, if_neg ha]⟩
  · rw [Finset.fold_max_le]
    refine ⟨by rw [Finset.le_fold_max]; exact Or.inl le_rfl, fun x _ => ?_⟩
    rw [Finset.le_fold_max]
    by_cases hx : ok x
    · obtain ⟨y, hy, rfl⟩ := hsur x hx
      exact Or.inr ⟨y, Finset.mem_univ _, by rw [if_pos hx, if_pos hy, h y hy]⟩
    · exact Or.inr ⟨a', Finset.mem_univ _, by rw [if_neg hx, if_neg ha']⟩

/-- The weighted sums agree. -/
theorem attn_eq (lo init tiny : EReal) (ht : 0 < tiny) (φ : Fin n' → Fin n) (hok : ∀ x, ok' x → ok (φ x))
    (hinj : ∀ x y, ok' x → ok' y → φ x = φ y → x = y) (hsur : ∀ x, ok x → ∃ y, ok' y ∧ φ y = x)
    (hn : ∃ x, ¬ok x) (hn' : ∃ x, ¬ok' x) (s v : Fin n → EReal) (s' v' : Fin n' → EReal)
    (hs : ∀ x, ok' x → s' x = s (φ x)) (hv : ∀ x, ok' x → v' x = v (φ x)) :
    attn lo init tiny ok' s' v' = attn lo init tiny ok s v := by
  unfold attn
  rw [top_eq lo init φ hok hsur hn hn' s s' hs]
  have hw : ∀ x, ok' x → wgt (top lo init ok s) ok' s' x = wgt (top lo init ok s) ok s (φ x) := fun x hx => by
    unfold wgt; rw [if_pos hx, if_pos (hok x hx), hs x hx]
  have hw0 : ∀ x, ¬ok x → wgt (top lo init ok s) ok s x = 0 := fun x hx => if_neg hx
  have hw0' : ∀ x, ¬ok' x → wgt (top lo init ok s) ok' s' x = 0 := fun x hx => if_neg hx
  rw [sum_eq φ hok hinj hsur _ _ hw hw0 hw0']
  refine sum_eq φ hok hinj hsur _ _ (fun x hx => ?_) (fun x hx => ?_) (fun x hx => ?_)
  · rw [hw x hx, hv x hx]
  · rw [hw0 x hx, div_zero_left _ (lt_of_lt_of_le ht (le_max_right _ _)), mul_zero]
  · rw [hw0' x hx, div_zero_left _ (lt_of_lt_of_le ht (le_max_right _ _)), mul_zero]

end Cert.MaskedSum

end
-- ==== Proof.WinRef.lean ====
/- The reference's window attention read at an index. -/
module

public import proofs.«01_k».proof.Proof.Gen.ReferenceIdeal.Read
public import proofs.«01_k».proof.Proof.MaskedSum
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)

namespace Cert.ReferenceIdeal.Win

open Cert.ReferenceIdeal Cert.ReferenceIdeal.Gen Cert.ReferenceIdeal.Read

/-- A score: the dot product of a key row with a query head's row, scaled. -/
def sc (z : FVec Ideal S8192x11520 .f32) (b : Fin 2) (g h : Fin 4) (t k : Fin 4096) : EReal :=
  (∑ x : Fin 128, z (ix2 ⟨b.val * 4096 + k.val, by omega⟩ ⟨4096 + (g.val * 128 + x.val), by omega⟩)
    * z (ix2 ⟨b.val * 4096 + t.val, by omega⟩ ⟨g.val * 512 + h.val * 128 + x.val, by omega⟩)) * (((Real.sqrt 128)⁻¹ : ℝ) : EReal)

theorem score (z : FVec Ideal S8192x11520 .f32) (b : Fin 2) (g h : Fin 4) (t k : Fin 4096) :
    (val_main_v22 (F := Ideal) z : FVec Ideal S2x4x4x4096x4096 .f32) (ix5 b g h t k) = sc z b g h t k := by
  pointwise [val_main_v22, val_main_v21, val_main_v20, val_main_v19, val_main_cst, val_main_v18, val_main_v3, val_main_v2, val_main_v1, val_main_v0, sc]
  exact Cert.MaskedSum.div_root _

theorem mask (t k : Fin 4096) :
    (val_main_v17 (F := Ideal) : Vec Ideal S4096x4096 .i1) (ix2 t k) = if k.val ≤ t.val ∧ t.val < k.val + 512 then 1#1 else 0#1 := by
  pointwise [val_main_v17, val_main_v16, val_main_v15, val_main_v14, val_main_c_0, val_main_v13, val_main_v12, val_main_c, val_main_v11, val_main_v10, val_main_v9, val_main_v8, val_main_v7, val_main_v6]
  have e : (IntOp.subi (BitVec.ofNat 32 t.val) (BitVec.ofNat 32 k.val)).toNat
      = (4294967296 + t.val - k.val) % 4294967296 := by
    have h1 := t.isLt
    have h2 := k.isLt
    simp only [IntOp.subi, BitVec.toNat_sub, BitVec.toNat_ofNat]
    omega
  generalize IntOp.subi (BitVec.ofNat 32 t.val) (BitVec.ofNat 32 k.val) = w at e ⊢
  word_omega

/-- A choice between two values by a bit that is set exactly when a proposition holds. -/
theorem select_ite (p : Prop) [Decidable p] (a b : EReal) :
    Scalar.select (if p then 1#1 else 0#1) a b = if p then a else b := by
  by_cases h : p <;> simp [h, Scalar.select]

/-- Window attention at a row and a column: the values of the row's sequence in the column's head group, weighted by
    the softmax of the scores over the 512 keys up to the row. -/
def win (z : FVec Ideal S8192x11520 .f32) (r : Fin 8192) (d : Fin 2048) : EReal :=
  Cert.MaskedSum.attn ⊥ ⊥
    (Ideal.ofBits FTy.f32 228737632#32) (fun k : Fin 4096 => k.val ≤ r.val % 4096 ∧ r.val % 4096 < k.val + 512)
    (fun k => sc z ⟨r.val / 4096, by omega⟩ ⟨d.val / 512, by omega⟩ ⟨d.val / 128 % 4, by omega⟩ ⟨r.val % 4096, by omega⟩ k)
    (fun k => z (ix2 ⟨r.val / 4096 * 4096 + k.val, by omega⟩ ⟨4608 + (d.val / 512 * 128 + d.val % 128), by omega⟩))

/-- The inner mask of a weight changes nothing under the outer one. -/
theorem inner_ite (p : Prop) [Decidable p] (a b M : EReal) :
    (if p then Ideal.exp ((if p then a else b) - M) else 0) = if p then Ideal.exp (a - M) else 0 := by
  by_cases h : p <;> simp [h]

theorem out (z : FVec Ideal S8192x11520 .f32) (r : Fin 8192) (d : Fin 2048) :
    (val_main_v40 (F := Ideal) z : FVec Ideal S8192x2048 .bf16) (ix2 r d) = win z r d := by
  pointwise [val_main_v40, val_main_v39, val_main_v38, val_main_v37, val_main_v36, val_main_v35, val_main_v34, val_main_v33, val_main_v32, val_main_cst_5, val_main_v31, val_main_v30, val_main_cst_4, val_main_v29, val_main_call1_v2, val_main_call1_v1, val_main_call1_v0, val_main_cst_3, val_main_v28, val_main_v27, val_main_v26, val_main_v25, val_main_v24, val_main_cst_2, val_main_v5, val_main_v4, val_main_call0_v2, val_main_call0_v1, val_main_call0_v0, val_main_cst_1, val_main_v23, id_eq]
  simp only [mask, score, select_ite, inner_ite, Cert.MaskedSum.ofBits_low]
  rfl

end Cert.ReferenceIdeal.Win

end
-- ==== Proof.WinPay.lean ====
/- What a point of the window attention stores, read at an index: a softmax-weighted sum of 640 value rows, the
   weights taken over the keys the window keeps. -/
module

public import proofs.«01_k».proof.Proof.WinBody
public import proofs.«01_k».proof.Proof.WinRef
public import proofs.«01_k».proof.Proof.MaskedSum
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)

namespace Cert.KernelIdeal.Win

open Cert.KernelIdeal Cert.KernelIdeal.Gen Cert.MaskedSum

/-- The window's mask: key row `x` of the 640 staged ones lies at position `128 * n + x - 512`, the query at `128 * n + r`. -/
theorem mask (i : grid0.Coords) (x : Fin 640) (q : Fin 512) :
    (k0_pay47 i : Vec Ideal S640x512 .i1) (ix2 x q)
      = if 512 ≤ 128 * (i 2).val + x.val ∧ q.val % 128 < x.val ∧ x.val ≤ q.val % 128 + 512 then 1#1 else 0#1 := by
  have hi : (i 2).val < 32 := (i 2).isLt
  have hx := x.isLt
  have hq := q.isLt
  pointwise [k0_pay47]
  have ea : (IntOp.andi (BitVec.ofNat 32 q.val) 127#32).toNat = q.val % 128 := by
    simp only [IntOp.andi, BitVec.toNat_and, BitVec.toNat_ofNat]
    rw [show 127 % 2 ^ 32 = 2 ^ 7 - 1 from rfl, Nat.and_two_pow_sub_one_eq_mod]
    omega
  have e1 : (IntOp.addi (Scalar.subi (Scalar.muli (BitVec.ofNat 32 (i 2).val) 128#32) 512#32) (BitVec.ofNat 32 x.val)).toNat
      = (4294966784 + 128 * (i 2).val + x.val) % 4294967296 := by
    simp only [Scalar.subi, Scalar.muli, IntOp.addi, IntOp.subi, IntOp.muli, BitVec.toNat_add, BitVec.toNat_sub, BitVec.toNat_mul, BitVec.toNat_ofNat]
    omega
  have e2 : (IntOp.subi
            (IntOp.addi (Scalar.muli (BitVec.ofNat 32 (i 2).val) 128#32) (IntOp.andi (BitVec.ofNat 32 q.val) 127#32))
            (IntOp.addi (Scalar.subi (Scalar.muli (BitVec.ofNat 32 (i 2).val) 128#32) 512#32) (BitVec.ofNat 32 x.val))).toNat
      = if x.val ≤ q.val % 128 + 512 then q.val % 128 + 512 - x.val else 4294967808 + q.val % 128 - x.val := by
    rw [IntOp.subi, BitVec.toNat_sub, e1, IntOp.addi, BitVec.toNat_add, ea]
    simp only [Scalar.muli, IntOp.muli, BitVec.toNat_mul, BitVec.toNat_ofNat]
    split <;> omega
  generalize IntOp.subi _ (IntOp.addi _ _) = w at e2 ⊢
  generalize IntOp.addi _ _ = w' at e1 ⊢
  clear ea
  have hA : IntOp.cmpi .sge w' 0#32 = if 512 ≤ 128 * (i 2).val + x.val then 1#1 else 0#1 := by
    clear e2
    word_omega
  have hw : w.toNat + x.val = q.val % 128 + 512 ∨ w.toNat + x.val = q.val % 128 + 4294967808 := by
    split at e2 <;> omega
  clear e1 e2
  have hB : IntOp.cmpi .sge w 0#32 = if x.val ≤ q.val % 128 + 512 then 1#1 else 0#1 := by word_omega
  have hC : IntOp.cmpi .slt w 512#32 = if q.val % 128 < x.val ∨ ¬x.val ≤ q.val % 128 + 512 then 1#1 else 0#1 := by word_omega
  rw [hA, hB, hC]
  split_ifs <;> first | rfl | omega

/-- A score of the staged keys: the dot product of a key row with a query head's row, scaled. -/
def gsc (Q : FVec Ideal S128x512 .f32) (K : FVec Ideal S640x128 .bf16) (x : Fin 640) (q : Fin 512) : EReal :=
  (∑ l : Fin 128, K (ix2 x l) * Q (ix2 ⟨q.val % 128, by omega⟩ ⟨q.val / 128 * 128 + l.val, by omega⟩)) * (((Real.sqrt 128)⁻¹ : ℝ) : EReal)

/-- The keys the window keeps, of the 640 staged ones. -/
abbrev ok (n : ℕ) (q : Fin 512) (x : Fin 640) : Prop :=
  512 ≤ 128 * n + x.val ∧ q.val % 128 < x.val ∧ x.val ≤ q.val % 128 + 512

/-- The named mask is the least value. -/
theorem low : Named.named (F := Ideal) κ "mask" (φ := .f32) 4048155338#32 = ⊥ :=
  IdealRules.named_const.ideal_named_scalar _ _ _ _ rfl

/-- The named scale is the reciprocal root of the head dimension. -/
theorem scale : Named.named (F := Ideal) κ "s" (φ := .f32) 1035273459#32 = (((Real.sqrt 128)⁻¹ : ℝ) : EReal) :=
  IdealRules.named_const.ideal_named_scalar _ _ _ _ rfl

/-- A masked score, less the largest. -/
theorem score (i : grid0.Coords) (Q : FVec Ideal S128x512 .f32) (K : FVec Ideal S640x128 .bf16) (x : Fin 640) (q : Fin 512) :
    (k0_pay48 (F := Ideal) i Q K : FVec Ideal S640x512 .f32) (ix2 x q)
      = (if ok (i 2).val q x then gsc Q K x q else ⊥)
        - top ⊥ ⊥ (ok (i 2).val q) (fun x => gsc Q K x q) := by
  have hl : ∀ l : Fin 128, (if h : q.val < 128 then Q (ix2 ⟨q.val, by omega⟩ ⟨l.val, by omega⟩)
      else if h : q.val - 128 < 128 then Q (ix2 ⟨q.val - 128, by omega⟩ ⟨128 + l.val, by omega⟩)
      else if h : q.val - 128 - 128 < 128 then Q (ix2 ⟨q.val - 128 - 128, by omega⟩ ⟨256 + l.val, by omega⟩)
      else Q (ix2 ⟨q.val - 128 - 128 - 128, by omega⟩ ⟨384 + l.val, by omega⟩))
      = Q (ix2 ⟨q.val % 128, by omega⟩ ⟨q.val / 128 * 128 + l.val, by omega⟩) := by
    intro l
    split_ifs <;> exact congrArg Q (congrArg₂ ix2 (Fin.ext (by dsimp only; omega)) (Fin.ext (by dsimp only; omega)))
  pointwise [k0_pay48]
  simp only [low, scale, Cert.MaskedSum.ofBits_low, mask, hl, Cert.ReferenceIdeal.Win.select_ite]
  rfl

/-- A normalised weight. -/
theorem prob (i : grid0.Coords) (Q : FVec Ideal S128x512 .f32) (K : FVec Ideal S640x128 .bf16) (x : Fin 640) (q : Fin 512) :
    (k0_pay49 (F := Ideal) (k0_pay47 i) (k0_pay48 (F := Ideal) i Q K) : FVec Ideal S640x512 .bf16) (ix2 x q)
      = Ideal.div (wgt (top ⊥ ⊥ (ok (i 2).val q) (fun x => gsc Q K x q)) (ok (i 2).val q) (fun x => gsc Q K x q) x)
        (max (∑ x, wgt (top ⊥ ⊥ (ok (i 2).val q) (fun x => gsc Q K x q)) (ok (i 2).val q) (fun x => gsc Q K x q) x) (Ideal.ofBits FTy.f32 228737632#32)) := by
  pointwise [k0_pay49]
  simp only [mask, score, Cert.ReferenceIdeal.Win.select_ite, Cert.ReferenceIdeal.Win.inner_ite]
  rfl

/-- The five chunks' products, added up and turned round: a sum over all 640 staged rows. -/
theorem turn (P : FVec Ideal S640x512 .bf16) (M : Vec Ideal S640x512 .i1) (s : FVec Ideal S640x512 .f32)
    (hP : k0_pay49 (F := Ideal) M s = P) (v : Fin 5 → FVec Ideal S1x128x128 .bf16) (r : Fin 128) (q : Fin 512) :
    (k0_pay1 (F := Ideal) P (k0_pay50 (F := Ideal) M s (v 0) (v 1) (v 2) (v 3)) (v 4) : FVec Ideal S128x512 .bf16) (ix2 r q)
      = ∑ x : Fin 640, v ⟨x.val / 128, by omega⟩ (ix3 0 ⟨q.val % 128, by omega⟩ ⟨x.val % 128, by omega⟩)
        * P (ix2 x ⟨q.val / 128 * 128 + r.val, by omega⟩) := by
  have part : ∀ (d : Fin 128) (q' : Fin 512), (k0_pay50 (F := Ideal) M s (v 0) (v 1) (v 2) (v 3) : FVec Ideal S128x512 .f32) (ix2 d q')
      + ∑ x : Fin 128, v 4 (ix3 0 d x) * P (ix2 ⟨512 + x.val, by omega⟩ q')
      = ∑ x : Fin 640, v ⟨x.val / 128, by omega⟩ (ix3 0 d ⟨x.val % 128, by omega⟩) * P (ix2 x q') := by
    intro d q'
    rw [Fin.sum_univ_tiles 5 128 rfl]
    pointwise [k0_pay50]
    rw [hP, Fin.sum_univ_five]
    have tile : ∀ (n : Fin 5) (a b : Fin 128 → Fin 640), (∀ x, (a x).val = n.val * 128 + x.val) → (∀ x, (b x).val = n.val * 128 + x.val) →
        ∑ x : Fin 128, v n (ix3 0 d x) * P (ix2 (a x) q')
          = ∑ x : Fin 128, v ⟨(b x).val / 128, by omega⟩ (ix3 0 d ⟨(b x).val % 128, by omega⟩) * P (ix2 (b x) q') := by
      intro n a b ha hb
      refine Finset.sum_congr rfl fun x _ => congrArg₂ (· * ·) ?_ (congrArg P (congrArg₂ ix2 (Fin.ext ((ha x).trans (hb x).symm)) rfl))
      exact congrArg₂ (fun n l => v n (ix3 0 d l)) (Fin.ext (by dsimp only; rw [hb]; omega)) (Fin.ext (by dsimp only; rw [hb]; omega))
    refine congrArg₂ (· + ·) (congrArg₂ (· + ·) (congrArg₂ (· + ·) (congrArg₂ (· + ·) ?_ ?_) ?_) ?_) ?_
    · exact tile 0 (fun x => ⟨x.val, by omega⟩) (fun x => ⟨0 * 128 + x.val, by omega⟩) (fun x => (Nat.zero_add _).symm) (fun _ => rfl)
    · exact tile 1 (fun x => ⟨128 + x.val, by omega⟩) (fun x => ⟨1 * 128 + x.val, by omega⟩) (fun _ => rfl) (fun _ => rfl)
    · exact tile 2 (fun x => ⟨256 + x.val, by omega⟩) (fun x => ⟨2 * 128 + x.val, by omega⟩) (fun _ => rfl) (fun _ => rfl)
    · exact tile 3 (fun x => ⟨384 + x.val, by omega⟩) (fun x => ⟨3 * 128 + x.val, by omega⟩) (fun _ => rfl) (fun _ => rfl)
    · exact tile 4 (fun x => ⟨512 + x.val, by omega⟩) (fun x => ⟨4 * 128 + x.val, by omega⟩) (fun _ => rfl) (fun _ => rfl)
  pointwise [k0_pay1]
  simp only [part]
  split_ifs <;> exact Finset.sum_congr rfl fun x _ => congrArg₂ (fun a b => v ⟨x.val / 128, by omega⟩ (ix3 0 a ⟨x.val % 128, by omega⟩) * P (ix2 x b))
    (Fin.ext (by dsimp only; omega)) (Fin.ext (by dsimp only; omega))

theorem ldk (i : grid0.Coords) (K : Vec Ideal S4608x128 .bf16) (x : Fin 640) (l : Fin 128) (h : 128 * (i 2).val + x.val < 4608) :
    (View.ld K (Rect.unit (s := S4608x128) (k0_off1 i) S640x128.size (k0_off1_inb i)) : Vec Ideal S640x128 .bf16) (ix2 x l)
      = K (ix2 ⟨128 * (i 2).val + x.val, h⟩ l) := by
  pointwise
  refine congrArg K (congrArg₂ ix2 (Fin.ext ?_) (Fin.ext ?_)) <;> dsimp only <;> rw [k0_off1_eq]
  · rfl
  · exact Nat.zero_add _

theorem ldv (i : grid0.Coords) (K : Vec Ideal S36x128x128 .bf16) (n : Fin 5) (x l : Fin 128) (h : (i 2).val + n.val < 36) :
    (View.ld K (Rect.unit (s := S36x128x128) (k0_off2 i (BitVec.ofNat 32 n.val)) S1x128x128.size (k0_off2_inb i n)) : Vec Ideal S1x128x128 .bf16) (ix3 0 x l)
      = K (ix3 ⟨(i 2).val + n.val, h⟩ x l) := by
  pointwise
  refine congrArg K (congr (congrArg₂ ix3 (Fin.ext ?_) (Fin.ext ?_)) (Fin.ext ?_)) <;> dsimp only <;> rw [k0_off2_eq]
  · rfl
  · exact Nat.zero_add _
  · exact Nat.zero_add _

end Cert.KernelIdeal.Win

end
-- ==== Proof.WinFinal.lean ====
/- The array the window attention leaves is the reference's. -/
module

public import proofs.«01_k».proof.Proof.WinPay

@[expose] public section

set_option maxRecDepth 16384

noncomputable section

open Idealize.ShloMosaic Idealize.ShloMosaic.TcCoe Idealize.SL.Sem
open Idealize.ShloMosaic.Pipeline (Dat)

namespace Cert.KernelIdeal.Win

open Cert.KernelIdeal Cert.KernelIdeal.Gen Cert.MaskedSum

variable (m : (ℓ : Loc nD τ sig) → Buf (Elt Ideal) ℓ)

/-- The rows a point loads from the padded keys. -/
def ldK (i : grid0.Coords) (K : Vec Ideal S4608x128 .bf16) : Vec Ideal S640x128 .bf16 :=
  View.ld K (Rect.unit (s := S4608x128) (k0_off1 i) S640x128.size (k0_off1_inb i))

/-- A point's output block at a row and a column. -/
theorem outW_apply (i : grid0.Coords) (Q : FVec Ideal S128x512 .f32) (K : Vec Ideal S4608x128 .bf16)
    (V : Vec Ideal S36x128x128 .bf16) (r : Fin 128) (q : Fin 512) :
    outW i Q K V (ix2 r q) = attn ⊥ ⊥
      (Ideal.ofBits FTy.f32 228737632#32) (ok (i 2).val ⟨q.val / 128 * 128 + r.val, by omega⟩)
      (fun x => gsc Q (ldK i K) x ⟨q.val / 128 * 128 + r.val, by omega⟩)
      (fun x => V (ix3 ⟨(i 2).val + x.val / 128, by have h : (i 2).val < 32 := (i 2).isLt; omega⟩ ⟨q.val % 128, by omega⟩ ⟨x.val % 128, by omega⟩)) := by
  have hi : (i 2).val < 32 := (i 2).isLt
  refine (turn _ (k0_pay47 i) (k0_pay48 (F := Ideal) i Q (ldK i K)) rfl
    (fun n => View.ld V (Rect.unit (s := S36x128x128) (k0_off2 i (BitVec.ofNat 32 n.val)) S1x128x128.size (k0_off2_inb i n))) r q).trans ?_
  refine Finset.sum_congr rfl fun x _ => congrArg₂ (· * ·) ?_ (prob i Q (ldK i K) x _)
  exact ldv i V ⟨x.val / 128, by omega⟩ _ _ _

/-- Both scratches after any point, over the blocks the point's run staged. -/
theorem scr (c : Dev nD) (t : Fin cfg0.N) :
    (outsAt0 m c t.val t.isLt).2 = (keys (iblk m c 1 ⟨32 * (t.val / 32), Pipeline.run_start_lt t⟩),
      vals (iblk m c 2 ⟨32 * (t.val / 32), Pipeline.run_start_lt t⟩)) :=
  Pipeline.eq_of_write_hold (fun n h => (outsAt0 m c n h).2) 32 (fun t => (keys (iblk m c 1 t), vals (iblk m c 2 t)))
    (fun t h => Prod.ext (keys_A m c t h) (vals_A m c t h)) (scr_B m c) t

/-- A point's output block over the blocks its run staged. -/
theorem out_eq (c : Dev nD) (t : Fin cfg0.N) :
    (outsAt0 m c t.val t.isLt).1 = outW (grid0.coords t) (X0_0 m c t)
      (keys (iblk m c 1 ⟨32 * (t.val / 32), Pipeline.run_start_lt t⟩))
      (vals (iblk m c 2 ⟨32 * (t.val / 32), Pipeline.run_start_lt t⟩)) := by
  have e := scr m c t
  by_cases h : t.val % 32 = 0
  · rw [out_A m c t h, e]
  · rw [out_B m c t h, ← scr_B m c t h, e]

theorem blk_q (c : Dev nD) (t : Fin cfg0.N) (r : Fin 128) (l : Fin 512) (h : (t.val / 128 * 32 + t.val % 32) * 128 + r.val < 8192)
    (h' : t.val / 32 % 4 * 512 + l.val < 11520) :
    (X0_0 m c t : FVec Ideal S128x512 .f32) (ix2 r l) = m ((c : Thread nD τ).loc main_arg0)
      (ix2 ⟨(t.val / 128 * 32 + t.val % 32) * 128 + r.val, h⟩ ⟨t.val / 32 % 4 * 512 + l.val, h'⟩) := by
  unfold X0_0 Pipeline.Window.fill
  rw [dif_pos (moved0_0 t _)]
  blk_ext [iblk, V, idx t]

theorem blk_k (c : Dev nD) (t : Fin cfg0.N) (r : Fin 4096) (l : Fin 128) (h : t.val / 128 * 4096 + r.val < 8192)
    (h' : 4096 + (t.val / 32 % 4 * 128 + l.val) < 11520) :
    (iblk m c 1 ⟨32 * (t.val / 32), Pipeline.run_start_lt t⟩ : FVec Ideal S4096x128 .f32) (ix2 r l) = m ((c : Thread nD τ).loc main_arg0)
      (ix2 ⟨t.val / 128 * 4096 + r.val, h⟩ ⟨4096 + (t.val / 32 % 4 * 128 + l.val), h'⟩) := by
  blk_ext [iblk, V, idx ⟨32 * (t.val / 32), Pipeline.run_start_lt t⟩]

theorem blk_v (c : Dev nD) (t : Fin cfg0.N) (r : Fin 4096) (l : Fin 128) (h : t.val / 128 * 4096 + r.val < 8192)
    (h' : 4608 + (t.val / 32 % 4 * 128 + l.val) < 11520) :
    (iblk m c 2 ⟨32 * (t.val / 32), Pipeline.run_start_lt t⟩ : FVec Ideal S4096x128 .f32) (ix2 r l) = m ((c : Thread nD τ).loc main_arg0)
      (ix2 ⟨t.val / 128 * 4096 + r.val, h⟩ ⟨4608 + (t.val / 32 % 4 * 128 + l.val), h'⟩) := by
  blk_ext [iblk, V, idx ⟨32 * (t.val / 32), Pipeline.run_start_lt t⟩]

/-- A staged key row: the padded keys at the row loaded. -/
theorem ldK_apply (i : grid0.Coords) (X : FVec Ideal S4096x128 .f32) (x : Fin 640) (l : Fin 128) (h : 512 ≤ 128 * (i 2).val + x.val)
    (h' : 128 * (i 2).val + x.val - 512 < 4096) :
    (ldK i (keys X) : FVec Ideal S640x128 .bf16) (ix2 x l) = X (ix2 ⟨128 * (i 2).val + x.val - 512, h'⟩ l) := by
  refine (ldk i (keys X) x l (by omega)).trans (keys_hi X _ (ix2 ⟨128 * (i 2).val + x.val - 512, h'⟩ l) ?_ rfl).symm
  show 128 * (i 2).val + x.val = 512 + (128 * (i 2).val + x.val - 512)
  omega

/-- A point's block holds the window attention of its rows and columns. -/
theorem point (c : Dev nD) (t : Fin cfg0.N) (r : Fin 128) (q : Fin 512) (h : (t.val / 128 * 32 + t.val % 32) * 128 + r.val < 8192)
    (h' : t.val / 32 % 4 * 512 + q.val < 2048) :
    outW (grid0.coords t) (X0_0 m c t) (keys (iblk m c 1 ⟨32 * (t.val / 32), Pipeline.run_start_lt t⟩))
      (vals (iblk m c 2 ⟨32 * (t.val / 32), Pipeline.run_start_lt t⟩)) (ix2 r q)
      = Cert.ReferenceIdeal.Win.win (m ((c : Thread nD τ).loc main_arg0)) ⟨(t.val / 128 * 32 + t.val % 32) * 128 + r.val, h⟩
        ⟨t.val / 32 % 4 * 512 + q.val, h'⟩ := by
  have hN : t.val < 256 := lt_of_lt_of_eq t.isLt N_0
  have hi : (grid0.coords t 2).val = t.val % 32 := (idx t).2.2.2.2
  have hr := r.isLt
  have hq := q.isLt
  rw [outW_apply]
  unfold Cert.ReferenceIdeal.Win.win
  refine attn_eq _ _ _ tiny_pos (fun x => ⟨(128 * (t.val % 32) + x.val - 512) % 4096, by omega⟩) ?_ ?_ ?_ ?_ ?_ _ _ _ _ ?_ ?_
  · rintro x ⟨h1, h2, h3⟩
    have hx := x.isLt
    dsimp only at *
    omega
  · rintro x x' ⟨h1, h2, h3⟩ ⟨h1', h2', h3'⟩ e
    have hx := x.isLt
    have hx' := x'.isLt
    have e := congrArg Fin.val e
    dsimp only at *
    exact Fin.ext (by omega)
  · rintro k ⟨h1, h2⟩
    have hk := k.isLt
    dsimp only at *
    refine ⟨⟨k.val + 512 - 128 * (t.val % 32), by omega⟩, ⟨?_, ?_, ?_⟩, Fin.ext ?_⟩ <;> dsimp only <;> omega
  · by_cases hd : t.val % 32 * 128 + r.val = 4095
    · exact ⟨⟨0, by omega⟩, by dsimp only; omega⟩
    · exact ⟨⟨4095, by omega⟩, by dsimp only; omega⟩
  · exact ⟨⟨0, by omega⟩, by unfold ok; dsimp only; omega⟩
  · rintro x ⟨h1, h2, h3⟩
    have hx := x.isLt
    dsimp only at *
    unfold gsc Cert.ReferenceIdeal.Win.sc
    refine congrArg (· * _) (Finset.sum_congr rfl fun l _ => congrArg₂ (· * ·) ?_ ?_)
    · rw [ldK_apply _ _ x l h1 (by omega), blk_k m c t _ l (by dsimp only; omega) (by omega)]
      exact congrArg _ (congrArg₂ ix2 (Fin.ext (by dsimp only; omega)) (Fin.ext (by dsimp only; omega)))
    · rw [blk_q m c t _ _ (by dsimp only; omega) (by dsimp only; omega)]
      exact congrArg _ (congrArg₂ ix2 (Fin.ext (by dsimp only; omega)) (Fin.ext (by dsimp only; omega)))
  · rintro x ⟨h1, h2, h3⟩
    have hx := x.isLt
    dsimp only at *
    rw [← vals_hi _ _ ⟨(128 * (t.val % 32) + x.val - 512) % 4096, by omega⟩ ⟨q.val % 128, by omega⟩ (by show ¬(grid0.coords t 2).val + x.val / 128 < 4; omega)
      (by show (128 * (t.val % 32) + x.val - 512) % 4096 = ((grid0.coords t 2).val + x.val / 128 - 4) * 128 + x.val % 128; omega) rfl,
      blk_v m c t _ _ (by dsimp only; omega) (by dsimp only; omega)]
    exact congrArg _ (congrArg₂ ix2 (Fin.ext (by dsimp only; omega)) (Fin.ext (by dsimp only; omega)))

/-- The result array after the run. -/
theorem final (c : Dev nD) : (dats m 0 c).arrAt 3 cfg0.N
    = fun i => Cert.ReferenceIdeal.Win.win (m ((c : Thread nD τ).loc main_arg0)) (i 0) (i 1) := by
  refine (dats m 0 c).arrAt_eq_of_covers 3 _ (by decide +kernel) fun t _ y => ?_
  blk_simp
  rw [after0_3, out_eq m c t]
  have hN : t.val < 256 := lt_of_lt_of_eq t.isLt N_0
  have h0 : (y 0).val < 128 := (y 0).isLt
  have h1 : (y 1).val < 512 := (y 1).isLt
  have e : (win0_3.blk t).view.emb y
      = (ix2 ⟨(t.val / 128 * 32 + t.val % 32) * 128 + (y 0).val, by omega⟩ ⟨t.val / 32 % 4 * 512 + (y 1).val, by omega⟩ : S8192x2048.Idx) := by
    blk_ext [idx t]
  rw [e]
  have ey : y = (ix2 ⟨(y 0).val, h0⟩ ⟨(y 1).val, h1⟩ : S128x512.Idx) := funext fun a => by fin_cases a <;> rfl
  exact (congrArg _ ey).trans (point m c t ⟨(y 0).val, h0⟩ ⟨(y 1).val, h1⟩ _ _)

end Cert.KernelIdeal.Win

end
-- ==== Proof.WinClaims.lean ====
/- The claims about the window attention. -/
module

public import proofs.«01_k».proof.Defs
public import proofs.«01_k».proof.Proof.WinFinal
public import proofs.«01_k».proof.Proof.Gen.Kernel.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Win

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem preserves : Cert.preserves_Kernel_KernelIdeal :=
  ⟨IdealRules.named_const.statement Cert.KernelIdeal.κ "s" .f32 0x3DB504F3#32 (((Real.sqrt 128)⁻¹ : ℝ) : EReal) rfl,
    IdealRules.named_const.statement Cert.KernelIdeal.κ "mask" .f32 0xF149F2CA#32 ⊥ rfl⟩

/-- The reference's array at every row and column. -/
theorem ref_eq (z : FVec Ideal Cert.ReferenceIdeal.S8192x11520 .f32) :
    Cert.ReferenceIdeal.Read.val_main_v40 (F := Ideal) z = fun i => Cert.ReferenceIdeal.Win.win z (i 0) (i 1) := by
  funext i
  idx_vars i
  exact Cert.ReferenceIdeal.Win.out z i0 i1

/-- Both programs end with the window attention of their argument. -/
theorem algebraic : Cert.algebraic_KernelIdeal_ReferenceIdeal := fun m ρ m' ρ' _ hag =>
  ⟨fun c => fun i => Cert.ReferenceIdeal.Win.win (m ((c : Thread Cert.KernelIdeal.nD Cert.KernelIdeal.τ).loc Cert.KernelIdeal.main_arg0)) (i 0) (i 1),
    (θ_run _ _ _).mono (fun _ h c => ⟨(h c).1.trans (Cert.KernelIdeal.Win.final m c), (h c).2⟩)
      (Cert.KernelIdeal.Value.run_blocks (F := Ideal) m ρ),
    (θ_run _ _ _).mono (fun _ h c => ⟨(h c).1.trans ((Cert.ReferenceIdeal.Read.val_main_v40_eq (F := Ideal) _ _).trans
        ((ref_eq _).trans (by rw [hag c]; rfl))), (h c).2⟩)
      (Cert.ReferenceIdeal.Value.run (F := Ideal) m' ρ')⟩

end Cert.Proof.Win

end
-- ==== Proof.ProjBody.lean ====
/- What one grid point of the input projection leaves behind: the normalised row block kept in the
   scratch, and the product of that block with the point's block of columns. -/
module

public import proofs.«01_k».proof.Proof.Gen.Kernel2Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

variable (m : (ℓ : Loc nD τ sig) → Buf (Elt Ideal) ℓ)

/-- The three block indices at a point: row block `t / 15`, column block `t % 15`. -/
theorem idx : ∀ t : Fin cfg0.N, win0_0.index t = ![t.val / 15, 0] ∧ win0_1.index t = ![0, 0]
    ∧ win0_2.index t = ![0, t.val % 15] ∧ win0_3.index t = ![t.val / 15, t.val % 15] :=
  (by decide +kernel : ∀ t : Fin grid0.N, _)

/-- The first point of a run leaves the normalised row block in the scratch. -/
theorem scr_A (c : Dev nD) (t : Fin cfg0.N) (h : t.val % 15 = 0) :
    (outsAt0 m c t.val t.isLt).2 = k0_pay1 (iblk m c 0 t) (iblk m c 1 t) := by
  rw [outsAt0_A m c t h]
  frame_out

/-- The later points of a run leave the scratch as it was. -/
theorem scr_B (c : Dev nD) (t : Fin cfg0.N) (h : ¬t.val % 15 = 0) :
    (outsAt0 m c t.val t.isLt).2 = (outsAt0 m c (t.val - 1) (Nat.lt_of_le_of_lt (Nat.sub_le _ _) t.isLt)).2 := by
  rw [outsAt0_B m c t h]
  dsimp only
  unfold sout0_B_0
  first | rfl | frame_out

/-- What a point writes to its output block, over what it leaves in the scratch. -/
theorem out_eq (c : Dev nD) (t : Fin cfg0.N) :
    (outsAt0 m c t.val t.isLt).1 = k0_pay2 (outsAt0 m c t.val t.isLt).2 (iblk m c 2 t) := by
  by_cases h : t.val % 15 = 0
  · rw [scr_A m c t h, outsAt0_A m c t h]
    frame_out
  · rw [scr_B m c t h, outsAt0_B m c t h]
    frame_out
    simp only [read_unread_whole]

end Cert.Kernel2Ideal.Proj

end
-- ==== Proof.ProjEntry.lean ====
/- The three host-made operands of the input projection when its region starts: the rows of both sequences one
   after the other, the weight matrix with its columns put in the kernel's order, and the gain as a one-row matrix. -/
module

public import proofs.«01_k».proof.Proof.ProjBody
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

variable (m : (ℓ : Loc nD τ sig) → Buf (Elt Ideal) ℓ)

/-- The layer's weights as a matrix. -/
abbrev mat (w : FVec Ideal S1x2048x11312 .f32) : FVec Ideal S2048x11312 .f32 := shapeCast S2048x11312 w shapeCasts_S1x2048x11312_S2048x11312

/-- The layer's weight matrix with its columns in the kernel's order, padded with zero columns. -/
def cols (w : FVec Ideal S1x2048x11312 .f32) : FVec Ideal S2048x11520 .bf16 :=
  truncf .bf16 (concatenate S2048x11520 1
    [⟨S2048x5120, extractStridedSlice S2048x5120 ![0, 0] (mat w) slices_S2048x11312_S2048x5120_0_0⟩,
     ⟨S2048x6144, extractStridedSlice S2048x6144 ![0, 5168] (mat w) slices_S2048x11312_S2048x6144_0_5168⟩,
     ⟨S2048x48, extractStridedSlice S2048x48 ![0, 5120] (mat w) slices_S2048x11312_S2048x48_0_5120⟩,
     ⟨S2048x208, broadcastInDim S2048x208 ![] bcast_S_S2048x208 (constant S_ .f32 0#32)⟩]
    concatenates_S2048x5120_S2048x6144_S2048x48_S2048x208_S2048x11520_d1 : FVec Ideal S2048x11520 .f32) bitsLt_bf16_f32

set_option maxHeartbeats 2000000 in
/-- The weight operand at the region's start. -/
theorem entry_w (c : Dev nD) : V m c main_v8 = cols (m ((c : Thread nD τ).loc main_arg2)) := by
  entry_read
  rfl

/-- The gain operand at the region's start. -/
theorem entry_g (c : Dev nD) : V m c main_v9
    = shapeCast S1x2048 (shapeCast S2048 (m ((c : Thread nD τ).loc main_arg1) : FVec Ideal S1x2048 .f32) shapeCasts_S1x2048_S2048)
        shapeCasts_S2048_S1x2048 := by
  entry_read
  rfl

/-- The input operand at the region's start: the rows of both sequences one after the other. -/
theorem entry_x (c : Dev nD) : V m c main_v0
    = shapeCast S8192x2048 (m ((c : Thread nD τ).loc main_arg0) : FVec Ideal S2x4096x2048 .f32) shapeCasts_S2x4096x2048_S8192x2048 := by
  entry_read
  rfl

/-- A column of the reordered matrix: the first 5120 columns, then from column 5168 on, then the 48 gate
    columns between, then zeros. -/
theorem cols_apply (w : FVec Ideal S1x2048x11312 .f32) (k : Fin 2048) (l : Fin 11520) :
    cols w (ix2 k l) = if h : l.val < 5120 then w (ix3 0 k ⟨l.val, by omega⟩)
      else if h : l.val - 5120 < 6144 then w (ix3 0 k ⟨5168 + (l.val - 5120), by omega⟩)
      else if h : l.val - 5120 - 6144 < 48 then w (ix3 0 k ⟨5120 + (l.val - 5120 - 6144), by omega⟩) else 0 := by
  pointwise [cols, mat]

end Cert.Kernel2Ideal.Proj

end
-- ==== Proof.ProjFinal.lean ====
/- The array the input projection leaves: at every row and column the product of the normalised row with the
   reordered weight column; the slices of it that are new keys and values; and the reference's arrays read the same
   way. -/
module

public import proofs.«01_k».proof.Proof.ProjEntry
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

variable (m : (ℓ : Loc nD τ sig) → Buf (Elt Ideal) ℓ)

/-- An entry of the normalised input: the row divided by its root mean square, times the gain. -/
def nrm {n : ℕ} (x : Fin n → Fin 2048 → EReal) (g : Fin 2048 → EReal) (r : Fin n) (k : Fin 2048) : EReal :=
  x r k * Ideal.rsqrt (Ideal.div (∑ j, x r j * x r j) (Ideal.ofBits FTy.f32 1157627904#32)
    + Ideal.ofBits FTy.f32 897988541#32) * g k

/-- The rows of both sequences one after the other. -/
def row (x : FVec Ideal S2x4096x2048 .f32) (r : Fin 8192) (j : Fin 2048) : EReal :=
  x (ix3 ⟨r.val / 4096, by omega⟩ ⟨r.val % 4096, by omega⟩ j)

/-- The product of the normalised input with the reordered weights. -/
def proj (x : FVec Ideal S2x4096x2048 .f32) (g : FVec Ideal S1x2048 .f32) (w : FVec Ideal S1x2048x11312 .f32) :
    FVec Ideal S8192x11520 .f32 :=
  fun i => ∑ k : Fin 2048, nrm (row x) (fun j => g (ix2 0 j)) (i 0) k * cols w (ix2 k (i 1))

theorem proj_apply (x : FVec Ideal S2x4096x2048 .f32) (g : FVec Ideal S1x2048 .f32) (w : FVec Ideal S1x2048x11312 .f32)
    (r : Fin 8192) (l : Fin 11520) :
    proj x g w (ix2 r l) = ∑ k : Fin 2048, nrm (row x) (fun j => g (ix2 0 j)) r k * cols w (ix2 k l) := rfl

/-- The normalised entry depends on its row and its gain only. -/
theorem nrm_congr {n n' : ℕ} (x : Fin n → Fin 2048 → EReal) (x' : Fin n' → Fin 2048 → EReal) (g g' : Fin 2048 → EReal)
    (r : Fin n) (r' : Fin n') (k : Fin 2048) (h : ∀ j, x r j = x' r' j) (hg : g k = g' k) :
    nrm x g r k = nrm x' g' r' k := by
  unfold nrm
  rw [hg, h k]
  simp only [h]

/-- What a point stores, read at an index of its block. -/
theorem pay (X : FVec Ideal S1024x2048 .f32) (G : FVec Ideal S1x2048 .f32) (W : FVec Ideal S2048x768 .bf16)
    (y : S1024x768.Idx) :
    (k0_pay2 (F := Ideal) (k0_pay1 (F := Ideal) X G : FVec Ideal S1024x2048 .bf16) W : FVec Ideal S1024x768 .f32) y
      = ∑ k : Fin 2048, nrm (fun (r : Fin 1024) j => X (ix2 r j)) (fun j => G (ix2 0 j)) (y 0) k * W (ix2 k (y 1)) := by
  pointwise [k0_pay2, k0_pay1, nrm]

/-- The scratch after any point: the normalised row block of the point's run. -/
theorem scr (c : Dev nD) (t : Fin cfg0.N) :
    (outsAt0 m c t.val t.isLt).2 = k0_pay1 (iblk m c 0 ⟨15 * (t.val / 15), Pipeline.run_start_lt t⟩)
      (iblk m c 1 ⟨15 * (t.val / 15), Pipeline.run_start_lt t⟩) :=
  Pipeline.eq_of_write_hold (fun n h => (outsAt0 m c n h).2) 15 (fun t => k0_pay1 (iblk m c 0 t) (iblk m c 1 t))
    (scr_A m c) (scr_B m c) t

/-- The reshape that puts the rows of both sequences one after the other. -/
theorem flat_apply (x : FVec Ideal S2x4096x2048 .f32) (r : Fin 8192) (j : Fin 2048) :
    shapeCast S8192x2048 x shapeCasts_S2x4096x2048_S8192x2048 (ix2 r j) = row x r j := by
  pointwise [row]

/-- The row block a run's first point staged, read in the argument. -/
theorem blk_x (c : Dev nD) (t : Fin cfg0.N) (r : Fin 1024) (j : Fin 2048) (h : t.val / 15 * 1024 + r.val < 8192) :
    (iblk m c 0 ⟨15 * (t.val / 15), Pipeline.run_start_lt t⟩ : FVec Ideal S1024x2048 .f32) (ix2 r j)
      = row (m ((c : Thread nD τ).loc main_arg0)) ⟨t.val / 15 * 1024 + r.val, h⟩ j := by
  have e : (iblk m c 0 ⟨15 * (t.val / 15), Pipeline.run_start_lt t⟩ : FVec Ideal S1024x2048 .f32) (ix2 r j)
      = (V m c main_v0 : FVec Ideal S8192x2048 .f32) (ix2 ⟨t.val / 15 * 1024 + r.val, h⟩ j) := by
    blk_ext [iblk, idx ⟨15 * (t.val / 15), Pipeline.run_start_lt t⟩]
  rw [e, entry_x, flat_apply]

/-- The gain block is the gain. -/
theorem blk_g (c : Dev nD) (t : Fin cfg0.N) (j : Fin 2048) :
    (iblk m c 1 t : FVec Ideal S1x2048 .f32) (ix2 0 j) = m ((c : Thread nD τ).loc main_arg1) (ix2 0 j) := by
  have e : (iblk m c 1 t : FVec Ideal S1x2048 .f32) (ix2 0 j) = (V m c main_v9 : FVec Ideal S1x2048 .f32) (ix2 0 j) := by
    blk_ext [iblk, idx t]
  rw [e, entry_g]
  pointwise

/-- The column block a point staged, read in the reordered weights. -/
theorem blk_w (c : Dev nD) (t : Fin cfg0.N) (k : Fin 2048) (l : Fin 768) (h : t.val % 15 * 768 + l.val < 11520) :
    (iblk m c 2 t : FVec Ideal S2048x768 .bf16) (ix2 k l)
      = cols (m ((c : Thread nD τ).loc main_arg2)) (ix2 k ⟨t.val % 15 * 768 + l.val, h⟩) := by
  have e : (iblk m c 2 t : FVec Ideal S2048x768 .bf16) (ix2 k l)
      = (V m c main_v8 : FVec Ideal S2048x11520 .bf16) (ix2 k ⟨t.val % 15 * 768 + l.val, h⟩) := by
    blk_ext [iblk, idx t]
  rw [e, entry_w]

/-- The result array after the run. -/
theorem final (c : Dev nD) : (dats m 0 c).arrAt 3 cfg0.N
    = proj (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out_eq m c t, scr m c t]
  have hN : t.val < 120 := lt_of_lt_of_eq t.isLt N_0
  have h0 : (y 0).val < 1024 := (y 0).isLt
  have h1 : (y 1).val < 768 := (y 1).isLt
  have e : (win0_3.blk t).view.emb y
      = (ix2 ⟨t.val / 15 * 1024 + (y 0).val, by omega⟩ ⟨t.val % 15 * 768 + (y 1).val, by omega⟩ : S8192x11520.Idx) := by
    blk_ext [idx t]
  rw [e, proj_apply]
  refine (pay _ _ _ y).trans (Finset.sum_congr rfl fun k _ => ?_)
  refine congrArg₂ (· * ·) ?_ (blk_w m c t k (y 1) _)
  exact nrm_congr _ _ _ _ (y 0) _ k (fun j => blk_x m c t (y 0) j (by omega)) (blk_g m c _ k)

/-- 512 columns of the product as heads of keys or values. -/
def heads (off : ℕ) (h : off + 512 ≤ 11520) (z : FVec Ideal S8192x11520 .f32) : FVec Ideal S1x2x4096x4x128 .f32 := fun i =>
  z (ix2 ⟨(i 1).val * 4096 + (i 2).val, by have h1 : (i 1).val < 2 := (i 1).isLt; have h2 : (i 2).val < 4096 := (i 2).isLt; omega⟩
    ⟨off + ((i 3).val * 128 + (i 4).val), by have h3 : (i 3).val < 4 := (i 3).isLt; have h4 : (i 4).val < 128 := (i 4).isLt; omega⟩)

/-- The last 512 positions of `heads`. -/
def last (off : ℕ) (h : off + 512 ≤ 11520) (z : FVec Ideal S8192x11520 .f32) : FVec Ideal S1x2x512x4x128 .f32 := fun i =>
  z (ix2 ⟨(i 1).val * 4096 + (3584 + (i 2).val), by have h1 : (i 1).val < 2 := (i 1).isLt; have h2 : (i 2).val < 512 := (i 2).isLt; omega⟩
    ⟨off + ((i 3).val * 128 + (i 4).val), by have h3 : (i 3).val < 4 := (i 3).isLt; have h4 : (i 4).val < 128 := (i 4).isLt; omega⟩)

/-- The host's slice and reshape of the product, for any slice of 512 columns. -/
theorem heads_eq (off : ℕ) (h : off + 512 ≤ 11520) (hs : S8192x11520.Slices ![0, off] S8192x512) {y z : FVec Ideal S8192x11520 .f32}
    (hz : y = z) :
    broadcastInDim S1x2x4096x4x128 ![1, 2, 3, 4] bcast_S2x4096x4x128_S1x2x4096x4x128_1_2_3_4
      (shapeCast S2x4096x4x128 (extractStridedSlice S8192x512 ![0, off] y hs) shapeCasts_S8192x512_S2x4096x4x128) = heads off h z := by
  subst hz
  funext i
  idx_vars i
  pointwise [heads]

theorem last_eq (off : ℕ) (h : off + 512 ≤ 11520) (hs : S8192x11520.Slices ![0, off] S8192x512) {y z : FVec Ideal S8192x11520 .f32}
    (hz : y = z) :
    broadcastInDim S1x2x512x4x128 ![1, 2, 3, 4] bcast_S2x512x4x128_S1x2x512x4x128_1_2_3_4
      (extractStridedSlice S2x512x4x128 ![0, 3584, 0, 0]
        (shapeCast S2x4096x4x128 (extractStridedSlice S8192x512 ![0, off] y hs) shapeCasts_S8192x512_S2x4096x4x128)
        slices_S2x4096x4x128_S2x512x4x128_0_3584_0_0) = last off h z := by
  subst hz
  funext i
  idx_vars i
  pointwise [last]

end Cert.Kernel2Ideal.Proj

namespace Cert.Reference2Ideal.Proj

open Cert.Reference2Ideal Cert.Reference2Ideal.Gen Cert.Reference2Ideal.Read

variable (x : FVec Ideal S2x4096x2048 .f32) (g : FVec Ideal S1x2048 .f32) (w : FVec Ideal S1x2048x11312 .f32)

/-- An entry of the reference's product. -/
theorem prod_apply (b : Fin 2) (t : Fin 4096) (l : Fin 11312) :
    (val_main_v15 (F := Ideal) x g w : FVec Ideal S2x4096x11312 .f32) (ix3 b t l)
      = ∑ k : Fin 2048, Cert.Kernel2Ideal.Proj.nrm (fun (t : Fin 4096) j => x (ix3 b t j)) (fun j => g (ix2 0 j)) t k * w (ix3 0 k l) := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, Cert.Kernel2Ideal.Proj.nrm]

/-- A row of the reference's product over the rows of both sequences. -/
theorem row_apply (r : Fin 8192) (b : Fin 2) (t : Fin 4096) (h : r.val = b.val * 4096 + t.val) (l : Fin 11312) :
    (val_main_v15 (F := Ideal) x g w : FVec Ideal S2x4096x11312 .f32) (ix3 b t l)
      = ∑ k : Fin 2048, Cert.Kernel2Ideal.Proj.nrm (Cert.Kernel2Ideal.Proj.row x) (fun j => g (ix2 0 j)) r k * w (ix3 0 k l) := by
  rw [prod_apply]
  refine Finset.sum_congr rfl fun k _ => congrArg (· * _) (Cert.Kernel2Ideal.Proj.nrm_congr _ _ _ _ t r k (fun j => ?_) rfl)
  unfold Cert.Kernel2Ideal.Proj.row
  exact congrArg₂ (fun b t => x (ix3 b t j)) (Fin.ext (by dsimp only; omega)) (Fin.ext (by dsimp only; omega))

/-- The reference's array is the kernel's. -/
theorem ref_eq : val_main_v33 (F := Ideal) x g w = Cert.Kernel2Ideal.Proj.proj x g w := by
  funext i
  idx_vars i
  refine Eq.trans ?_ (Cert.Kernel2Ideal.Proj.proj_apply x g w i0 i1).symm
  simp only [Cert.Kernel2Ideal.Proj.cols_apply]
  pointwise [val_main_v33, val_main_v32, val_main_v29, val_main_v30, val_main_v31, val_main_v28, val_main_cst_2]
  have hr : i0.val = i0.val / 4096 * 4096 + i0.val % 4096 := by omega
  have e := row_apply x g w i0 ⟨i0.val / 4096, by omega⟩ ⟨i0.val % 4096, by omega⟩ hr
  by_cases h1 : i1.val < 5120
  · simp only [dif_pos h1, e]
  by_cases h2 : i1.val - 5120 < 6144
  · simp only [dif_neg h1, dif_pos h2, e]
  by_cases h3 : i1.val - 5120 - 6144 < 48
  · simp only [dif_neg h1, dif_neg h2, dif_pos h3, e]
  · simp only [dif_neg h1, dif_neg h2, dif_neg h3, mul_zero, Finset.sum_const_zero]

/-- An entry of the product in a column that the reordering keeps in its place. -/
theorem low_apply (r : Fin 8192) (b : Fin 2) (t : Fin 4096) (h : r.val = b.val * 4096 + t.val) (l : Fin 11312) (l' : Fin 11520)
    (e : l.val = l'.val) (hl : l.val < 5120) :
    (val_main_v15 (F := Ideal) x g w : FVec Ideal S2x4096x11312 .f32) (ix3 b t l) = Cert.Kernel2Ideal.Proj.proj x g w (ix2 r l') := by
  rw [row_apply x g w r b t h, Cert.Kernel2Ideal.Proj.proj_apply]
  refine Finset.sum_congr rfl fun k _ => congrArg₂ (· * ·) rfl ?_
  rw [Cert.Kernel2Ideal.Proj.cols_apply, dif_pos (by omega)]
  exact congrArg (fun l => w (ix3 0 k l)) (Fin.ext e)

theorem heads0 : val_main_v34 (F := Ideal) x g w = Cert.Kernel2Ideal.Proj.heads 2048 (by omega) (Cert.Kernel2Ideal.Proj.proj x g w) := by
  funext i
  idx_vars i
  pointwise [val_main_v34, val_main_v17, val_main_v16]
  exact low_apply x g w _ _ _ rfl _ _ rfl (by dsimp only; omega)

theorem heads1 : val_main_v35 (F := Ideal) x g w = Cert.Kernel2Ideal.Proj.heads 2560 (by omega) (Cert.Kernel2Ideal.Proj.proj x g w) := by
  funext i
  idx_vars i
  pointwise [val_main_v35, val_main_v19, val_main_v18]
  exact low_apply x g w _ _ _ rfl _ _ rfl (by dsimp only; omega)

theorem heads2 : val_main_v36 (F := Ideal) x g w = Cert.Kernel2Ideal.Proj.heads 3072 (by omega) (Cert.Kernel2Ideal.Proj.proj x g w) := by
  funext i
  idx_vars i
  pointwise [val_main_v36, val_main_v21, val_main_v20]
  exact low_apply x g w _ _ _ rfl _ _ rfl (by dsimp only; omega)

theorem heads3 : val_main_v37 (F := Ideal) x g w = Cert.Kernel2Ideal.Proj.heads 3584 (by omega) (Cert.Kernel2Ideal.Proj.proj x g w) := by
  funext i
  idx_vars i
  pointwise [val_main_v37, val_main_v23, val_main_v22]
  exact low_apply x g w _ _ _ rfl _ _ rfl (by dsimp only; omega)

theorem last0 : val_main_v39 (F := Ideal) x g w = Cert.Kernel2Ideal.Proj.last 4096 (by omega) (Cert.Kernel2Ideal.Proj.proj x g w) := by
  funext i
  idx_vars i
  pointwise [val_main_v39, val_main_v38, val_main_v25, val_main_v24]
  exact low_apply x g w _ _ _ rfl _ _ rfl (by dsimp only; omega)

theorem last1 : val_main_v41 (F := Ideal) x g w = Cert.Kernel2Ideal.Proj.last 4608 (by omega) (Cert.Kernel2Ideal.Proj.proj x g w) := by
  funext i
  idx_vars i
  pointwise [val_main_v41, val_main_v40, val_main_v27, val_main_v26]
  exact low_apply x g w _ _ _ rfl _ _ rfl (by dsimp only; omega)

end Cert.Reference2Ideal.Proj

end
-- ==== Proof.ProjClaims.lean ====
/- The claims about the input projection. -/
module

public import proofs.«01_k».proof.Defs
public import proofs.«01_k».proof.Proof.ProjFinal
public import proofs.«01_k».proof.Proof.Gen.Kernel2.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Proj

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)
theorem preserves : Cert.preserves_Kernel2_Kernel2Ideal := trivial

/-- The product the kernel leaves in its result array, from the arguments as launched. -/
abbrev z (m : (ℓ : Loc Cert.Kernel2Ideal.nD Cert.Kernel2Ideal.τ Cert.Kernel2Ideal.sig) → Buf (Elt Ideal) ℓ) (c : Dev Cert.Kernel2Ideal.nD) :
    FVec Ideal Cert.Kernel2Ideal.S8192x11520 .f32 :=
  Cert.Kernel2Ideal.Proj.proj (m ((c : Thread Cert.Kernel2Ideal.nD Cert.Kernel2Ideal.τ).loc Cert.Kernel2Ideal.main_arg0))
    (m ((c : Thread Cert.Kernel2Ideal.nD Cert.Kernel2Ideal.τ).loc Cert.Kernel2Ideal.main_arg1))
    (m ((c : Thread Cert.Kernel2Ideal.nD Cert.Kernel2Ideal.τ).loc Cert.Kernel2Ideal.main_arg2))

theorem region (m : (ℓ : Loc Cert.Kernel2Ideal.nD Cert.Kernel2Ideal.τ Cert.Kernel2Ideal.sig) → Buf (Elt Ideal) ℓ) (c : Dev Cert.Kernel2Ideal.nD) :
    Cert.Kernel2Ideal.Value.reg_main_v10 m c = z m c := Cert.Kernel2Ideal.Proj.final m c

/-- Both programs end with the product of the normalised input with the reordered weights, and with the six
    slices of it that are the layer's new keys and values. -/
theorem algebraic : Cert.algebraic_Kernel2Ideal_Reference2Ideal := fun m ρ m' ρ' _ hag =>
  have same : ∀ c : Dev Cert.Kernel2Ideal.nD, Cert.Kernel2Ideal.Proj.proj
      (m' ((c : Thread Cert.Reference2Ideal.nD Cert.Reference2Ideal.τ).loc Cert.Reference2Ideal.main_arg0))
      (m' ((c : Thread Cert.Reference2Ideal.nD Cert.Reference2Ideal.τ).loc Cert.Reference2Ideal.main_arg1))
      (m' ((c : Thread Cert.Reference2Ideal.nD Cert.Reference2Ideal.τ).loc Cert.Reference2Ideal.main_arg2)) = z m c := fun c => by
    rw [(hag c).1, (hag c).2.1, (hag c).2.2]
  ⟨fun c => z m c,
    fun c => Cert.Kernel2Ideal.Proj.heads 2048 (by omega) (z m c),
    fun c => Cert.Kernel2Ideal.Proj.heads 2560 (by omega) (z m c),
    fun c => Cert.Kernel2Ideal.Proj.heads 3072 (by omega) (z m c),
    fun c => Cert.Kernel2Ideal.Proj.heads 3584 (by omega) (z m c),
    fun c => Cert.Kernel2Ideal.Proj.last 4096 (by omega) (z m c),
    fun c => Cert.Kernel2Ideal.Proj.last 4608 (by omega) (z m c),
    (θ_run _ _ _).mono (fun _ h c =>
        have ⟨h0, h1, h2, h3, h4, h5, h6, ha⟩ := h c
        ⟨h0.trans (region m c), h1.trans (Cert.Kernel2Ideal.Proj.heads_eq 2048 (by omega) _ (region m c)), h2.trans (Cert.Kernel2Ideal.Proj.heads_eq 2560 (by omega) _ (region m c)),
          h3.trans (Cert.Kernel2Ideal.Proj.heads_eq 3072 (by omega) _ (region m c)), h4.trans (Cert.Kernel2Ideal.Proj.heads_eq 3584 (by omega) _ (region m c)),
          h5.trans (Cert.Kernel2Ideal.Proj.last_eq 4096 (by omega) _ (region m c)), h6.trans (Cert.Kernel2Ideal.Proj.last_eq 4608 (by omega) _ (region m c)), ha⟩)
      (Cert.Kernel2Ideal.Value.run (F := Ideal) m ρ),
    (θ_run _ _ _).mono (fun _ h c =>
        have ⟨h0, h1, h2, h3, h4, h5, h6, ha⟩ := h c
        ⟨h0.trans ((Cert.Reference2Ideal.Read.val_main_v33_eq (F := Ideal) _ _ _).trans
            ((Cert.Reference2Ideal.Proj.ref_eq _ _ _).trans (same c))),
          h1.trans ((Cert.Reference2Ideal.Read.val_main_v34_eq (F := Ideal) _ _ _).trans
            ((Cert.Reference2Ideal.Proj.heads0 _ _ _).trans (congrArg (Cert.Kernel2Ideal.Proj.heads 2048 (by omega)) (same c)))),
          h2.trans ((Cert.Reference2Ideal.Read.val_main_v35_eq (F := Ideal) _ _ _).trans
            ((Cert.Reference2Ideal.Proj.heads1 _ _ _).trans (congrArg (Cert.Kernel2Ideal.Proj.heads 2560 (by omega)) (same c)))),
          h3.trans ((Cert.Reference2Ideal.Read.val_main_v36_eq (F := Ideal) _ _ _).trans
            ((Cert.Reference2Ideal.Proj.heads2 _ _ _).trans (congrArg (Cert.Kernel2Ideal.Proj.heads 3072 (by omega)) (same c)))),
          h4.trans ((Cert.Reference2Ideal.Read.val_main_v37_eq (F := Ideal) _ _ _).trans
            ((Cert.Reference2Ideal.Proj.heads3 _ _ _).trans (congrArg (Cert.Kernel2Ideal.Proj.heads 3584 (by omega)) (same c)))),
          h5.trans ((Cert.Reference2Ideal.Read.val_main_v39_eq (F := Ideal) _ _ _).trans
            ((Cert.Reference2Ideal.Proj.last0 _ _ _).trans (congrArg (Cert.Kernel2Ideal.Proj.last 4096 (by omega)) (same c)))),
          h6.trans ((Cert.Reference2Ideal.Read.val_main_v41_eq (F := Ideal) _ _ _).trans
            ((Cert.Reference2Ideal.Proj.last1 _ _ _).trans (congrArg (Cert.Kernel2Ideal.Proj.last 4608 (by omega)) (same c)))),
          ha⟩)
      (Cert.Reference2Ideal.Value.run (F := Ideal) m' ρ')⟩

end Cert.Proof.Proj

end
-- ==== Proof.OutFinal.lean ====
/- The output projection: the residual row plus the product of the merged row with the weights, and that sum
   normalised; what the kernel leaves in its two result arrays, and what the reference computes. -/
module

public import proofs.«01_k».proof.Proof.ProjFinal
public import proofs.«01_k».proof.Proof.Gen.Kernel3Ideal.Value
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.Kernel3Ideal.Out

open Cert.Kernel3Ideal Cert.Kernel3Ideal.Gen
open Cert.Kernel2Ideal.Proj (nrm nrm_congr)

variable (m : (ℓ : Loc nD τ sig) → Buf (Elt Ideal) ℓ)

/-- The residual row plus the product of the merged row with the weights. -/
def res {n : ℕ} (a : Fin n → Fin 2048 → EReal) (x : Fin n → Fin 2048 → EReal) (w : Fin 2048 → Fin 2048 → EReal)
    (r : Fin n) (l : Fin 2048) : EReal :=
  x r l + ∑ k : Fin 2048, a r k * w k l

/-- The first result. -/
def hid (a : FVec Ideal S8192x2048 .bf16) (x : FVec Ideal S8192x2048 .f32) (w : FVec Ideal S2048x2048 .f32) :
    FVec Ideal S8192x2048 .f32 :=
  fun i => res (fun (r : Fin 8192) k => a (ix2 r k)) (fun r k => x (ix2 r k)) (fun k l => w (ix2 k l)) (i 0) (i 1)

/-- The second result: the first one normalised. -/
def hidn (a : FVec Ideal S8192x2048 .bf16) (x : FVec Ideal S8192x2048 .f32) (w : FVec Ideal S2048x2048 .f32)
    (g : FVec Ideal S2048 .f32) : FVec Ideal S8192x2048 .bf16 :=
  fun i => nrm (res (fun (r : Fin 8192) k => a (ix2 r k)) (fun r k => x (ix2 r k)) (fun k l => w (ix2 k l)))
    (fun l => g (ix1 l)) (i 0) (i 1)

theorem res_congr {n n' : ℕ} (a : Fin n → Fin 2048 → EReal) (a' : Fin n' → Fin 2048 → EReal) (x : Fin n → Fin 2048 → EReal)
    (x' : Fin n' → Fin 2048 → EReal) (w w' : Fin 2048 → Fin 2048 → EReal) (r : Fin n) (r' : Fin n') (l : Fin 2048)
    (ha : ∀ k, a r k = a' r' k) (hx : x r l = x' r' l) (hw : ∀ k, w k l = w' k l) :
    res a x w r l = res a' x' w' r' l := by
  unfold res
  simp only [ha, hx, hw]

/-- The block indices at a point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The weights cast to the kernel's narrow type. -/
def narrow (w : FVec Ideal S2048x2048 .f32) : FVec Ideal S2048x2048 .bf16 := truncf .bf16 w bitsLt_bf16_f32

theorem entry_w (c : Dev nD) : V m c main_v0 = narrow (m ((c : Thread nD τ).loc main_arg2)) := by
  entry_read
  rfl

theorem entry_g (c : Dev nD) : V m c main_v1
    = shapeCast S1x2048 (m ((c : Thread nD τ).loc main_arg3) : FVec Ideal S2048 .f32) shapeCasts_S2048_S1x2048 := by
  entry_read
  rfl

theorem out4 (x0 : Vec Ideal S256x2048 .bf16) (x1 : Vec Ideal S256x2048 .f32) (x2 : Vec Ideal S2048x2048 .bf16)
    (x3 : Vec Ideal S1x2048 .f32) : out0_4 x0 x1 x2 x3 = k0_pay1 x1 x0 x2 := by
  frame_out

theorem out5 (x0 : Vec Ideal S256x2048 .bf16) (x1 : Vec Ideal S256x2048 .f32) (x2 : Vec Ideal S2048x2048 .bf16)
    (x3 : Vec Ideal S1x2048 .f32) : out0_5 x0 x1 x2 x3 = k0_pay2 x1 x0 x2 x3 := by
  frame_out

/-- The first store at an index of its block. -/
theorem pay1 (X : FVec Ideal S256x2048 .f32) (A : FVec Ideal S256x2048 .bf16) (W : FVec Ideal S2048x2048 .bf16)
    (r : Fin 256) (l : Fin 2048) :
    (k0_pay1 (F := Ideal) X A W : FVec Ideal S256x2048 .f32) (ix2 r l)
      = res (fun (r : Fin 256) k => A (ix2 r k)) (fun r k => X (ix2 r k)) (fun k l => W (ix2 k l)) r l := by
  pointwise [k0_pay1, res]

/-- The second store at an index of its block. -/
theorem pay2 (X : FVec Ideal S256x2048 .f32) (A : FVec Ideal S256x2048 .bf16) (W : FVec Ideal S2048x2048 .bf16)
    (G : FVec Ideal S1x2048 .f32) (r : Fin 256) (l : Fin 2048) :
    (k0_pay2 (F := Ideal) X A W G : FVec Ideal S256x2048 .bf16) (ix2 r l)
      = nrm (res (fun (r : Fin 256) k => A (ix2 r k)) (fun r k => X (ix2 r k)) (fun k l => W (ix2 k l)))
          (fun l => G (ix2 0 l)) r l := by
  pointwise [k0_pay2, k0_pay1, nrm, res]

theorem blk_a (c : Dev nD) (t : Fin cfg0.N) (r : Fin 256) (j : Fin 2048) (h : t.val * 256 + r.val < 8192) :
    (iblk m c 0 t : FVec Ideal S256x2048 .bf16) (ix2 r j)
      = m ((c : Thread nD τ).loc main_arg0) (ix2 ⟨t.val * 256 + r.val, h⟩ j) := by
  blk_ext [iblk, V, idx t]

theorem blk_x (c : Dev nD) (t : Fin cfg0.N) (r : Fin 256) (j : Fin 2048) (h : t.val * 256 + r.val < 8192) :
    (iblk m c 1 t : FVec Ideal S256x2048 .f32) (ix2 r j)
      = m ((c : Thread nD τ).loc main_arg1) (ix2 ⟨t.val * 256 + r.val, h⟩ j) := by
  blk_ext [iblk, V, idx t]

theorem blk_w (c : Dev nD) (t : Fin cfg0.N) (k l : Fin 2048) :
    (iblk m c 2 t : FVec Ideal S2048x2048 .bf16) (ix2 k l) = m ((c : Thread nD τ).loc main_arg2) (ix2 k l) := by
  have e : (iblk m c 2 t : FVec Ideal S2048x2048 .bf16) (ix2 k l) = (V m c main_v0 : FVec Ideal S2048x2048 .bf16) (ix2 k l) := by
    blk_ext [iblk, idx t]
  rw [e, entry_w]
  pointwise [narrow]

theorem blk_g (c : Dev nD) (t : Fin cfg0.N) (j : Fin 2048) :
    (iblk m c 3 t : FVec Ideal S1x2048 .f32) (ix2 0 j) = m ((c : Thread nD τ).loc main_arg3) (ix1 j) := by
  have e : (iblk m c 3 t : FVec Ideal S1x2048 .f32) (ix2 0 j) = (V m c main_v1 : FVec Ideal S1x2048 .f32) (ix2 0 j) := by
    blk_ext [iblk, idx t]
  rw [e, entry_g]
  pointwise

/-- A point's sum, read in the arguments. -/
theorem point (c : Dev nD) (t : Fin cfg0.N) (r : Fin 256) (l : Fin 2048) (h : t.val * 256 + r.val < 8192) :
    res (fun (r : Fin 256) k => (iblk m c 0 t : FVec Ideal S256x2048 .bf16) (ix2 r k))
        (fun r k => (iblk m c 1 t : FVec Ideal S256x2048 .f32) (ix2 r k))
        (fun k l => (iblk m c 2 t : FVec Ideal S2048x2048 .bf16) (ix2 k l)) r l
      = res (fun (r : Fin 8192) k => (m ((c : Thread nD τ).loc main_arg0) : FVec Ideal S8192x2048 .bf16) (ix2 r k))
          (fun r k => (m ((c : Thread nD τ).loc main_arg1) : FVec Ideal S8192x2048 .f32) (ix2 r k))
          (fun k l => (m ((c : Thread nD τ).loc main_arg2) : FVec Ideal S2048x2048 .f32) (ix2 k l))
          ⟨t.val * 256 + r.val, h⟩ l :=
  res_congr _ _ _ _ _ _ _ _ _ (fun k => blk_a m c t r k h) (blk_x m c t r l h) (fun k => blk_w m c t k l)

/-- The first result array after the run. -/
theorem final4 (c : Dev nD) : (dats m 0 c).arrAt 4 cfg0.N
    = hid (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, out4]
  have hN : t.val < 32 := lt_of_lt_of_eq t.isLt N_0
  have h0 : (y 0).val < 256 := (y 0).isLt
  have h1 : (y 1).val < 2048 := (y 1).isLt
  have e : (win0_4.blk t).view.emb y
      = (ix2 ⟨t.val * 256 + (y 0).val, by omega⟩ ⟨(y 1).val, h1⟩ : S8192x2048.Idx) := by
    blk_ext [idx t]
  rw [e]
  have ey : y = (ix2 ⟨(y 0).val, h0⟩ ⟨(y 1).val, h1⟩ : S256x2048.Idx) := funext fun a => by fin_cases a <;> rfl
  exact (congrArg _ ey).trans ((pay1 _ _ _ ⟨(y 0).val, h0⟩ ⟨(y 1).val, h1⟩).trans (point m c t ⟨(y 0).val, h0⟩ _ _))

/-- The second result array after the run. -/
theorem final5 (c : Dev nD) : (dats m 0 c).arrAt 5 cfg0.N
    = hidn (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5, out5]
  have hN : t.val < 32 := lt_of_lt_of_eq t.isLt N_0
  have h0 : (y 0).val < 256 := (y 0).isLt
  have h1 : (y 1).val < 2048 := (y 1).isLt
  have e : (win0_5.blk t).view.emb y
      = (ix2 ⟨t.val * 256 + (y 0).val, by omega⟩ ⟨(y 1).val, h1⟩ : S8192x2048.Idx) := by
    blk_ext [idx t]
  rw [e]
  have ey : y = (ix2 ⟨(y 0).val, h0⟩ ⟨(y 1).val, h1⟩ : S256x2048.Idx) := funext fun a => by fin_cases a <;> rfl
  refine (congrArg _ ey).trans ((pay2 _ _ _ _ ⟨(y 0).val, h0⟩ ⟨(y 1).val, h1⟩).trans ?_)
  exact nrm_congr _ _ _ _ _ _ _ (fun j => point m c t ⟨(y 0).val, h0⟩ j _) (blk_g m c t _)

end Cert.Kernel3Ideal.Out

namespace Cert.Reference3Ideal.Out

open Cert.Reference3Ideal Cert.Reference3Ideal.Gen Cert.Reference3Ideal.Read

/-- The reference's first result is the kernel's. -/
theorem ref_hid (a : FVec Ideal S8192x2048 .bf16) (x : FVec Ideal S8192x2048 .f32) (w : FVec Ideal S2048x2048 .f32) :
    val_main_v2 (F := Ideal) a x w = Cert.Kernel3Ideal.Out.hid a x w := by
  funext i
  idx_vars i
  pointwise [val_main_v2, val_main_v1, val_main_v0, Cert.Kernel3Ideal.Out.hid, Cert.Kernel3Ideal.Out.res]

/-- The reference's second result is the kernel's. -/
theorem ref_hidn (a : FVec Ideal S8192x2048 .bf16) (x : FVec Ideal S8192x2048 .f32) (w : FVec Ideal S2048x2048 .f32)
    (g : FVec Ideal S2048 .f32) :
    val_main_v16 (F := Ideal) a x w g = Cert.Kernel3Ideal.Out.hidn a x w g := by
  funext i
  idx_vars i
  pointwise [val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, Cert.Kernel3Ideal.Out.hidn, Cert.Kernel3Ideal.Out.res,
    Cert.Kernel2Ideal.Proj.nrm]

end Cert.Reference3Ideal.Out

end
-- ==== Proof.OutClaims.lean ====
/- The claims about the output projection. -/
module

public import proofs.«01_k».proof.Defs
public import proofs.«01_k».proof.Proof.OutFinal
public import proofs.«01_k».proof.Proof.Gen.Kernel3.Frame
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Out

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)
theorem preserves : Cert.preserves_Kernel3_Kernel3Ideal := trivial

/-- Both programs end with the residual sum and with that sum normalised. -/
theorem algebraic : Cert.algebraic_Kernel3Ideal_Reference3Ideal := fun m ρ m' ρ' _ hag =>
  ⟨fun c => Cert.Kernel3Ideal.Out.hid (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)),
    fun c => Cert.Kernel3Ideal.Out.hidn (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3)),
    (θ_run _ _ _).mono (fun _ h c => ⟨(h c).1.trans (Cert.Kernel3Ideal.Out.final4 m c),
        (h c).2.1.trans (Cert.Kernel3Ideal.Out.final5 m c), (h c).2.2⟩)
      (Cert.Kernel3Ideal.Value.run_blocks (F := Ideal) m ρ),
    (θ_run _ _ _).mono (fun _ h c => ⟨(h c).1.trans ((Cert.Reference3Ideal.Read.val_main_v2_eq (F := Ideal) _ _ _).trans
        ((Cert.Reference3Ideal.Out.ref_hid _ _ _).trans (by rw [(hag c).1, (hag c).2.1, (hag c).2.2.1]))),
        (h c).2.1.trans ((Cert.Reference3Ideal.Read.val_main_v16_eq (F := Ideal) _ _ _ _).trans
        ((Cert.Reference3Ideal.Out.ref_hidn _ _ _ _).trans (by rw [(hag c).1, (hag c).2.1, (hag c).2.2.1, (hag c).2.2.2]))),
        (h c).2.2⟩)
      (Cert.Reference3Ideal.Value.run (F := Ideal) m' ρ')⟩

end Cert.Proof.Out

end
-- ==== Proof.MergeBody.lean ====
/- What one grid point of the merge leaves behind: the gated sum of the three attention branches, kept in the scratch,
   and the gated sum of the two products. -/
module

public import proofs.«01_k».proof.Proof.Gen.Kernel4Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

variable (m : (ℓ : Loc nD τ sig) → Buf (Elt Ideal) ℓ)

/-- The block indices at a point: row block `t / 4`, column block `t % 4`. -/
theorem idx : ∀ t : Fin cfg0.N, win0_0.index t = ![t.val / 4, 0] ∧ win0_1.index t = ![t.val / 4, 0]
    ∧ win0_2.index t = ![t.val / 4, 0] ∧ win0_3.index t = ![t.val / 4, 44] ∧ win0_4.index t = ![t.val / 4, 0]
    ∧ win0_5.index t = ![t.val / 4, 14 + t.val % 4] ∧ win0_6.index t = ![t.val / 4, 18 + t.val % 4]
    ∧ win0_7.index t = ![0, t.val % 4] ∧ win0_8.index t = ![0, t.val % 4] ∧ win0_9.index t = ![t.val / 4, t.val % 4] :=
  (by decide +kernel : ∀ t : Fin grid0.N, _)

/-- The three branches of a row, each head weighted by its three gates. -/
def gated (C S W : FVec Ideal S256x2048 .bf16) (G : FVec Ideal S256x256 .f32) : FVec Ideal S256x2048 .bf16 := fun j =>
  have h1 : (j 1).val < 2048 := (j 1).isLt
  Ideal.logistic (G (ix2 (j 0) ⟨3 * ((j 1).val / 128), by omega⟩)) * C j
    + Ideal.logistic (G (ix2 (j 0) ⟨3 * ((j 1).val / 128) + 1, by omega⟩)) * S j
    + Ideal.logistic (G (ix2 (j 0) ⟨3 * ((j 1).val / 128) + 2, by omega⟩)) * W j

theorem gated_of (C S W : FVec Ideal S256x2048 .bf16) (G : FVec Ideal S256x256 .f32) (y : S256x2048.Idx) (r : Fin 256)
    (l : Fin 2048) (a b d : Fin 256) (h0 : (y 0).val = r.val) (h1 : l.val = (y 1).val) (ha : a.val = 3 * ((y 1).val / 128))
    (hb : b.val = 3 * ((y 1).val / 128) + 1) (hd : d.val = 3 * ((y 1).val / 128) + 2) :
    Ideal.logistic (G (ix2 r a)) * C (ix2 r l) + Ideal.logistic (G (ix2 r b)) * S (ix2 r l)
      + Ideal.logistic (G (ix2 r d)) * W (ix2 r l) = gated C S W G y := by
  have ey : ix2 r l = y := funext fun i => by fin_cases i <;> [exact Fin.ext h0.symm; exact Fin.ext h1]
  rw [ey]
  have e (u v : Fin 256) (h : u.val = v.val) : Ideal.logistic (G (ix2 r u)) = Ideal.logistic (G (ix2 (y 0) v)) :=
    congrArg (fun k => Ideal.logistic (G k)) (funext fun i => by fin_cases i <;> [exact Fin.ext h0.symm; exact Fin.ext h])
  unfold gated
  exact congrArg₂ (· + ·) (congrArg₂ (· + ·) (congrArg (· * C y) (e _ _ ha)) (congrArg (· * S y) (e _ _ hb))) (congrArg (· * W y) (e _ _ hd))

/-- The later points of a run leave the scratch as it was. -/
theorem scr_B (c : Dev nD) (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- The first point of a run leaves the gated sum in the scratch. -/
theorem scr_A (c : Dev nD) (t : Fin cfg0.N) (h : t.val % 4 = 0) :
    (outsAt0 m c t.val t.isLt).2 = gated (iblk m c 0 t) (iblk m c 1 t) (iblk m c 2 t) (iblk m c 3 t) := by
  rw [outsAt0_A m c t h]
  frame_out
  clear h
  funext y
  canon_tiles x h
  all_goals (open_payloads; pointwise)
  all_goals exact gated_of _ _ _ _ y _ _ _ _ _ h0 h1.symm (by dsimp only; omega) (by dsimp only; omega) (by dsimp only; omega)

theorem out_eq (c : Dev nD) (t : Fin cfg0.N) :
    (outsAt0 m c t.val t.isLt).1 = k0_pay2 (outsAt0 m c t.val t.isLt).2 (iblk m c 7 t) (iblk m c 4 t) (iblk m c 8 t)
      (X0_5 m c t) (X0_6 m c t) := by
  by_cases h : t.val % 4 = 0
  · rw [outsAt0_A m c t h]
    frame_out
    refine congrArg (fun s => k0_pay2 s (iblk m c 7 t) (iblk m c 4 t) (iblk m c 8 t) (X0_5 m c t) (X0_6 m c t)) ?_
    exact (View.readCov_eq_canon' _ _ _).trans (View.ld_unit_zero (funext fun a => by fin_cases a <;> rfl) _ _)
  · rw [scr_B m c t h, outsAt0_B m c t h]
    frame_out
    simp only [read_unread_whole]

end Cert.Kernel4Ideal.Merge

end
-- ==== Proof.MergeFinal.lean ====
/- The merge: what the kernel leaves in its result array, and what the reference computes. -/
module

public import proofs.«01_k».proof.Proof.MergeBody
public import proofs.«01_k».proof.Proof.Gen.Reference4Ideal.Read

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

variable (m : (ℓ : Loc nD τ sig) → Buf (Elt Ideal) ℓ)

/-- The three branches at a row and a column, weighted by the three gates of the column's head. -/
def mix (oc os ow : FVec Ideal S8192x2048 .bf16) (z : FVec Ideal S8192x11520 .f32) (r : Fin 8192) (k : Fin 2048) : EReal :=
  Ideal.logistic (z (ix2 r ⟨11264 + 3 * (k.val / 128), by omega⟩)) * oc (ix2 r k)
    + Ideal.logistic (z (ix2 r ⟨11264 + (3 * (k.val / 128) + 1), by omega⟩)) * os (ix2 r k)
    + Ideal.logistic (z (ix2 r ⟨11264 + (3 * (k.val / 128) + 2), by omega⟩)) * ow (ix2 r k)

/-- The merged row at a column. -/
def mrg (oc os ow : FVec Ideal S8192x2048 .bf16) (cy : FVec Ideal S8192x1024 .bf16) (z : FVec Ideal S8192x11520 .f32)
    (wn : FVec Ideal S2048x2048 .f32) (wc : FVec Ideal S1024x2048 .f32) (r : Fin 8192) (l : Fin 2048) : EReal :=
  Ideal.logistic (z (ix2 r ⟨7168 + l.val, by omega⟩)) * (∑ k : Fin 2048, mix oc os ow z r k * wn (ix2 k l))
    + Ideal.logistic (z (ix2 r ⟨9216 + l.val, by omega⟩)) * (∑ k : Fin 1024, cy (ix2 r k) * wc (ix2 k l))

/-- The weights cast to the kernel's narrow type. -/
def narrow_n (w : FVec Ideal S2048x2048 .f32) : FVec Ideal S2048x2048 .bf16 := truncf .bf16 w bitsLt_bf16_f32

/-- The convolution's weights cast to the kernel's narrow type. -/
def narrow_c (w : FVec Ideal S1024x2048 .f32) : FVec Ideal S1024x2048 .bf16 := truncf .bf16 w bitsLt_bf16_f32

theorem entry_n (c : Dev nD) : V m c main_v0 = narrow_n (m ((c : Thread nD τ).loc main_arg5)) := by
  entry_read
  rfl

theorem entry_c (c : Dev nD) : V m c main_v1 = narrow_c (m ((c : Thread nD τ).loc main_arg6)) := by
  entry_read
  rfl

/-- The scratch at any point of a run is the gated sum of the run's row block. -/
theorem scr (c : Dev nD) (t : Fin cfg0.N) :
    (outsAt0 m c t.val t.isLt).2 = gated (iblk m c 0 ⟨4 * (t.val / 4), Pipeline.run_start_lt t⟩)
      (iblk m c 1 ⟨4 * (t.val / 4), Pipeline.run_start_lt t⟩) (iblk m c 2 ⟨4 * (t.val / 4), Pipeline.run_start_lt t⟩)
      (iblk m c 3 ⟨4 * (t.val / 4), Pipeline.run_start_lt t⟩) :=
  Pipeline.eq_of_write_hold (fun n h => (outsAt0 m c n h).2) 4
    (fun t => gated (iblk m c 0 t) (iblk m c 1 t) (iblk m c 2 t) (iblk m c 3 t)) (scr_A m c) (scr_B m c) t

/-- What a point stores, at an index of its block. -/
theorem pay (S : FVec Ideal S256x2048 .bf16) (W : FVec Ideal S2048x512 .bf16) (C : FVec Ideal S256x1024 .bf16)
    (D : FVec Ideal S1024x512 .bf16) (A B : FVec Ideal S256x512 .f32) (r : Fin 256) (l : Fin 512) :
    (k0_pay2 (F := Ideal) S W C D A B : FVec Ideal S256x512 .bf16) (ix2 r l)
      = Ideal.logistic (A (ix2 r l)) * (∑ k : Fin 2048, S (ix2 r k) * W (ix2 k l))
        + Ideal.logistic (B (ix2 r l)) * (∑ k : Fin 1024, C (ix2 r k) * D (ix2 k l)) := by
  pointwise [k0_pay2]

theorem blk_oc (c : Dev nD) (t : Fin cfg0.N) (r : Fin 256) (k : Fin 2048) (h : t.val / 4 * 256 + r.val < 8192) :
    (iblk m c 0 t : FVec Ideal S256x2048 .bf16) (ix2 r k) = m ((c : Thread nD τ).loc main_arg0) (ix2 ⟨t.val / 4 * 256 + r.val, h⟩ k) := by
  blk_ext [iblk, V, idx t]

theorem blk_os (c : Dev nD) (t : Fin cfg0.N) (r : Fin 256) (k : Fin 2048) (h : t.val / 4 * 256 + r.val < 8192) :
    (iblk m c 1 t : FVec Ideal S256x2048 .bf16) (ix2 r k) = m ((c : Thread nD τ).loc main_arg1) (ix2 ⟨t.val / 4 * 256 + r.val, h⟩ k) := by
  blk_ext [iblk, V, idx t]

theorem blk_ow (c : Dev nD) (t : Fin cfg0.N) (r : Fin 256) (k : Fin 2048) (h : t.val / 4 * 256 + r.val < 8192) :
    (iblk m c 2 t : FVec Ideal S256x2048 .bf16) (ix2 r k) = m ((c : Thread nD τ).loc main_arg2) (ix2 ⟨t.val / 4 * 256 + r.val, h⟩ k) := by
  blk_ext [iblk, V, idx t]

theorem blk_g (c : Dev nD) (t : Fin cfg0.N) (r k : Fin 256) (h : t.val / 4 * 256 + r.val < 8192) :
    (iblk m c 3 t : FVec Ideal S256x256 .f32) (ix2 r k)
      = m ((c : Thread nD τ).loc main_arg4) (ix2 ⟨t.val / 4 * 256 + r.val, h⟩ ⟨11264 + k.val, by omega⟩) := by
  blk_ext [iblk, V, idx t]

theorem blk_cy (c : Dev nD) (t : Fin cfg0.N) (r : Fin 256) (k : Fin 1024) (h : t.val / 4 * 256 + r.val < 8192) :
    (iblk m c 4 t : FVec Ideal S256x1024 .bf16) (ix2 r k) = m ((c : Thread nD τ).loc main_arg3) (ix2 ⟨t.val / 4 * 256 + r.val, h⟩ k) := by
  blk_ext [iblk, V, idx t]

theorem blk_a (c : Dev nD) (t : Fin cfg0.N) (r : Fin 256) (l : Fin 512) (h : t.val / 4 * 256 + r.val < 8192) :
    (X0_5 m c t : FVec Ideal S256x512 .f32) (ix2 r l)
      = m ((c : Thread nD τ).loc main_arg4) (ix2 ⟨t.val / 4 * 256 + r.val, h⟩ ⟨7168 + (t.val % 4 * 512 + l.val), by omega⟩) := by
  unfold X0_5 Pipeline.Window.fill
  rw [dif_pos (moved0_5 t _)]
  blk_ext [iblk, V, idx t]

theorem blk_b (c : Dev nD) (t : Fin cfg0.N) (r : Fin 256) (l : Fin 512) (h : t.val / 4 * 256 + r.val < 8192) :
    (X0_6 m c t : FVec Ideal S256x512 .f32) (ix2 r l)
      = m ((c : Thread nD τ).loc main_arg4) (ix2 ⟨t.val / 4 * 256 + r.val, h⟩ ⟨9216 + (t.val % 4 * 512 + l.val), by omega⟩) := by
  unfold X0_6 Pipeline.Window.fill
  rw [dif_pos (moved0_6 t _)]
  blk_ext [iblk, V, idx t]

theorem blk_n (c : Dev nD) (t : Fin cfg0.N) (k : Fin 2048) (l : Fin 512) (h : t.val % 4 * 512 + l.val < 2048) :
    (iblk m c 7 t : FVec Ideal S2048x512 .bf16) (ix2 k l)
      = m ((c : Thread nD τ).loc main_arg5) (ix2 k ⟨t.val % 4 * 512 + l.val, h⟩) := by
  have e : (iblk m c 7 t : FVec Ideal S2048x512 .bf16) (ix2 k l)
      = (V m c main_v0 : FVec Ideal S2048x2048 .bf16) (ix2 k ⟨t.val % 4 * 512 + l.val, h⟩) := by
    blk_ext [iblk, idx t]
  rw [e, entry_n]
  pointwise [narrow_n]

theorem blk_c (c : Dev nD) (t : Fin cfg0.N) (k : Fin 1024) (l : Fin 512) (h : t.val % 4 * 512 + l.val < 2048) :
    (iblk m c 8 t : FVec Ideal S1024x512 .bf16) (ix2 k l)
      = m ((c : Thread nD τ).loc main_arg6) (ix2 k ⟨t.val % 4 * 512 + l.val, h⟩) := by
  have e : (iblk m c 8 t : FVec Ideal S1024x512 .bf16) (ix2 k l)
      = (V m c main_v1 : FVec Ideal S1024x2048 .bf16) (ix2 k ⟨t.val % 4 * 512 + l.val, h⟩) := by
    blk_ext [iblk, idx t]
  rw [e, entry_c]
  pointwise [narrow_c]

/-- The gated sum of a run's row block, read in the arguments. -/
theorem mix_eq (c : Dev nD) (t s : Fin cfg0.N) (e : s.val / 4 = t.val / 4) (r : Fin 256) (k : Fin 2048)
    (h : t.val / 4 * 256 + r.val < 8192) :
    gated (iblk m c 0 s) (iblk m c 1 s) (iblk m c 2 s) (iblk m c 3 s) (ix2 r k)
      = mix (m ((c : Thread nD τ).loc main_arg0)) (m ((c : Thread nD τ).loc main_arg1))
          (m ((c : Thread nD τ).loc main_arg2)) (m ((c : Thread nD τ).loc main_arg4)) ⟨t.val / 4 * 256 + r.val, h⟩ k := by
  have h' : s.val / 4 * 256 + r.val < 8192 := by rw [e]; exact h
  have e' : (⟨s.val / 4 * 256 + r.val, h'⟩ : Fin 8192) = ⟨t.val / 4 * 256 + r.val, h⟩ := Fin.ext (by dsimp only; rw [e])
  refine (congrArg₂ (· + ·) (congrArg₂ (· + ·) (congrArg₂ (fun a b => Ideal.logistic a * b) (blk_g m c s r _ h') (blk_oc m c s r k h'))
    (congrArg₂ (fun a b => Ideal.logistic a * b) (blk_g m c s r _ h') (blk_os m c s r k h')))
    (congrArg₂ (fun a b => Ideal.logistic a * b) (blk_g m c s r _ h') (blk_ow m c s r k h'))).trans ?_
  rw [e']
  rfl

/-- The result array after the run. -/
theorem final (c : Dev nD) : (dats m 0 c).arrAt 9 cfg0.N = fun i =>
    mrg (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) := by
  refine (dats m 0 c).arrAt_eq_of_covers 9 _ (by decide +kernel) fun t _ y => ?_
  blk_simp
  rw [after0_9, out_eq m c t, scr m c t]
  have hN : t.val < 128 := lt_of_lt_of_eq t.isLt N_0
  have h0 : (y 0).val < 256 := (y 0).isLt
  have h1 : (y 1).val < 512 := (y 1).isLt
  have e : (win0_9.blk t).view.emb y
      = (ix2 ⟨t.val / 4 * 256 + (y 0).val, by omega⟩ ⟨t.val % 4 * 512 + (y 1).val, by omega⟩ : S8192x2048.Idx) := by
    blk_ext [idx t]
  rw [e]
  have ey : y = (ix2 ⟨(y 0).val, h0⟩ ⟨(y 1).val, h1⟩ : S256x512.Idx) := funext fun a => by fin_cases a <;> rfl
  refine (congrArg _ ey).trans ((pay _ _ _ _ _ _ ⟨(y 0).val, h0⟩ ⟨(y 1).val, h1⟩).trans ?_)
  refine congrArg₂ (· + ·) (congrArg₂ (fun a b => Ideal.logistic a * b) (blk_a m c t _ _ _) ?_)
    (congrArg₂ (fun a b => Ideal.logistic a * b) (blk_b m c t _ _ _) ?_)
  · exact Finset.sum_congr rfl fun k _ => congrArg₂ (· * ·) (mix_eq m c t _ (by dsimp only; omega) _ k _) (blk_n m c t k _ _)
  · exact Finset.sum_congr rfl fun k _ => congrArg₂ (· * ·) (blk_cy m c t _ k _) (blk_c m c t k _ _)

end Cert.Kernel4Ideal.Merge

namespace Cert.Reference4Ideal.Merge

open Cert.Reference4Ideal Cert.Reference4Ideal.Gen Cert.Reference4Ideal.Read
open Cert.Kernel4Ideal.Merge (mix mrg)

theorem ref_mix (oc os ow : FVec Ideal S8192x2048 .bf16) (z : FVec Ideal S8192x11520 .f32) (r : Fin 8192) (k : Fin 2048) :
    (val_main_v39 (F := Ideal) oc os ow z : FVec Ideal S8192x2048 .f32) (ix2 r k) = mix oc os ow z r k := by
  pointwise [val_main_v39, val_main_v38, val_main_v37, val_main_v36, val_main_v35, val_main_v34, val_main_v33, val_main_v32,
    val_main_v31, val_main_v30, val_main_v29, val_main_v28, val_main_v13, val_main_v12, val_main_v11, val_main_v10,
    val_main_v9, val_main_v8, val_main_v7, val_main_v6, val_main_v5, val_main_v4, val_main_v3, val_main_v2, val_main_v1,
    val_main_v0, val_main_cst, val_main_cst_0, mix, Ideal.logistic]
  simp only [Nat.mul_comm 3]

/-- The reference's array at every row and column. -/
theorem ref_eq (oc os ow : FVec Ideal S8192x2048 .bf16) (cy : FVec Ideal S8192x1024 .bf16) (z : FVec Ideal S8192x11520 .f32)
    (wn : FVec Ideal S2048x2048 .f32) (wc : FVec Ideal S1024x2048 .f32) :
    val_main_v46 (F := Ideal) oc os ow cy z wn wc = fun i => mrg oc os ow cy z wn wc (i 0) (i 1) := by
  funext i
  idx_vars i
  pointwise [val_main_v46, val_main_v45, val_main_v44, val_main_v43, val_main_v42, val_main_v41, val_main_v40, val_main_v27,
    val_main_v26, val_main_v25, val_main_v24, val_main_v23, val_main_v22, val_main_v21, val_main_v20, val_main_v19,
    val_main_v18, val_main_v17, val_main_v16, val_main_v15, val_main_v14, val_main_cst_1, val_main_cst_2, val_main_cst_3,
    val_main_cst_4, mrg, Ideal.logistic]
  simp only [ref_mix]

end Cert.Reference4Ideal.Merge

end
-- ==== Proof.MergeClaims.lean ====
/- The claims about the merge. -/
module

public import proofs.«01_k».proof.Defs
public import proofs.«01_k».proof.Proof.MergeFinal
public import proofs.«01_k».proof.Proof.Gen.Kernel4.Frame
public import proofs.«01_k».proof.Proof.Gen.Reference4Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Merge

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem preserves : Cert.preserves_Kernel4_Kernel4Ideal := trivial

/-- The reference's array as a function of its arguments, read at a row and a column. -/
def val (oc os ow : FVec Ideal Cert.Kernel4Ideal.S8192x2048 .bf16) (cy : FVec Ideal Cert.Kernel4Ideal.S8192x1024 .bf16)
    (z : FVec Ideal Cert.Kernel4Ideal.S8192x11520 .f32) (wn : FVec Ideal Cert.Kernel4Ideal.S2048x2048 .f32)
    (wc : FVec Ideal Cert.Kernel4Ideal.S1024x2048 .f32) : FVec Ideal Cert.Kernel4Ideal.S8192x2048 .bf16 :=
  fun i => Cert.Kernel4Ideal.Merge.mrg oc os ow cy z wn wc (i 0) (i 1)

/-- Both programs end with the merged rows. -/
theorem algebraic : Cert.algebraic_Kernel4Ideal_Reference4Ideal := fun m ρ m' ρ' _ hag =>
  ⟨fun c => val (m ((c : Thread Cert.Kernel4Ideal.nD Cert.Kernel4Ideal.τ).loc Cert.Kernel4Ideal.main_arg0))
      (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2))
      (m ((c : Thread Cert.Kernel4Ideal.nD Cert.Kernel4Ideal.τ).loc Cert.Kernel4Ideal.main_arg3))
      (m ((c : Thread Cert.Kernel4Ideal.nD Cert.Kernel4Ideal.τ).loc Cert.Kernel4Ideal.main_arg4))
      (m ((c : Thread Cert.Kernel4Ideal.nD Cert.Kernel4Ideal.τ).loc Cert.Kernel4Ideal.main_arg5))
      (m ((c : Thread Cert.Kernel4Ideal.nD Cert.Kernel4Ideal.τ).loc Cert.Kernel4Ideal.main_arg6)),
    (θ_run _ _ _).mono (fun _ h c => ⟨(h c).1.trans (Cert.Kernel4Ideal.Merge.final m c), (h c).2⟩)
      (Cert.Kernel4Ideal.Value.run_blocks (F := Ideal) m ρ),
    (θ_run _ _ _).mono (fun _ h c => ⟨(h c).1.trans ((Cert.Reference4Ideal.Read.val_main_v46_eq (F := Ideal) _ _ _ _ _ _ _).trans
        ((Cert.Reference4Ideal.Merge.ref_eq _ _ _ _ _ _ _).trans (by
          rw [(hag c).1, (hag c).2.1, (hag c).2.2.1, (hag c).2.2.2.1, (hag c).2.2.2.2.1, (hag c).2.2.2.2.2.1, (hag c).2.2.2.2.2.2]
          rfl))), (h c).2⟩)
      (Cert.Reference4Ideal.Value.run (F := Ideal) m' ρ')⟩

end Cert.Proof.Merge

end
-- ==== Proof.SelLoops.lean ====
/- The loops of the selected attention: what a chunk of keys does to the running maximum, sum and weighted
   sum, and that the four loops of a grid point take in every chunk before the point's own, in order. -/
module

public import proofs.«01_k».proof.Proof.Gen.Kernel5Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)
namespace Cert.Kernel5Ideal.Sel
open Cert.Kernel5Ideal Cert.Kernel5Ideal.Gen

variable (𝒱 : Variants) (c : Dev nD) (bd : Option 𝒱.V) (i : grid0.Coords) (arg3 : Memref sig .tc .vmem S256x512 .f32) (harg3 : arg3.IsWhole) (arg4 : Memref sig .tc .vmem S1x1x256x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S256x512 .bf16) (harg7 : arg7.IsWhole) (v19 : FVec Ideal S1024x256 .bf16) (v31 c256_i32_9 v32 v34 v36 : BitVec 32)
  (X8 : BufTy.Contents (Elt Ideal) scM0_0.view.ty) (X9 : BufTy.Contents (Elt Ideal) scM0_1.view.ty) (G : BufTy.Contents (Elt Ideal) scM0_2.view.ty)

/-- Running maximum, running sum and running weighted sum. -/
abbrev St := FVec Ideal S1x1024 .f32 × FVec Ideal S1x1024 .f32 × FVec Ideal S128x1024 .f32

/-- One chunk of keys taken in. -/
def stp (qa : FVec Ideal S1024x256 .bf16) (kk : Vec Ideal S256x256 .bf16) (vv : Vec Ideal S1x128x256 .bf16) (z : St) : St :=
  (k0_pay56 qa z.1 kk, k0_pay59 qa z.1 z.2.1 kk, k0_pay60 qa z.1 kk z.2.2 vv)

/-- What a loop carries, and what the accumulator's buffer then holds. -/
def held (p : (FVec Ideal S1x1024 .f32 × FVec Ideal S1x1024 .f32) × List (View.Piece (Elt Ideal) S128x1024 .f32)) : St :=
  (p.1.1, p.1.2, scM0_2.view.read (Elt Ideal) (scM0_2.view.writes (Elt Ideal) G p.2))

/-- A trip of the first loop takes in two chunks. -/
theorem held1 (init : FVec Ideal S1x1024 .f32 × FVec Ideal S1x1024 .f32) (k : Fin (k0_t1_loop i).trips) :
   held G (st_k0_t1 𝒱 c bd i arg3 harg3 arg4 harg4 arg5 harg5 arg6 harg6 arg7 harg7 scM0_0 (Memref.isWhole_whole _) scM0_1 (Memref.isWhole_whole _) scM0_2 (Memref.isWhole_whole _) v19 v31 c256_i32_9 v32 v34 v36 X8 X9 G init (k.val + 1))
    = stp v19 (View.ld (scM0_0.view.read (Elt Ideal) X8) (Rect.unit (k0_off3 i k) S256x256.size (k0_off3_inb i k)))
       (View.ld (scM0_1.view.read (Elt Ideal) X9) (Rect.unit (k0_off4 i k) S1x128x256.size (k0_off4_inb i k)))
       (stp v19 (View.ld (scM0_0.view.read (Elt Ideal) X8) (Rect.unit (k0_off1 i k) S256x256.size (k0_off1_inb i k)))
       (View.ld (scM0_1.view.read (Elt Ideal) X9) (Rect.unit (k0_off2 i k) S1x128x256.size (k0_off2_inb i k)))
        (held G (st_k0_t1 𝒱 c bd i arg3 harg3 arg4 harg4 arg5 harg5 arg6 harg6 arg7 harg7 scM0_0 (Memref.isWhole_whole _) scM0_1 (Memref.isWhole_whole _) scM0_2 (Memref.isWhole_whole _) v19 v31 c256_i32_9 v32 v34 v36 X8 X9 G init k.val))) := by
  rw [st_k0_t1_succ]
  generalize st_k0_t1 𝒱 c bd i arg3 harg3 arg4 harg4 arg5 harg5 arg6 harg6 arg7 harg7 scM0_0 (Memref.isWhole_whole _) scM0_1 (Memref.isWhole_whole _) scM0_2 (Memref.isWhole_whole _) v19 v31 c256_i32_9 v32 v34 v36 X8 X9 G init k.val = z
  unfold tripR_k0_t1 tripL_k0_t1 trip_k0_t1
  dsimp only
  unfold held
  rw [View.writes_append]
  generalize scM0_2.view.writes (Elt Ideal) G z.2 = f
  unfold stp
  refine Prod.ext rfl (Prod.ext rfl ?_)
  dsimp only
  refine (View.read_writes_full _ _ inb_S128x1024_S128x1024_0_0 _ _).trans ?_
  refine congrArg (fun a => k0_pay60 v19 (k0_pay56 v19 z.1.1 (View.ld (View.read (Elt Ideal) (View.whole cc0_scratch0) X8)
          (Rect.unit (k0_off1 i k) S256x256.size (k0_off1_inb i k))))
      (View.ld (View.read (Elt Ideal) (View.whole cc0_scratch0) X8)
        (Rect.unit (k0_off3 i k) S256x256.size (k0_off3_inb i k))) a (View.ld (View.read (Elt Ideal) (View.whole cc0_scratch1) X9)
        (Rect.unit (k0_off4 i k) S1x128x256.size (k0_off4_inb i k)))) ?_
  unfold trip_k0_t1.sl.v202 trip_k0_t1.sl.HW_arg10_1
  refine (View.readAt_writes_full _ _ inb_S128x1024_S128x1024_0_0 inb_S128x1024_S128x1024_0_0 _ _).trans ?_
  refine congrArg (fun a => k0_pay60 v19 z.1.1 (View.ld (View.read (Elt Ideal) (View.whole cc0_scratch0) X8)
          (Rect.unit (k0_off1 i k) S256x256.size (k0_off1_inb i k))) a (View.ld (View.read (Elt Ideal) (View.whole cc0_scratch1) X9)
        (Rect.unit (k0_off2 i k) S1x128x256.size (k0_off2_inb i k)))) ?_
  exact View.readAt_full _ _ _

variable (v28 v29 : IVec S256x1024 32) (v48 : BitVec 32) (v74_0 v74_1 : FVec Ideal S1x1024 .f32) (c2_i32_28 v75 v77 : BitVec 32)

/-- A trip of the third loop takes in one chunk. -/
theorem held3 (init : FVec Ideal S1x1024 .f32 × FVec Ideal S1x1024 .f32) (k : Fin (k0_t3_loop i).trips) :
   held G (st_k0_t3 𝒱 c bd i arg3 harg3 arg4 harg4 arg5 harg5 arg6 harg6 arg7 harg7 scM0_0 (Memref.isWhole_whole _) scM0_1 (Memref.isWhole_whole _) scM0_2 (Memref.isWhole_whole _) v19 v28 v29 v48 v74_0 v74_1 c2_i32_28 v75 v77 X8 X9 G init (k.val + 1))
    = stp v19 (View.ld (scM0_0.view.read (Elt Ideal) X8) (Rect.unit (k0_off9 i k) S256x256.size (k0_off9_inb i k)))
       (View.ld (scM0_1.view.read (Elt Ideal) X9) (Rect.unit (k0_off10 i k) S1x128x256.size (k0_off10_inb i k)))
        (held G (st_k0_t3 𝒱 c bd i arg3 harg3 arg4 harg4 arg5 harg5 arg6 harg6 arg7 harg7 scM0_0 (Memref.isWhole_whole _) scM0_1 (Memref.isWhole_whole _) scM0_2 (Memref.isWhole_whole _) v19 v28 v29 v48 v74_0 v74_1 c2_i32_28 v75 v77 X8 X9 G init k.val)) := by
  rw [st_k0_t3_succ]
  generalize st_k0_t3 𝒱 c bd i arg3 harg3 arg4 harg4 arg5 harg5 arg6 harg6 arg7 harg7 scM0_0 (Memref.isWhole_whole _) scM0_1 (Memref.isWhole_whole _) scM0_2 (Memref.isWhole_whole _) v19 v28 v29 v48 v74_0 v74_1 c2_i32_28 v75 v77 X8 X9 G init k.val = z
  unfold tripR_k0_t3 tripL_k0_t3 trip_k0_t3
  dsimp only
  unfold held
  rw [View.writes_append]
  generalize scM0_2.view.writes (Elt Ideal) G z.2 = f
  unfold stp
  refine Prod.ext rfl (Prod.ext rfl ?_)
  dsimp only
  refine (View.read_writes_full _ _ inb_S128x1024_S128x1024_0_0 _ _).trans ?_
  refine congrArg (fun a => k0_pay60 v19 z.1.1 (View.ld (View.read (Elt Ideal) (View.whole cc0_scratch0) X8)
          (Rect.unit (k0_off9 i k) S256x256.size (k0_off9_inb i k))) a (View.ld (View.read (Elt Ideal) (View.whole cc0_scratch1) X9)
        (Rect.unit (k0_off10 i k) S1x128x256.size (k0_off10_inb i k)))) ?_
  exact View.readAt_full _ _ _

/-- Chunk `n` of the extended keys. -/
def kch (K : FVec Ideal S4096x256 .bf16) (n : ℕ) : FVec Ideal S256x256 .bf16 := fun y =>
  K (ix2 ⟨(256 * n + (y 0).val) % 4096, Nat.mod_lt _ (by decide)⟩ ⟨(y 1).val, (y 1).isLt⟩)

/-- Chunk `n` of the turned-round values. -/
def vch (V : FVec Ideal S16x128x256 .bf16) (n : ℕ) : FVec Ideal S1x128x256 .bf16 := fun y =>
  V (ix3 ⟨n % 16, Nat.mod_lt _ (by decide)⟩ ⟨(y 1).val, (y 1).isLt⟩ ⟨(y 2).val, (y 2).isLt⟩)

/-- The first `n` chunks taken in. -/
def chain (qa : FVec Ideal S1024x256 .bf16) (K : FVec Ideal S4096x256 .bf16) (V : FVec Ideal S16x128x256 .bf16) (z : St) : ℕ → St
  | 0 => z
  | n + 1 => stp qa (kch K n) (vch V n) (chain qa K V z n)

/-- A load of 256 rows of the extended keys is a chunk. -/
theorem ld_kch (K : FVec Ideal S4096x256 .bf16) (o : Fin 2 → ℕ) (h) (n : ℕ) (ho : o = ![256 * n, 0]) :
    @View.ld (Elt Ideal) S4096x256 .bf16 K (Rect.unit o S256x256.size h) = kch K n := by
  subst ho
  have h0 : 256 * n + 256 ≤ 4096 := h 0
  funext y
  have hy : (y 0).val < 256 := (y 0).isLt
  refine (View.ld_unit_apply_of (Val := Elt Ideal) (e := .bf16) K _ _ h y (ix2 ⟨(256 * n + (y 0).val) % 4096, Nat.mod_lt _ (by decide)⟩ ⟨(y 1).val, (y 1).isLt⟩) ?_).trans rfl
  intro a
  fin_cases a
  · show (256 * n + (y 0).val) % 4096 = 256 * n + (y 0).val
    omega
  · show (y 1).val = 0 + (y 1).val
    omega

/-- A load of one block of the turned-round values is a chunk. -/
theorem ld_vch (V : FVec Ideal S16x128x256 .bf16) (o : Fin 3 → ℕ) (h) (n : ℕ) (ho : o = ![n, 0, 0]) :
    @View.ld (Elt Ideal) S16x128x256 .bf16 V (Rect.unit o S1x128x256.size h) = vch V n := by
  subst ho
  have h0 : n + 1 ≤ 16 := h 0
  funext y
  have hy : (y 0).val < 1 := (y 0).isLt
  refine (View.ld_unit_apply_of (Val := Elt Ideal) (e := .bf16) V _ _ h y (ix3 ⟨n % 16, Nat.mod_lt _ (by decide)⟩ ⟨(y 1).val, (y 1).isLt⟩ ⟨(y 2).val, (y 2).isLt⟩) ?_).trans rfl
  intro a
  fin_cases a
  · show n % 16 = n + (y 0).val
    omega
  · show (y 1).val = 0 + (y 1).val
    omega
  · show (y 2).val = 0 + (y 2).val
    omega

theorem trips1 : ∀ t : Fin grid0.N, (k0_t1_loop (grid0.coords t)).trips = (t.val % 16) / 2 := by decide +kernel
theorem trips2 : ∀ t : Fin grid0.N, (k0_t2_loop (grid0.coords t)).trips = 0 := by decide +kernel
theorem trips3 : ∀ t : Fin grid0.N, (k0_t3_loop (grid0.coords t)).trips = (t.val % 16) % 2 := by decide +kernel
theorem trips4 : ∀ t : Fin grid0.N, (k0_t4_loop (grid0.coords t)).trips = 0 := by decide +kernel
theorem off1 : ∀ t : Fin grid0.N, ∀ k, k0_off1 (grid0.coords t) k = ![256 * (2 * k.val), 0] := by decide +kernel
theorem off2 : ∀ t : Fin grid0.N, ∀ k, k0_off2 (grid0.coords t) k = ![2 * k.val, 0, 0] := by decide +kernel
theorem off3 : ∀ t : Fin grid0.N, ∀ k, k0_off3 (grid0.coords t) k = ![256 * (2 * k.val + 1), 0] := by decide +kernel
theorem off4 : ∀ t : Fin grid0.N, ∀ k, k0_off4 (grid0.coords t) k = ![2 * k.val + 1, 0, 0] := by decide +kernel
theorem off9 : ∀ t : Fin grid0.N, ∀ k, k0_off9 (grid0.coords t) k = ![256 * (2 * (t.val % 16 / 2)), 0] := by decide +kernel
theorem off10 : ∀ t : Fin grid0.N, ∀ k, k0_off10 (grid0.coords t) k = ![2 * (t.val % 16 / 2), 0, 0] := by decide +kernel
theorem off13 : ∀ t : Fin grid0.N, k0_off13 (grid0.coords t) = ![256 * (t.val % 16), 0] := by decide +kernel
theorem off14 : ∀ t : Fin grid0.N, k0_off14 (grid0.coords t) = ![t.val % 16, 0, 0] := by decide +kernel

/-- The first loop takes in the chunks two at a time. -/
theorem loop1 (t : Fin grid0.N) (init : FVec Ideal S1x1024 .f32 × FVec Ideal S1x1024 .f32) : ∀ k, k ≤ (t.val % 16) / 2 →
   held G (st_k0_t1 𝒱 c bd (grid0.coords t) arg3 harg3 arg4 harg4 arg5 harg5 arg6 harg6 arg7 harg7 scM0_0 (Memref.isWhole_whole _) scM0_1 (Memref.isWhole_whole _) scM0_2 (Memref.isWhole_whole _) v19 v31 c256_i32_9 v32 v34 v36 X8 X9 G init k)
    = chain v19 (scM0_0.view.read (Elt Ideal) X8) (scM0_1.view.read (Elt Ideal) X9)
        (init.1, init.2, scM0_2.view.read (Elt Ideal) G) (2 * k)
  | 0, _ => rfl
  | k + 1, h => by
    have hk : k < (k0_t1_loop (grid0.coords t)).trips := by rw [trips1]; omega
    rw [held1 𝒱 c bd (grid0.coords t) arg3 harg3 arg4 harg4 arg5 harg5 arg6 harg6 arg7 harg7 v19 v31 c256_i32_9 v32 v34 v36 X8 X9 G init ⟨k, hk⟩,
      loop1 t init k (by omega), ld_kch _ _ _ _ (off1 t ⟨k, hk⟩), ld_kch _ _ _ _ (off3 t ⟨k, hk⟩),
      ld_vch _ _ _ _ (off2 t ⟨k, hk⟩), ld_vch _ _ _ _ (off4 t ⟨k, hk⟩)]
    rfl

/-- The second loop takes in the last chunk of an odd number. -/
theorem loop3 (t : Fin grid0.N) (init : FVec Ideal S1x1024 .f32 × FVec Ideal S1x1024 .f32) (z : St)
    (hz : (init.1, init.2, scM0_2.view.read (Elt Ideal) G) = chain v19 (scM0_0.view.read (Elt Ideal) X8) (scM0_1.view.read (Elt Ideal) X9) z (2 * (t.val % 16 / 2))) :
   held G (st_k0_t3 𝒱 c bd (grid0.coords t) arg3 harg3 arg4 harg4 arg5 harg5 arg6 harg6 arg7 harg7 scM0_0 (Memref.isWhole_whole _) scM0_1 (Memref.isWhole_whole _) scM0_2 (Memref.isWhole_whole _) v19 v28 v29 v48 v74_0 v74_1 c2_i32_28 v75 v77 X8 X9 G init (t.val % 16 % 2))
    = chain v19 (scM0_0.view.read (Elt Ideal) X8) (scM0_1.view.read (Elt Ideal) X9) z (t.val % 16) := by
  rcases Nat.mod_two_eq_zero_or_one (t.val % 16) with h | h
  · rw [h]
    refine hz.trans (congrArg _ ?_)
    omega
  · have hk : 0 < (k0_t3_loop (grid0.coords t)).trips := by rw [trips3]; omega
    rw [h, held3 𝒱 c bd (grid0.coords t) arg3 harg3 arg4 harg4 arg5 harg5 arg6 harg6 arg7 harg7 v19 X8 X9 G v28 v29 v48 v74_0 v74_1 c2_i32_28 v75 v77 init ⟨0, hk⟩,
      ld_kch _ _ _ _ (off9 t ⟨0, hk⟩), ld_vch _ _ _ _ (off10 t ⟨0, hk⟩)]
    refine Eq.trans (congrArg _ hz) ?_
    have e : t.val % 16 = 2 * (t.val % 16 / 2) + 1 := by omega
    conv_rhs => rw [e]
    rfl

/-- The four loops together take in every chunk before the point's own. -/
theorem loops (v72 : BitVec 32) (t : Fin grid0.N) (G₁ G₂ G₃ G₄ : BufTy.Contents (Elt Ideal) scM0_2.view.ty)
    (init : FVec Ideal S1x1024 .f32 × FVec Ideal S1x1024 .f32)
    (p₁ p₂ p₃ p₄ : (FVec Ideal S1x1024 .f32 × FVec Ideal S1x1024 .f32) × List (View.Piece (Elt Ideal) S128x1024 .f32))
    (h₁ : p₁ = st_k0_t1 𝒱 c bd (grid0.coords t) arg3 harg3 arg4 harg4 arg5 harg5 arg6 harg6 arg7 harg7 scM0_0 (Memref.isWhole_whole _) scM0_1 (Memref.isWhole_whole _) scM0_2 (Memref.isWhole_whole _) v19 v31 c256_i32_9 v32 v34 v36 X8 X9 G₁ init (k0_t1_loop (grid0.coords t)).trips)
    (h₂ : p₂ = st_k0_t2 𝒱 c bd (grid0.coords t) arg3 harg3 arg4 harg4 arg5 harg5 arg6 harg6 arg7 harg7 scM0_0 (Memref.isWhole_whole _) scM0_1 (Memref.isWhole_whole _) scM0_2 (Memref.isWhole_whole _) v19 v31 c256_i32_9 v32 v34 v36 v72 X8 X9 G₂ (p₁.1.1, p₁.1.2) (k0_t2_loop (grid0.coords t)).trips)
    (h₃ : p₃ = st_k0_t3 𝒱 c bd (grid0.coords t) arg3 harg3 arg4 harg4 arg5 harg5 arg6 harg6 arg7 harg7 scM0_0 (Memref.isWhole_whole _) scM0_1 (Memref.isWhole_whole _) scM0_2 (Memref.isWhole_whole _) v19 v28 v29 v48 p₂.1.1 p₂.1.2 c2_i32_28 v75 v77 X8 X9 G₃ (p₂.1.1, p₂.1.2) (k0_t3_loop (grid0.coords t)).trips)
    (h₄ : p₄ = st_k0_t4 𝒱 c bd (grid0.coords t) arg3 harg3 arg4 harg4 arg5 harg5 arg6 harg6 arg7 harg7 scM0_0 (Memref.isWhole_whole _) scM0_1 (Memref.isWhole_whole _) scM0_2 (Memref.isWhole_whole _) v19 v28 v29 v48 p₂.1.1 p₂.1.2 c2_i32_28 v75 v77 X8 X9 G₄ (p₃.1.1, p₃.1.2) (k0_t4_loop (grid0.coords t)).trips)
    (hG₃ : G₃ = scM0_2.view.writes (Elt Ideal) G₁ (p₂.2 ++ p₁.2)) :
    held G₃ ((p₄.1.1, p₄.1.2), p₄.2 ++ p₃.2)
      = chain v19 (scM0_0.view.read (Elt Ideal) X8) (scM0_1.view.read (Elt Ideal) X9)
        (init.1, init.2, scM0_2.view.read (Elt Ideal) G₁) (t.val % 16) := by
  rw [trips4] at h₄
  rw [trips3] at h₃
  rw [trips2] at h₂
  rw [trips1] at h₁
  have e₄ : p₄ = ((p₃.1.1, p₃.1.2), []) := h₄
  have e₂ : p₂ = ((p₁.1.1, p₁.1.2), []) := h₂
  have k₁ := loop1 𝒱 c bd arg3 harg3 arg4 harg4 arg5 harg5 arg6 harg6 arg7 harg7 v19 v31 c256_i32_9 v32 v34 v36 X8 X9 G₁ t init _ le_rfl
  rw [← h₁] at k₁
  rw [e₄]
  refine Eq.trans (b := held G₃ p₃) rfl ?_
  rw [h₃]
  refine loop3 𝒱 c bd arg3 harg3 arg4 harg4 arg5 harg5 arg6 harg6 arg7 harg7 v19 X8 X9 G₃ v28 v29 v48 _ _ c2_i32_28 v75 v77 t _ _ ?_
  rw [hG₃, e₂]
  exact k₁

/-- The same, the accumulator read back over the pieces stored in it. -/
theorem loops_cov (v72 : BitVec 32) (t : Fin grid0.N) (G₁ G₂ G₃ G₄ : BufTy.Contents (Elt Ideal) scM0_2.view.ty)
    (init : FVec Ideal S1x1024 .f32 × FVec Ideal S1x1024 .f32)
    (p₁ p₂ p₃ p₄ : (FVec Ideal S1x1024 .f32 × FVec Ideal S1x1024 .f32) × List (View.Piece (Elt Ideal) S128x1024 .f32))
    (h₁ : p₁ = st_k0_t1 𝒱 c bd (grid0.coords t) arg3 harg3 arg4 harg4 arg5 harg5 arg6 harg6 arg7 harg7 scM0_0 (Memref.isWhole_whole _) scM0_1 (Memref.isWhole_whole _) scM0_2 (Memref.isWhole_whole _) v19 v31 c256_i32_9 v32 v34 v36 X8 X9 G₁ init (k0_t1_loop (grid0.coords t)).trips)
    (h₂ : p₂ = st_k0_t2 𝒱 c bd (grid0.coords t) arg3 harg3 arg4 harg4 arg5 harg5 arg6 harg6 arg7 harg7 scM0_0 (Memref.isWhole_whole _) scM0_1 (Memref.isWhole_whole _) scM0_2 (Memref.isWhole_whole _) v19 v31 c256_i32_9 v32 v34 v36 v72 X8 X9 G₂ (p₁.1.1, p₁.1.2) (k0_t2_loop (grid0.coords t)).trips)
    (h₃ : p₃ = st_k0_t3 𝒱 c bd (grid0.coords t) arg3 harg3 arg4 harg4 arg5 harg5 arg6 harg6 arg7 harg7 scM0_0 (Memref.isWhole_whole _) scM0_1 (Memref.isWhole_whole _) scM0_2 (Memref.isWhole_whole _) v19 v28 v29 v48 p₂.1.1 p₂.1.2 c2_i32_28 v75 v77 X8 X9 G₃ (p₂.1.1, p₂.1.2) (k0_t3_loop (grid0.coords t)).trips)
    (h₄ : p₄ = st_k0_t4 𝒱 c bd (grid0.coords t) arg3 harg3 arg4 harg4 arg5 harg5 arg6 harg6 arg7 harg7 scM0_0 (Memref.isWhole_whole _) scM0_1 (Memref.isWhole_whole _) scM0_2 (Memref.isWhole_whole _) v19 v28 v29 v48 p₂.1.1 p₂.1.2 c2_i32_28 v75 v77 X8 X9 G₄ (p₃.1.1, p₃.1.2) (k0_t4_loop (grid0.coords t)).trips)
    (w : FVec Ideal S128x1024 .f32) (hG₁ : G₁ = scM0_2.view.writes (Elt Ideal) scM0_2.view.junk [⟨Rect.unit ![0, 0] S128x1024.size inb_S128x1024_S128x1024_0_0, w⟩])
    (hG₃ : G₃ = scM0_2.view.writes (Elt Ideal) scM0_2.view.junk
      (p₂.2 ++ (p₁.2 ++ [⟨Rect.unit ![0, 0] S128x1024.size inb_S128x1024_S128x1024_0_0, w⟩]))) :
    ((p₄.1.1, p₄.1.2, scM0_2.view.readCov (p₄.2 ++ (p₃.2 ++ (p₂.2 ++ (p₁.2 ++ [⟨Rect.unit ![0, 0] S128x1024.size inb_S128x1024_S128x1024_0_0, w⟩]))))
        (Rect.unit ![0, 0] S128x1024.size inb_S128x1024_S128x1024_0_0).toLoadRect) : St)
      = chain v19 (scM0_0.view.read (Elt Ideal) X8) (scM0_1.view.read (Elt Ideal) X9) (init.1, init.2, w) (t.val % 16) := by
  have k := loops 𝒱 c bd arg3 harg3 arg4 harg4 arg5 harg5 arg6 harg6 arg7 harg7 v19 v31 c256_i32_9 v32 v34 v36 X8 X9 v28 v29 v48 c2_i32_28 v75 v77 v72 t G₁ G₂ G₃ G₄ init p₁ p₂ p₃ p₄ h₁ h₂ h₃ h₄
    (by rw [hG₃, hG₁]; simp only [← View.writes_append, List.append_assoc])
  have hr : scM0_2.view.read (Elt Ideal) G₁ = w := by
    rw [hG₁]
    exact View.read_writes_full _ _ inb_S128x1024_S128x1024_0_0 _ _
  rw [hr] at k
  rw [← k]
  refine Prod.ext rfl (Prod.ext rfl ?_)
  show View.readAt (Elt Ideal) scM0_2.view (Rect.unit ![0, 0] S128x1024.size inb_S128x1024_S128x1024_0_0).toLoadRect _ = scM0_2.view.read (Elt Ideal) _
  refine (View.readAt_full _ _ _).trans (congrArg (fun f => scM0_2.view.read (Elt Ideal) f) (a₂ := scM0_2.view.writes (Elt Ideal) G₃ (p₄.2 ++ p₃.2)) ?_)
  rw [hG₃]
  simp only [← View.writes_append, List.append_assoc]

end Cert.Kernel5Ideal.Sel
-- ==== Proof.SelBody.lean ====
/- What a point of the selected attention leaves: its output block over the two scratches, and the scratches over the
   key and value blocks its run staged. -/
module

public import proofs.«01_k».proof.Proof.Gen.Kernel5Ideal.Value
public import proofs.«01_k».proof.Proof.SelLoops
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)
namespace Cert.Kernel5Ideal.Sel
open Cert.Kernel5Ideal Cert.Kernel5Ideal.Gen
variable (m : (ℓ : Loc nD τ sig) → Buf (Elt Ideal) ℓ)

/-- The keys, and beside each the mark of its block. -/
def keys (x : FVec Ideal S4096x128 .f32) : FVec Ideal S4096x256 .bf16 := fun j =>
  if h : (j 1).val < 128 then x (ix2 ⟨(j 0).val, (j 0).isLt⟩ ⟨(j 1).val, h⟩)
  else if (j 0).val / 64 = (j 1).val - 128 then 1 else 0

/-- The value blocks turned round. -/
def vals (x : FVec Ideal S4096x128 .f32) : FVec Ideal S16x128x256 .bf16 := fun j =>
  x (ix2 ⟨(j 0).val * 256 + (j 2).val, by have h0 : (j 0).val < 16 := (j 0).isLt; have h2 : (j 2).val < 256 := (j 2).isLt; omega⟩ ⟨(j 1).val, (j 1).isLt⟩)

/-- A turned-round value is a value of the block it came from. -/
theorem vals_at (x : FVec Ideal S4096x128 .f32) (y : S16x128x256.Idx) (a : Fin 4096) (b : Fin 128)
    (h0 : a.val = (y 0).val * 256 + (y 2).val) (h1 : b.val = (y 1).val) : x (ix2 a b) = vals x y := by
  unfold vals
  exact congrArg x (congrArg₂ ix2 (Fin.ext h0) (Fin.ext h1))

/-- The first 128 columns are the keys. -/
theorem keys_lo (x : FVec Ideal S4096x128 .f32) (y : S4096x256.Idx) (i : S4096x128.Idx) (h0 : (y 0).val = (i 0).val)
    (h1 : (y 1).val = (i 1).val) : x i = keys x y := by
  unfold keys
  have hi : (i 1).val < 128 := (i 1).isLt
  rw [dif_pos (show (y 1).val < 128 by omega)]
  refine congrArg x (funext fun a => ?_)
  fin_cases a
  · exact Fin.ext h0.symm
  · exact Fin.ext h1.symm

/-- A row's block number, by a shift of six. -/
theorem shift : ∀ n : Fin 4096, IntOp.shrsi ArithUnit.vector (BitVec.ofNat 32 n.val) 6#32 = BitVec.ofNat 32 (n.val / 64) := by
  decide +kernel

/-- The last 128 columns mark the row's block. -/
theorem keys_hi (x : FVec Ideal S4096x128 .f32) (y : S4096x256.Idx) (a : Fin 4096) (b : Fin 128) (h0 : (y 0).val = a.val)
    (h1 : (y 1).val = 128 + b.val) : Scalar.select (IntOp.cmpi CmpIPredicate.eq (IntOp.shrsi ArithUnit.vector (BitVec.ofNat 32 a.val) 6#32)
        (BitVec.ofNat 32 b.val)) (1 : EReal) 0 = keys x y := by
  unfold keys
  have ha := a.isLt
  have hb := b.isLt
  rw [dif_neg (by omega), shift a]
  by_cases h : a.val / 64 = b.val
  · rw [if_pos (by omega), h]
    unfold IntOp.cmpi
    simp [Scalar.select]
  · rw [if_neg (by omega)]
    have hn : ¬BitVec.ofNat 32 (a.val / 64) = BitVec.ofNat 32 b.val := fun e => h (by
      have := congrArg BitVec.toNat e
      simp only [BitVec.toNat_ofNat] at this
      omega)
    unfold IntOp.cmpi
    simp [Scalar.select, hn, beq_eq_false_iff_ne.mpr hn]

/-- The later points of a run leave both scratches as they were. -/
theorem scr_B (c : Dev nD) (t : Fin cfg0.N) (h : ¬t.val % 16 = 0) :
    (outsAt0 m c t.val t.isLt).2 = (outsAt0 m c (t.val - 1) (Nat.lt_of_le_of_lt (Nat.sub_le _ _) t.isLt)).2 := by
  rw [outsAt0_B m c t h]
  dsimp only
  unfold sout0_B_0 sout0_B_1
  rfl

/-- The first point of a run leaves the extended keys in the first scratch. -/
theorem keys_A (c : Dev nD) (t : Fin cfg0.N) (h : t.val % 16 = 0) :
    (outsAt0 m c t.val t.isLt).2.1 = keys (iblk m c 2 t) := by
  rw [outsAt0_A m c t h]
  frame_out
  clear h
  funext y
  canon_tiles x h
  all_goals (open_payloads; pointwise)
  · exact keys_hi _ _ _ _ h0 h1
  · exact keys_lo _ _ _ h0 h1

/-- The first point of a run leaves the turned-round value blocks in the second scratch. -/
theorem vals_A (c : Dev nD) (t : Fin cfg0.N) (h : t.val % 16 = 0) :
    (outsAt0 m c t.val t.isLt).2.2 = vals (iblk m c 3 t) := by
  rw [outsAt0_A m c t h]
  frame_out
  clear h
  funext y
  canon_tiles x h
  all_goals (open_payloads; pointwise)
  all_goals exact vals_at _ _ _ _ (by dsimp only; omega) (by omega)

/-- A point's output block from the chunks taken in before it. -/
def fin (qa : FVec Ideal S1024x256 .bf16) (v28 v29 : IVec S256x1024 32) (v48 : BitVec 32) (kk : Vec Ideal S256x256 .bf16)
    (vv : Vec Ideal S1x128x256 .bf16) (z : St) : FVec Ideal S256x512 .bf16 :=
  k0_pay2 (k0_pay71 qa v28 v29 v48 z.1 z.2.1 kk) (k0_pay72 qa v28 v29 v48 z.1 kk)
    (k0_pay1 (k0_pay69 qa v28 v29 v48 z.1 kk) (k0_pay70 qa v28 v29 v48 z.1 kk) z.2.2 vv)

/-- The same, read off the loops' results. -/
theorem fin_of (qa : FVec Ideal S1024x256 .bf16) (v28 v29 : IVec S256x1024 32) (v48 : BitVec 32) (kk : Vec Ideal S256x256 .bf16)
    (vv : Vec Ideal S1x128x256 .bf16) (p : FVec Ideal S1x1024 .f32 × FVec Ideal S1x1024 .f32) (z : St) (acc : FVec Ideal S128x1024 .f32)
    {kk' : Vec Ideal S256x256 .bf16} {vv' : Vec Ideal S1x128x256 .bf16} (hk : kk' = kk) (hv : vv' = vv) (hz : (p.1, p.2, acc) = z) :
    k0_pay2 (k0_pay71 qa v28 v29 v48 p.1 p.2 kk') (k0_pay72 qa v28 v29 v48 p.1 kk')
      (k0_pay1 (k0_pay69 qa v28 v29 v48 p.1 kk') (k0_pay70 qa v28 v29 v48 p.1 kk') acc vv') = fin qa v28 v29 v48 kk vv z := by
  subst hz hk hv
  rfl

/-- The point's own chunk, as the kernel counts it. -/
def own (i : grid0.Coords) : BitVec 32 :=
  let v31 := Scalar.subi (Scalar.addi (Scalar.muli (BitVec.ofNat 32 (i 2).val) 256#32) 256#32) 1#32
  Scalar.select (Scalar.andi (Scalar.cmpi .ne (Scalar.subi (Scalar.extui (Scalar.cmpi .sgt v31 0#32) : BitVec 32) (Scalar.extui (Scalar.cmpi .slt v31 0#32)))
      (Scalar.subi (Scalar.extui (Scalar.cmpi .sgt 256#32 0#32)) (Scalar.extui (Scalar.cmpi .slt 256#32 0#32))))
    (Scalar.cmpi .ne (Scalar.remsi v31 256#32) 0#32)) (Scalar.subi (Scalar.divsi v31 256#32) 1#32) (Scalar.divsi v31 256#32)

/-- It is the point's place in its run. -/
theorem own_eq : ∀ t : Fin grid0.N, own (grid0.coords t) = BitVec.ofNat 32 (t.val % 16) := by decide +kernel

/-- A point's output block. -/
def outS (i : grid0.Coords) (q : FVec Ideal S256x512 .f32) (b : FVec Ideal S1x1x256x128 .bf16) (K : FVec Ideal S4096x256 .bf16)
    (V : FVec Ideal S16x128x256 .bf16) (n : ℕ) : FVec Ideal S256x512 .bf16 :=
  fin (k0_pay38 q b) (k0_pay40 i) (iota .tc S256x1024 32 [0] iota_S256x1024_d0_w32) (own i) (kch K n) (vch V n)
    (chain (k0_pay38 q b) K V (k0_pay41, k0_pay42, k0_pay39) n)

set_option maxHeartbeats 1000000 in
/-- A later point of a run writes its block over the scratches the point before left. -/
theorem out_B (c : Dev nD) (t : Fin cfg0.N) (h : ¬t.val % 16 = 0) :
    (outsAt0 m c t.val t.isLt).1 = outS (grid0.coords t) (X0_0 m c t) (iblk m c 1 t)
      (outsAt0 m c (t.val - 1) (Nat.lt_of_le_of_lt (Nat.sub_le _ _) t.isLt)).2.1
      (outsAt0 m c (t.val - 1) (Nat.lt_of_le_of_lt (Nat.sub_le _ _) t.isLt)).2.2 (t.val % 16) := by
  rw [outsAt0_B m c t h]
  frame_out
  simp only [read_unread_whole]
  generalize hK : (outsAt0 m c (t.val - 1) (Nat.lt_of_le_of_lt (Nat.sub_le _ _) t.isLt)).2.1 = K
  generalize hV : (outsAt0 m c (t.val - 1) (Nat.lt_of_le_of_lt (Nat.sub_le _ _) t.isLt)).2.2 = V
  generalize (X0_0 m c t) = q
  generalize (iblk m c 1 t) = b
  unfold outS
  refine fin_of _ _ _ _ _ _ _ _ _ (ld_kch _ _ _ _ (off13 t)) (ld_vch _ _ _ _ (off14 t)) ?_
  apply Eq.trans
  · apply loops_cov (t := t)
    case h₄ => rfl
    case h₃ => rfl
    case h₂ => rfl
    case h₁ => rfl
    case hG₁ => rfl
    case hG₃ => rfl
  · simp only [read_unread_whole]

set_option maxHeartbeats 1000000 in
/-- The first point of a run writes its block over the scratches it has just filled. -/
theorem out_A (c : Dev nD) (t : Fin cfg0.N) (h : t.val % 16 = 0) :
    (outsAt0 m c t.val t.isLt).1 = outS (grid0.coords t) (X0_0 m c t) (iblk m c 1 t)
      (outsAt0 m c t.val t.isLt).2.1 (outsAt0 m c t.val t.isLt).2.2 (t.val % 16) := by
  have e := outsAt0_A m c t h
  generalize hK : (outsAt0 m c t.val t.isLt).2.1 = K
  generalize hV : (outsAt0 m c t.val t.isLt).2.2 = V
  rw [e] at hK hV ⊢
  clear e
  frame_out at hK
  frame_out at hV
  frame_out
  unfold outS
  refine fin_of _ _ _ _ _ _ _ _ _ ?_ ?_ ?_
  · refine Eq.trans ?_ (ld_kch K _ (k0_off13_inb (grid0.coords t)) _ (off13 t))
    exact congrArg (fun k => View.ld k _) hK
  · refine Eq.trans ?_ (ld_vch V _ (k0_off14_inb (grid0.coords t)) _ (off14 t))
    exact congrArg (fun k => View.ld k _) hV
  apply Eq.trans
  · apply loops_cov (t := t)
    case h₄ => rfl
    case h₃ => rfl
    case h₂ => rfl
    case h₁ => rfl
    case hG₁ => rfl
    case hG₃ => rfl
  · have cg : ∀ {k k' : FVec Ideal S4096x256 .bf16} {v v' : FVec Ideal S16x128x256 .bf16}, k = k' → v = v' →
        chain (k0_pay38 (X0_0 m c t) (iblk m c 1 t)) k v (k0_pay41, k0_pay42, k0_pay39) (t.val % 16)
          = chain (k0_pay38 (X0_0 m c t) (iblk m c 1 t)) k' v' (k0_pay41, k0_pay42, k0_pay39) (t.val % 16) := by
      intro k k' v v' hk hv
      rw [hk, hv]
    exact cg ((View.read_writes_junk_eq_canon _ _).trans hK) ((View.read_writes_junk_eq_canon _ _).trans hV)
/-- Both scratches after any point, over the blocks the point's run staged. -/
theorem scr (c : Dev nD) (t : Fin cfg0.N) :
    (outsAt0 m c t.val t.isLt).2 = (keys (iblk m c 2 ⟨16 * (t.val / 16), Pipeline.run_start_lt t⟩),
      vals (iblk m c 3 ⟨16 * (t.val / 16), Pipeline.run_start_lt t⟩)) :=
  Pipeline.eq_of_write_hold (fun n h => (outsAt0 m c n h).2) 16 (fun t => (keys (iblk m c 2 t), vals (iblk m c 3 t)))
    (fun t h => Prod.ext (keys_A m c t h) (vals_A m c t h)) (scr_B m c) t

/-- A point's output block over the blocks its run staged. -/
theorem out_eq (c : Dev nD) (t : Fin cfg0.N) :
    (outsAt0 m c t.val t.isLt).1 = outS (grid0.coords t) (X0_0 m c t) (iblk m c 1 t)
      (keys (iblk m c 2 ⟨16 * (t.val / 16), Pipeline.run_start_lt t⟩))
      (vals (iblk m c 3 ⟨16 * (t.val / 16), Pipeline.run_start_lt t⟩)) (t.val % 16) := by
  have e := scr m c t
  by_cases h : t.val % 16 = 0
  · rw [out_A m c t h, e]
  · rw [out_B m c t h, ← scr_B m c t h, e]

end Cert.Kernel5Ideal.Sel

end
-- ==== Proof.SelRef.lean ====
/- The reference's selected attention read at an index. -/
module

public import proofs.«01_k».proof.Proof.Gen.Reference5Ideal.Read
public import proofs.«01_k».proof.Proof.WinRef
public import proofs.«01_k».proof.Proof.MaskedSum
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)

namespace Cert.Reference5Ideal.Sel

open Cert.Reference5Ideal Cert.Reference5Ideal.Gen Cert.Reference5Ideal.Read

/-- A score: the dot product of a query head's row with a key row, the bias of the key's block added, scaled. -/
def sc (z : FVec Ideal S8192x11520 .f32) (a : FVec Ideal S2x4x4096x128 .bf16) (b : Fin 2) (g h : Fin 4) (t k : Fin 4096) : EReal :=
  ((∑ x : Fin 128, z (ix2 ⟨b.val * 4096 + k.val, by omega⟩ ⟨3072 + (g.val * 128 + x.val), by omega⟩)
    * z (ix2 ⟨b.val * 4096 + t.val, by omega⟩ ⟨g.val * 512 + h.val * 128 + x.val, by omega⟩))
    + a (ix4 b g t ⟨k.val / 64, by omega⟩)) * (((Real.sqrt 128)⁻¹ : ℝ) : EReal)

theorem score (z : FVec Ideal S8192x11520 .f32) (a : FVec Ideal S2x4x4096x128 .bf16) (b : Fin 2) (g h : Fin 4) (t k : Fin 4096) :
    (val_main_v18 (F := Ideal) z a : FVec Ideal S2x4x4x4096x4096 .f32) (ix5 b g h t k) = sc z a b g h t k := by
  pointwise [val_main_v18, val_main_v17, val_main_v16, val_main_cst, val_main_v15, val_main_v14, val_main_v13, val_main_v12, val_main_v11, val_main_v10, val_main_v9, val_main_v8, val_main_v7, val_main_v3, val_main_v2, val_main_v1, val_main_v0, sc]
  exact Cert.MaskedSum.div_root _

theorem mask (t k : Fin 4096) :
    (val_main_v23 (F := Ideal) : Vec Ideal S4096x4096 .i1) (ix2 t k) = if k.val ≤ t.val then 1#1 else 0#1 := by
  pointwise [val_main_v23, val_main_v22, val_main_v21, val_main_v20, val_main_v19, val_main_v6]
  word_omega

/-- Selected attention at a row and a column: the values of the row's sequence in the column's head group, weighted by
    the softmax of the biased scores over the keys up to the row. -/
def sel (z : FVec Ideal S8192x11520 .f32) (a : FVec Ideal S2x4x4096x128 .bf16) (r : Fin 8192) (d : Fin 2048) : EReal :=
  Cert.MaskedSum.attn ⊥ ⊥
    (Ideal.ofBits FTy.f32 228737632#32) (fun k : Fin 4096 => k.val ≤ r.val % 4096)
    (fun k => sc z a ⟨r.val / 4096, by omega⟩ ⟨d.val / 512, by omega⟩ ⟨d.val / 128 % 4, by omega⟩ ⟨r.val % 4096, by omega⟩ k)
    (fun k => z (ix2 ⟨r.val / 4096 * 4096 + k.val, by omega⟩ ⟨3584 + (d.val / 512 * 128 + d.val % 128), by omega⟩))

theorem out (z : FVec Ideal S8192x11520 .f32) (a : FVec Ideal S2x4x4096x128 .bf16) (r : Fin 8192) (d : Fin 2048) :
    (val_main_v40 (F := Ideal) z a : FVec Ideal S8192x2048 .bf16) (ix2 r d) = sel z a r d := by
  pointwise [val_main_v40, val_main_v39, val_main_v38, val_main_v37, val_main_v36, val_main_v35, val_main_v34, val_main_v33, val_main_cst_4, val_main_v32, val_main_v31, val_main_cst_3, val_main_v30, val_main_call1_v2, val_main_call1_v1, val_main_call1_v0, val_main_cst_2, val_main_v29, val_main_v28, val_main_v27, val_main_v26, val_main_v25, val_main_cst_1, val_main_v24, val_main_call0_v2, val_main_call0_v1, val_main_call0_v0, val_main_cst_0, val_main_v5, val_main_v4, id_eq]
  simp only [mask, score, Cert.ReferenceIdeal.Win.select_ite, Cert.ReferenceIdeal.Win.inner_ite, Cert.MaskedSum.ofBits_low]
  rfl

end Cert.Reference5Ideal.Sel

end
-- ==== Proof.SelMath.lean ====
/- Softmax-weighted sums taken in chunk by chunk: the largest score so far, the sum of the weights and the weighted sum
   of the values, each corrected when a chunk brings a larger score. -/
module

public import proofs.«01_k».proof.Proof.MaskedSum

@[expose] public section

set_option maxRecDepth 16384

noncomputable section

open Idealize.ShloMosaic Idealize.ShloMosaic.TcCoe Idealize.SL.Sem

namespace Cert.ChunkSum

open Cert.MaskedSum

theorem exp_nonneg (x : EReal) : 0 ≤ Ideal.exp x := by
  induction x using EReal.rec with
  | bot => exact le_rfl
  | top => exact le_top
  | coe r => exact EReal.coe_nonneg.mpr (Real.exp_pos r).le

theorem bot_sub (x : EReal) : (⊥ : EReal) - x = ⊥ := by
  rw [sub_eq_add_neg, EReal.bot_add]

/-- The correction of a larger maximum turns a weight under the old one into the weight under the new one. -/
theorem exp_mul {s a b : EReal} (h : s ≤ a) (h' : a ≤ b) :
    Ideal.exp (a - b) * Ideal.exp (s - a) = Ideal.exp (s - b) := by
  induction s using EReal.rec with
  | bot => simp [bot_sub]
  | top =>
    obtain rfl := top_le_iff.mp h
    obtain rfl := top_le_iff.mp h'
    simp
  | coe s =>
    induction a using EReal.rec with
    | bot => simp at h
    | top =>
      obtain rfl := top_le_iff.mp h'
      simp
    | coe a =>
      induction b using EReal.rec with
      | bot => simp at h'
      | top => simp
      | coe b =>
        rw [← EReal.coe_sub, ← EReal.coe_sub, ← EReal.coe_sub, Ideal.exp_coe, Ideal.exp_coe, Ideal.exp_coe, ← EReal.coe_mul, ← Real.exp_add]
        congr 2
        ring

/-- The correction is never infinite. -/
theorem exp_ne_top {a b : EReal} (h' : a ≤ b) : Ideal.exp (a - b) ≠ ⊤ := by
  induction a using EReal.rec with
  | bot => simp [bot_sub]
  | top =>
    obtain rfl := top_le_iff.mp h'
    simp
  | coe a =>
    induction b using EReal.rec with
    | bot => simp at h'
    | top => simp
    | coe b =>
      rw [← EReal.coe_sub, Ideal.exp_coe]
      exact EReal.coe_ne_top _

/-- A factor that is neither negative nor infinite goes into a sum. -/
theorem mul_sum' {ι : Type} (S : Finset ι) (f : ι → EReal) {c : EReal} (h : 0 ≤ c) (h' : c ≠ ⊤) :
    c * ∑ x ∈ S, f x = ∑ x ∈ S, c * f x := by
  classical
  induction S using Finset.induction_on with
  | empty => simp
  | insert a S ha ih => rw [Finset.sum_insert ha, Finset.sum_insert ha, EReal.left_distrib_of_nonneg_of_ne_top h h', ih]

/-- The weighted sum of a set of keys under their own largest score. -/
def acc {ι : Type} (S : Finset ι) (s w : ι → EReal) : EReal := ∑ x ∈ S, w x * Ideal.exp (s x - S.sup s)

/-- One more chunk. -/
theorem acc_union {ι : Type} [DecidableEq ι] (S T : Finset ι) (hd : Disjoint S T) (s w : ι → EReal) :
    Ideal.exp (S.sup s - max (S.sup s) (T.sup s)) * acc S s w
      + ∑ x ∈ T, w x * Ideal.exp (s x - max (S.sup s) (T.sup s)) = acc (S ∪ T) s w := by
  unfold acc
  rw [Finset.sum_union hd, Finset.sup_union, mul_sum' _ _ (exp_nonneg _) (exp_ne_top (le_max_left _ _))]
  refine congrArg₂ (· + ·) (Finset.sum_congr rfl fun x hx => ?_) rfl
  rw [mul_left_comm, exp_mul (Finset.le_sup hx) (le_max_left _ _)]

/-- The keys before chunk `n`. -/
def lo (n : ℕ) : Finset (Fin 4096) := Finset.univ.filter fun x => x.val < 256 * n

/-- The keys of chunk `n`. -/
def chunk (n : ℕ) : Finset (Fin 4096) := Finset.univ.filter fun x => x.val / 256 = n

theorem lo_zero : lo 0 = ∅ := by
  unfold lo
  simp

theorem lo_disj (n : ℕ) : Disjoint (lo n) (chunk n) := by
  rw [Finset.disjoint_left]
  intro x hx hx'
  simp only [lo, chunk, Finset.mem_filter, Finset.mem_univ, true_and] at hx hx'
  omega

theorem lo_succ (n : ℕ) : lo (n + 1) = lo n ∪ chunk n := by
  ext x
  simp only [lo, chunk, Finset.mem_union, Finset.mem_filter, Finset.mem_univ, true_and]
  omega

/-- A sum over the places of a chunk is the sum over its keys. -/
theorem sum_chunk (n : ℕ) (hn : n < 16) (f : Fin 4096 → EReal) (g : Fin 256 → EReal)
    (h : ∀ (k : Fin 256) (x : Fin 4096), x.val = 256 * n + k.val → g k = f x) : ∑ k, g k = ∑ x ∈ chunk n, f x := by
  refine Finset.sum_bij' (fun k _ => ⟨256 * n + k.val, by have := k.isLt; omega⟩) (fun x _ => ⟨x.val % 256, Nat.mod_lt _ (by decide)⟩) ?_ ?_ ?_ ?_ ?_
  · intro k _
    have := k.isLt
    simp only [chunk, Finset.mem_filter, Finset.mem_univ, true_and]
    omega
  · intro x _
    exact Finset.mem_univ _
  · intro k _
    have := k.isLt
    exact Fin.ext (by dsimp only; omega)
  · intro x hx
    simp only [chunk, Finset.mem_filter, Finset.mem_univ, true_and] at hx
    exact Fin.ext (by dsimp only; omega)
  · intro k _
    exact h k _ rfl

/-- The largest value over the places of a chunk is the largest over its keys. -/
theorem sup_chunk (n : ℕ) (hn : n < 16) (f : Fin 4096 → EReal) (g : Fin 256 → EReal)
    (h : ∀ (k : Fin 256) (x : Fin 4096), x.val = 256 * n + k.val → g k = f x) : Finset.univ.fold max ⊥ g = (chunk n).sup f := by
  apply le_antisymm
  · rw [Finset.fold_max_le]
    refine ⟨bot_le, fun k _ => ?_⟩
    have hk := k.isLt
    rw [h k ⟨256 * n + k.val, by omega⟩ rfl]
    refine Finset.le_sup (f := f) ?_
    simp only [chunk, Finset.mem_filter, Finset.mem_univ, true_and]
    omega
  · refine Finset.sup_le fun x hx => ?_
    simp only [chunk, Finset.mem_filter, Finset.mem_univ, true_and] at hx
    rw [Finset.le_fold_max]
    exact Or.inr ⟨⟨x.val % 256, Nat.mod_lt _ (by decide)⟩, Finset.mem_univ _, le_of_eq (h _ x (by dsimp only; omega)).symm⟩

/-- The largest score after one more chunk. -/
theorem sup_step (n : ℕ) (hn : n < 16) (f : Fin 4096 → EReal) (g : Fin 256 → EReal)
    (h : ∀ (k : Fin 256) (x : Fin 4096), x.val = 256 * n + k.val → g k = f x) :
    max ((lo n).sup f) (Finset.univ.fold max ⊥ g) = (lo (n + 1)).sup f := by
  rw [sup_chunk n hn f g h, lo_succ, Finset.sup_union]

/-- The weighted sum after one more chunk. -/
theorem acc_step (n : ℕ) (hn : n < 16) (f w : Fin 4096 → EReal) (g p : Fin 256 → EReal)
    (h : ∀ (k : Fin 256) (x : Fin 4096), x.val = 256 * n + k.val → g k = f x)
    (h' : ∀ (k : Fin 256) (x : Fin 4096), x.val = 256 * n + k.val → p k = w x) :
    Ideal.exp ((lo n).sup f - max ((lo n).sup f) (Finset.univ.fold max ⊥ g)) * acc (lo n) f w
      + ∑ k, p k * Ideal.exp (g k - max ((lo n).sup f) (Finset.univ.fold max ⊥ g)) = acc (lo (n + 1)) f w := by
  rw [sup_chunk n hn f g h, lo_succ, ← acc_union _ _ (lo_disj n)]
  refine congrArg₂ (· + ·) rfl (sum_chunk n hn _ _ fun k x e => ?_)
  rw [h k x e, h' k x e]

/-- The scores with those outside a mask at the least value. -/
abbrev cut {n : ℕ} (ok : Fin n → Prop) [DecidablePred ok] (s : Fin n → EReal) : Fin n → EReal := fun x => if ok x then s x else ⊥

theorem top_sup {n : ℕ} (ok : Fin n → Prop) [DecidablePred ok] (s : Fin n → EReal) :
    top ⊥ ⊥ ok s = Finset.univ.sup (cut ok s) := by
  unfold top
  apply le_antisymm
  · rw [Finset.fold_max_le]
    exact ⟨bot_le, fun x hx => Finset.le_sup (f := cut ok s) hx⟩
  · exact Finset.sup_le fun x hx => by
      rw [Finset.le_fold_max]
      exact Or.inr ⟨x, hx, le_rfl⟩

theorem wgt_cut (M : EReal) {n : ℕ} (ok : Fin n → Prop) [DecidablePred ok] (s : Fin n → EReal) (x : Fin n) :
    wgt M ok s x = Ideal.exp (cut ok s x - M) := by
  unfold wgt cut
  by_cases h : ok x
  · rw [if_pos h, if_pos h]
  · rw [if_neg h, if_neg h, bot_sub, Ideal.exp_bot]

/-- A set that holds every key the mask keeps gives the same weighted sum as all keys. -/
theorem acc_all {n : ℕ} (ok : Fin n → Prop) [DecidablePred ok] (s w : Fin n → EReal) (S : Finset (Fin n)) (h : ∀ x, ok x → x ∈ S) :
    acc S (cut ok s) w = ∑ x, w x * wgt (top ⊥ ⊥ ok s) ok s x := by
  have e : S.sup (cut ok s) = top ⊥ ⊥ ok s := by
    rw [top_sup]
    refine le_antisymm (Finset.sup_mono (Finset.subset_univ _)) (Finset.sup_le fun x _ => ?_)
    by_cases hx : ok x
    · exact Finset.le_sup (f := cut ok s) (h x hx)
    · exact le_of_eq_of_le (if_neg hx) bot_le
  unfold acc
  rw [e]
  simp only [wgt_cut]
  refine Finset.sum_subset (Finset.subset_univ _) fun x _ hx => ?_
  rw [show cut ok s x = ⊥ from if_neg fun ho => hx (h x ho), bot_sub, Ideal.exp_bot, mul_zero]

theorem inv_ne_top {d : EReal} (h : 0 < d) : d⁻¹ ≠ ⊤ := by
  induction d using EReal.rec with
  | bot => simp
  | top => simp
  | coe r => rw [← EReal.coe_inv]; exact EReal.coe_ne_top _

/-- The values summed with the weights and divided once are the values summed with the divided weights. -/
theorem attn_acc (tiny : EReal) (ht : 0 < tiny) {n : ℕ} (ok : Fin n → Prop) [DecidablePred ok] (s v : Fin n → EReal)
    (S : Finset (Fin n)) (h : ∀ x, ok x → x ∈ S) :
    Ideal.div (acc S (cut ok s) v) (max (acc S (cut ok s) fun _ => 1) tiny) = attn ⊥ ⊥ tiny ok s v := by
  rw [acc_all ok s v S h, acc_all ok s _ S h]
  unfold attn
  simp only [one_mul]
  have hd : 0 < max (∑ y, wgt (top ⊥ ⊥ ok s) ok s y) tiny := lt_of_lt_of_le ht (le_max_right _ _)
  generalize max (∑ y, wgt (top ⊥ ⊥ ok s) ok s y) tiny = d at hd ⊢
  unfold Ideal.div
  rw [if_neg hd.ne', mul_comm, mul_sum' _ _ (EReal.inv_nonneg_of_nonneg hd.le) (inv_ne_top hd)]
  refine Finset.sum_congr rfl fun x _ => ?_
  rw [if_neg hd.ne', mul_comm, mul_assoc]

end Cert.ChunkSum

end
-- ==== Proof.SelPay.lean ====
/- What the selected attention computes in a chunk, read at an index. -/
module

public import proofs.«01_k».proof.Proof.SelBody
public import proofs.«01_k».proof.Proof.SelRef
public import proofs.«01_k».proof.Proof.SelMath
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)

namespace Cert.Kernel5Ideal.Sel

open Cert.Kernel5Ideal Cert.Kernel5Ideal.Gen Cert.ChunkSum

/-- The named mask is the least value. -/
theorem low : Named.named (F := Ideal) κ "mask" (φ := .f32) 4048155338#32 = ⊥ :=
  IdealRules.named_const.ideal_named_scalar _ _ _ _ rfl

/-- The named scale is the reciprocal root of the head dimension. -/
theorem scale : Named.named (F := Ideal) κ "s" (φ := .f32) 1035273459#32 = (((Real.sqrt 128)⁻¹ : ℝ) : EReal) :=
  IdealRules.named_const.ideal_named_scalar _ _ _ _ rfl

/-- A chunk's score: a key row against a query row, scaled. -/
def csc (qa : FVec Ideal S1024x256 .bf16) (kk : FVec Ideal S256x256 .bf16) (r : Fin 1024) (k : Fin 256) : EReal :=
  (∑ j : Fin 256, kk (ix2 k j) * qa (ix2 r j)) * (((Real.sqrt 128)⁻¹ : ℝ) : EReal)

section

variable (qa : FVec Ideal S1024x256 .bf16) (kk : FVec Ideal S256x256 .bf16) (vv : FVec Ideal S1x128x256 .bf16)
  (m l : FVec Ideal S1x1024 .f32) (a : FVec Ideal S128x1024 .f32) (r : Fin 1024) (k : Fin 256) (d : Fin 128)

theorem p55 : (k0_pay55 (F := Ideal) qa kk : FVec Ideal S256x1024 .f32) (ix2 k r) = csc qa kk r k := by
  pointwise [k0_pay55]
  simp only [scale]
  rfl

theorem p56 : (k0_pay56 (F := Ideal) qa m kk : FVec Ideal S1x1024 .f32) (ix2 0 r)
    = max (m (ix2 0 r)) (Finset.univ.fold max ⊥ (csc qa kk r)) := by
  pointwise [k0_pay56]
  simp only [p55, Cert.MaskedSum.ofBits_low]

theorem p57 : (k0_pay57 (F := Ideal) qa m kk : FVec Ideal S1x1024 .f32) (ix2 0 r)
    = Ideal.exp (m (ix2 0 r) - max (m (ix2 0 r)) (Finset.univ.fold max ⊥ (csc qa kk r))) := by
  pointwise [k0_pay57]
  simp only [p56]

theorem p58 : (k0_pay58 (F := Ideal) qa m kk : FVec Ideal S256x1024 .f32) (ix2 k r)
    = Ideal.exp (csc qa kk r k - max (m (ix2 0 r)) (Finset.univ.fold max ⊥ (csc qa kk r))) := by
  pointwise [k0_pay58]
  simp only [p55, p56]

theorem p59 : (k0_pay59 (F := Ideal) qa m l kk : FVec Ideal S1x1024 .f32) (ix2 0 r)
    = Ideal.exp (m (ix2 0 r) - max (m (ix2 0 r)) (Finset.univ.fold max ⊥ (csc qa kk r))) * l (ix2 0 r)
      + ∑ k, Ideal.exp (csc qa kk r k - max (m (ix2 0 r)) (Finset.univ.fold max ⊥ (csc qa kk r))) := by
  pointwise [k0_pay59]
  simp only [p57, p58]

theorem p60 : (k0_pay60 (F := Ideal) qa m kk a vv : FVec Ideal S128x1024 .f32) (ix2 d r)
    = Ideal.exp (m (ix2 0 r) - max (m (ix2 0 r)) (Finset.univ.fold max ⊥ (csc qa kk r))) * a (ix2 d r)
      + ∑ k, vv (ix3 0 d k) * Ideal.exp (csc qa kk r k - max (m (ix2 0 r)) (Finset.univ.fold max ⊥ (csc qa kk r))) := by
  pointwise [k0_pay60]
  simp only [p57, p58]

end

/-- The last chunk's score: the keys after the query at the least value. -/
def lsc (qi n : ℕ) (qa : FVec Ideal S1024x256 .bf16) (kk : FVec Ideal S256x256 .bf16) (r : Fin 1024) (k : Fin 256) : EReal :=
  if 256 * n + k.val ≤ 256 * qi + r.val % 256 then csc qa kk r k else ⊥

section

variable (i : grid0.Coords) (n : ℕ) (hn : n < 16) (qa : FVec Ideal S1024x256 .bf16) (kk : FVec Ideal S256x256 .bf16) (vv : FVec Ideal S1x128x256 .bf16)
  (m l : FVec Ideal S1x1024 .f32) (a : FVec Ideal S128x1024 .f32) (r : Fin 1024) (k : Fin 256) (d : Fin 128)

include hn in
theorem p67 : (k0_pay67 (F := Ideal) qa (k0_pay40 i) (iota .tc S256x1024 32 [0] iota_S256x1024_d0_w32) (BitVec.ofNat 32 n) kk : FVec Ideal S256x1024 .f32) (ix2 k r)
    = lsc (i 2).val n qa kk r k := by
  have hi : (i 2).val < 16 := (i 2).isLt
  have hr := r.isLt
  have hk := k.isLt
  pointwise [k0_pay67, k0_pay40]
  simp only [scale, low]
  have ea : (IntOp.andi (BitVec.ofNat 32 r.val) 255#32).toNat = r.val % 256 := by
    simp only [IntOp.andi, BitVec.toNat_and, BitVec.toNat_ofNat]
    rw [show 255 % 2 ^ 32 = 2 ^ 8 - 1 from rfl, Nat.and_two_pow_sub_one_eq_mod]
    omega
  have e1 : (IntOp.addi (Scalar.muli (BitVec.ofNat 32 n) 256#32) (BitVec.ofNat 32 k.val)).toNat = 256 * n + k.val := by
    simp only [Scalar.muli, IntOp.addi, IntOp.muli, BitVec.toNat_add, BitVec.toNat_mul, BitVec.toNat_ofNat]
    omega
  have e2 : (IntOp.addi (Scalar.muli (BitVec.ofNat 32 (i 2).val) 256#32) (IntOp.andi (BitVec.ofNat 32 r.val) 255#32)).toNat
      = 256 * (i 2).val + r.val % 256 := by
    rw [IntOp.addi, BitVec.toNat_add, ea]
    simp only [Scalar.muli, IntOp.muli, BitVec.toNat_mul, BitVec.toNat_ofNat]
    omega
  generalize IntOp.addi (Scalar.muli (BitVec.ofNat 32 n) 256#32) (BitVec.ofNat 32 k.val) = w at e1 ⊢
  generalize IntOp.addi (Scalar.muli (BitVec.ofNat 32 (i 2).val) 256#32) (IntOp.andi (BitVec.ofNat 32 r.val) 255#32) = w' at e2 ⊢
  clear ea
  have hc : IntOp.cmpi .sle w w' = if 256 * n + k.val ≤ 256 * (i 2).val + r.val % 256 then 1#1 else 0#1 := by word_omega
  rw [hc, Cert.ReferenceIdeal.Win.select_ite]
  rfl

include hn in
theorem p68 : (k0_pay68 (F := Ideal) qa (k0_pay40 i) (iota .tc S256x1024 32 [0] iota_S256x1024_d0_w32) (BitVec.ofNat 32 n) m kk : FVec Ideal S1x1024 .f32) (ix2 0 r)
    = max (m (ix2 0 r)) (Finset.univ.fold max ⊥ (lsc (i 2).val n qa kk r)) := by
  pointwise [k0_pay68]
  simp only [p67 i n hn, Cert.MaskedSum.ofBits_low]

include hn in
theorem p69 : (k0_pay69 (F := Ideal) qa (k0_pay40 i) (iota .tc S256x1024 32 [0] iota_S256x1024_d0_w32) (BitVec.ofNat 32 n) m kk : FVec Ideal S1x1024 .f32) (ix2 0 r)
    = Ideal.exp (m (ix2 0 r) - max (m (ix2 0 r)) (Finset.univ.fold max ⊥ (lsc (i 2).val n qa kk r))) := by
  pointwise [k0_pay69]
  simp only [p68 i n hn]

include hn in
theorem p70 : (k0_pay70 (F := Ideal) qa (k0_pay40 i) (iota .tc S256x1024 32 [0] iota_S256x1024_d0_w32) (BitVec.ofNat 32 n) m kk : FVec Ideal S256x1024 .f32) (ix2 k r)
    = Ideal.exp (lsc (i 2).val n qa kk r k - max (m (ix2 0 r)) (Finset.univ.fold max ⊥ (lsc (i 2).val n qa kk r))) := by
  pointwise [k0_pay70]
  simp only [p67 i n hn, p68 i n hn]

include hn in
/-- The last chunk's sum of weights. -/
theorem p7172 : (k0_pay71 (F := Ideal) qa (k0_pay40 i) (iota .tc S256x1024 32 [0] iota_S256x1024_d0_w32) (BitVec.ofNat 32 n) m l kk : FVec Ideal S1x1024 .f32) (ix2 0 r)
      + (k0_pay72 (F := Ideal) qa (k0_pay40 i) (iota .tc S256x1024 32 [0] iota_S256x1024_d0_w32) (BitVec.ofNat 32 n) m kk : FVec Ideal S1024 .f32) (ix1 r)
    = Ideal.exp (m (ix2 0 r) - max (m (ix2 0 r)) (Finset.univ.fold max ⊥ (lsc (i 2).val n qa kk r))) * l (ix2 0 r)
      + ∑ k, Ideal.exp (lsc (i 2).val n qa kk r k - max (m (ix2 0 r)) (Finset.univ.fold max ⊥ (lsc (i 2).val n qa kk r))) := by
  pointwise [k0_pay71, k0_pay72]
  simp only [p69 i n hn, p70 i n hn]

include hn in
/-- The last chunk's weighted sum. -/
theorem p1 : (k0_pay1 (F := Ideal) (k0_pay69 qa (k0_pay40 i) (iota .tc S256x1024 32 [0] iota_S256x1024_d0_w32) (BitVec.ofNat 32 n) m kk)
      (k0_pay70 qa (k0_pay40 i) (iota .tc S256x1024 32 [0] iota_S256x1024_d0_w32) (BitVec.ofNat 32 n) m kk) a vv : FVec Ideal S128x1024 .f32) (ix2 d r)
    = Ideal.exp (m (ix2 0 r) - max (m (ix2 0 r)) (Finset.univ.fold max ⊥ (lsc (i 2).val n qa kk r))) * a (ix2 d r)
      + ∑ k, vv (ix3 0 d k) * Ideal.exp (lsc (i 2).val n qa kk r k - max (m (ix2 0 r)) (Finset.univ.fold max ⊥ (lsc (i 2).val n qa kk r))) := by
  pointwise [k0_pay1]
  simp only [p69 i n hn, p70 i n hn]

end

/-- The output block: the weighted sums over the sums of weights, unstacked and turned round. -/
theorem p2 (x : FVec Ideal S1x1024 .f32) (y : FVec Ideal S1024 .f32) (a : FVec Ideal S128x1024 .f32) (t : Fin 256) (c : Fin 512) :
    (k0_pay2 (F := Ideal) x y a : FVec Ideal S256x512 .bf16) (ix2 t c)
      = Ideal.div (a (ix2 ⟨c.val % 128, by omega⟩ ⟨c.val / 128 * 256 + t.val, by omega⟩))
        (max (x (ix2 0 ⟨c.val / 128 * 256 + t.val, by omega⟩) + y (ix1 ⟨c.val / 128 * 256 + t.val, by omega⟩)) (Ideal.ofBits FTy.f32 228737632#32)) := by
  have hc := c.isLt
  pointwise [k0_pay2]
  have e : ∀ (d d' : Fin 128) (r r' : Fin 1024), d.val = d'.val → r.val = r'.val →
      Ideal.div (a (ix2 d r)) (max (x (ix2 0 r) + y (ix1 r)) (Ideal.ofBits FTy.f32 228737632#32))
        = Ideal.div (a (ix2 d' r')) (max (x (ix2 0 r') + y (ix1 r')) (Ideal.ofBits FTy.f32 228737632#32)) := by
    intro d d' r r' hd hr
    rw [Fin.ext hd, Fin.ext hr]
  split_ifs <;> exact e _ _ _ _ (by dsimp only; omega) (by dsimp only; omega)

/-- The stacked queries with the biases beside them. -/
theorem p38 (q : FVec Ideal S256x512 .f32) (b : FVec Ideal S1x1x256x128 .bf16) (r : Fin 1024) (j : Fin 256) :
    (k0_pay38 (F := Ideal) q b : FVec Ideal S1024x256 .bf16) (ix2 r j)
      = if h : j.val < 128 then q (ix2 ⟨r.val % 256, by omega⟩ ⟨r.val / 256 * 128 + j.val, by omega⟩)
        else b (ix4 0 0 ⟨r.val % 256, by omega⟩ ⟨j.val - 128, by omega⟩) := by
  pointwise [k0_pay38]
  have hj := j.isLt
  by_cases h : j.val < 128
  · simp only [dif_pos h]
    split_ifs <;> exact congrArg q (congrArg₂ ix2 (Fin.ext (by dsimp only; omega)) (Fin.ext (by dsimp only; omega)))
  · simp only [dif_neg h]
    split_ifs <;> exact congrArg (fun x => b (ix4 0 0 x ⟨j.val - 128, by omega⟩)) (Fin.ext (by dsimp only; omega))

end Cert.Kernel5Ideal.Sel

end
-- ==== Proof.SelFinal.lean ====
/- The array the selected attention leaves is the reference's. -/
module

public import proofs.«01_k».proof.Proof.SelPay
public import proofs.«01_k».proof.Proof.SelRef

@[expose] public section

set_option maxRecDepth 16384

noncomputable section

open Idealize.ShloMosaic Idealize.ShloMosaic.TcCoe Idealize.SL.Sem
open Idealize.ShloMosaic.Pipeline (Dat)

namespace Cert.Kernel5Ideal.Sel

open Cert.Kernel5Ideal Cert.Kernel5Ideal.Gen Cert.ChunkSum Cert.MaskedSum

section

variable (qi : ℕ) (qa : FVec Ideal S1024x256 .bf16) (K : FVec Ideal S4096x256 .bf16) (V : FVec Ideal S16x128x256 .bf16)

/-- A score over all keys. -/
def fsc (r : Fin 1024) (x : Fin 4096) : EReal :=
  (∑ j : Fin 256, K (ix2 x j) * qa (ix2 r j)) * (((Real.sqrt 128)⁻¹ : ℝ) : EReal)

/-- The keys up to the query. -/
abbrev ok (r : Fin 1024) (x : Fin 4096) : Prop := x.val ≤ 256 * qi + r.val % 256

/-- A value over all keys. -/
def fv (d : Fin 128) (x : Fin 4096) : EReal := V (ix3 ⟨x.val / 256, by omega⟩ d ⟨x.val % 256, by omega⟩)

theorem csc_eq (n : ℕ) (r : Fin 1024) (k : Fin 256) (x : Fin 4096) (h : x.val = 256 * n + k.val) :
    csc qa (kch K n) r k = fsc qa K r x := by
  have hx := x.isLt
  unfold csc fsc
  refine congrArg (· * _) (Finset.sum_congr rfl fun j _ => congrArg (· * _) ?_)
  exact congrArg (fun a => K (ix2 a j)) (Fin.ext (by show (256 * n + k.val) % 4096 = x.val; omega))

theorem vch_eq (n : ℕ) (d : Fin 128) (k : Fin 256) (x : Fin 4096) (h : x.val = 256 * n + k.val) :
    vch V n (ix3 0 d k) = fv V d x := by
  have hx := x.isLt
  have hk := k.isLt
  exact congrArg₂ (fun a b => V (ix3 a d b)) (Fin.ext (by show n % 16 = x.val / 256; omega)) (Fin.ext (by show k.val = x.val % 256; omega))

/-- What the loops carry after `n` chunks. -/
def Inv (n : ℕ) (z : St) : Prop := ∀ r : Fin 1024,
  z.1 (ix2 0 r) = (lo n).sup (cut (ok qi r) (fsc qa K r))
    ∧ z.2.1 (ix2 0 r) = acc (lo n) (cut (ok qi r) (fsc qa K r)) (fun _ => 1)
    ∧ ∀ d : Fin 128, z.2.2 (ix2 d r) = acc (lo n) (cut (ok qi r) (fsc qa K r)) (fv V d)

theorem inv_zero : Inv qi qa K V 0 (k0_pay41, k0_pay42, k0_pay39) := by
  intro r
  rw [lo_zero]
  refine ⟨?_, ?_, fun d => ?_⟩
  · show (k0_pay41 (F := Ideal) : FVec Ideal S1x1024 .f32) (ix2 0 r) = _
    pointwise [k0_pay41]
    rw [low]
    rfl
  · show (k0_pay42 (F := Ideal) : FVec Ideal S1x1024 .f32) (ix2 0 r) = _
    pointwise [k0_pay42]
    rfl
  · show (k0_pay39 (F := Ideal) : FVec Ideal S128x1024 .f32) (ix2 d r) = _
    pointwise [k0_pay39]
    rfl

theorem inv_step (n : ℕ) (hq : qi < 16) (hn : n < qi) (z : St) (h : Inv qi qa K V n z) :
    Inv qi qa K V (n + 1) (stp qa (kch K n) (vch V n) z) := by
  intro r
  obtain ⟨hm, hl, ha⟩ := h r
  have hs : ∀ (k : Fin 256) (x : Fin 4096), x.val = 256 * n + k.val → csc qa (kch K n) r k = cut (ok qi r) (fsc qa K r) x := by
    intro k x e
    have hk := k.isLt
    rw [csc_eq qa K n r k x e]
    exact (if_pos (by show x.val ≤ 256 * qi + r.val % 256; omega)).symm
  unfold stp
  dsimp only
  refine ⟨?_, ?_, fun d => ?_⟩
  · rw [p56, hm]
    exact sup_step n (by omega) _ _ hs
  · rw [p59, hm, hl]
    simpa only [one_mul] using acc_step n (by omega) _ (fun _ => 1) _ (fun _ => 1) hs (fun _ _ _ => rfl)
  · rw [p60, hm, ha d]
    exact acc_step n (by omega) _ (fv V d) _ _ hs (vch_eq V n d)

theorem inv_chain (hq : qi < 16) (n : ℕ) (hn : n ≤ qi) :
    Inv qi qa K V n (chain qa K V (k0_pay41, k0_pay42, k0_pay39) n) := by
  induction n with
  | zero => exact inv_zero qi qa K V
  | succ n ih => exact inv_step qi qa K V n hq (by omega) _ (ih (by omega))

end

/-- A point's output block at a row and a column. -/
theorem outS_apply (i : grid0.Coords) (q : FVec Ideal S256x512 .f32) (b : FVec Ideal S1x1x256x128 .bf16) (K : FVec Ideal S4096x256 .bf16)
    (V : FVec Ideal S16x128x256 .bf16) (n : ℕ) (hn : n < 16) (hi : (i 2).val = n) (ho : own i = BitVec.ofNat 32 n) (t : Fin 256) (c : Fin 512) :
    outS i q b K V n (ix2 t c) = attn ⊥ ⊥ (Ideal.ofBits FTy.f32 228737632#32) (ok n ⟨c.val / 128 * 256 + t.val, by omega⟩)
      (fsc (k0_pay38 q b) K ⟨c.val / 128 * 256 + t.val, by omega⟩) (fv V ⟨c.val % 128, by omega⟩) := by
  have inv := inv_chain n (k0_pay38 q b) K V hn n le_rfl
  unfold outS
  rw [ho]
  generalize chain _ K V _ n = z at inv ⊢
  generalize k0_pay38 (F := Ideal) q b = qa at inv ⊢
  have hr : c.val / 128 * 256 + t.val < 1024 := by omega
  obtain ⟨hm, hl, ha⟩ := inv ⟨c.val / 128 * 256 + t.val, hr⟩
  have ha := ha ⟨c.val % 128, by omega⟩
  have hs : ∀ (k : Fin 256) (x : Fin 4096), x.val = 256 * n + k.val →
      lsc (i 2).val n qa (kch K n) ⟨c.val / 128 * 256 + t.val, hr⟩ k
        = cut (ok n ⟨c.val / 128 * 256 + t.val, hr⟩) (fsc qa K ⟨c.val / 128 * 256 + t.val, hr⟩) x := by
    intro k x e
    unfold lsc
    rw [csc_eq qa K n _ k x e, ← e, hi]
  unfold fin
  rw [p2, p7172 i n hn, p1 i n hn, hm, hl, ha]
  rw [acc_step n hn _ (fv V ⟨c.val % 128, by omega⟩) _ _ hs (vch_eq V n ⟨c.val % 128, by omega⟩)]
  have e1 := acc_step n hn _ (fun _ => 1) _ (fun _ => 1) hs (fun _ _ _ => rfl)
  simp only [one_mul] at e1
  rw [e1]
  refine attn_acc _ tiny_pos _ _ _ _ fun x hx => ?_
  have hx' := x.isLt
  simp only [lo, Finset.mem_filter, Finset.mem_univ, true_and]
  omega

/-- A score over the extended keys: the dot product of the keys and the query, and the bias of the key's block. -/
theorem fsc_eq (q : FVec Ideal S256x512 .f32) (b : FVec Ideal S1x1x256x128 .bf16) (X : FVec Ideal S4096x128 .f32) (r : Fin 1024) (x : Fin 4096) :
    fsc (k0_pay38 q b) (keys X) r x
      = ((∑ j : Fin 128, X (ix2 x j) * q (ix2 ⟨r.val % 256, by omega⟩ ⟨r.val / 256 * 128 + j.val, by omega⟩))
        + b (ix4 0 0 ⟨r.val % 256, by omega⟩ ⟨x.val / 64, by omega⟩)) * (((Real.sqrt 128)⁻¹ : ℝ) : EReal) := by
  unfold fsc
  refine congrArg (· * _) ?_
  rw [Fin.sum_univ_add (a := 128) (b := 128)]
  refine congrArg₂ (· + ·) (Finset.sum_congr rfl fun j _ => ?_) ?_
  · have hj := j.isLt
    rw [p38, dif_pos (show (Fin.castAdd 128 j).val < 128 from hj)]
    refine congrArg (· * _) ?_
    unfold keys
    exact dif_pos (show (Fin.castAdd 128 j).val < 128 from hj)
  · have hx := x.isLt
    rw [Finset.sum_eq_single (⟨x.val / 64, by omega⟩ : Fin 128)]
    · rw [p38, dif_neg (by simp)]
      unfold keys
      rw [dif_neg (by simp), if_pos (by simp), one_mul]
      exact congrArg (fun a => b (ix4 0 0 ⟨r.val % 256, by omega⟩ a)) (Fin.ext (by simp))
    · intro j _ hj
      have hj' : ¬x.val / 64 = j.val := fun e => hj (Fin.ext e.symm)
      unfold keys
      rw [dif_neg (by simp), if_neg (by simpa using hj'), zero_mul]
    · intro h
      exact absurd (Finset.mem_univ _) h

variable (m : (ℓ : Loc nD τ sig) → Buf (Elt Ideal) ℓ)

/-- The block indices at a point `(b, g, i)`. -/
theorem idx : ∀ t : Fin cfg0.N, win0_0.index t = ![t.val / 64 * 16 + t.val % 16, t.val / 16 % 4]
    ∧ win0_1.index t = ![t.val / 64, t.val / 16 % 4, t.val % 16, 0] ∧ win0_2.index t = ![t.val / 64, 24 + t.val / 16 % 4]
    ∧ win0_3.index t = ![t.val / 64, 28 + t.val / 16 % 4] ∧ win0_4.index t = ![t.val / 64 * 16 + t.val % 16, t.val / 16 % 4]
    ∧ (grid0.coords t 2).val = t.val % 16 :=
  (by decide +kernel : ∀ t : Fin grid0.N, _)

theorem blk_q (c : Dev nD) (t : Fin cfg0.N) (r : Fin 256) (l : Fin 512) (h : (t.val / 64 * 16 + t.val % 16) * 256 + r.val < 8192)
    (h' : t.val / 16 % 4 * 512 + l.val < 11520) :
    (X0_0 m c t : FVec Ideal S256x512 .f32) (ix2 r l) = m ((c : Thread nD τ).loc main_arg0)
      (ix2 ⟨(t.val / 64 * 16 + t.val % 16) * 256 + r.val, h⟩ ⟨t.val / 16 % 4 * 512 + l.val, h'⟩) := by
  unfold X0_0 Pipeline.Window.fill
  rw [dif_pos (moved0_0 t _)]
  blk_ext [iblk, V, idx t]

theorem blk_a (c : Dev nD) (t : Fin cfg0.N) (r : Fin 256) (l : Fin 128) (h : t.val / 64 < 2) (h' : t.val / 16 % 4 < 4)
    (h'' : t.val % 16 * 256 + r.val < 4096) :
    (iblk m c 1 t : FVec Ideal S1x1x256x128 .bf16) (ix4 0 0 r l) = m ((c : Thread nD τ).loc main_arg1)
      (ix4 ⟨t.val / 64, h⟩ ⟨t.val / 16 % 4, h'⟩ ⟨t.val % 16 * 256 + r.val, h''⟩ l) := by
  blk_ext [iblk, V, idx t]

theorem blk_k (c : Dev nD) (t : Fin cfg0.N) (r : Fin 4096) (l : Fin 128) (h : t.val / 64 * 4096 + r.val < 8192)
    (h' : 3072 + (t.val / 16 % 4 * 128 + l.val) < 11520) :
    (iblk m c 2 ⟨16 * (t.val / 16), Pipeline.run_start_lt t⟩ : FVec Ideal S4096x128 .f32) (ix2 r l) = m ((c : Thread nD τ).loc main_arg0)
      (ix2 ⟨t.val / 64 * 4096 + r.val, h⟩ ⟨3072 + (t.val / 16 % 4 * 128 + l.val), h'⟩) := by
  blk_ext [iblk, V, idx ⟨16 * (t.val / 16), Pipeline.run_start_lt t⟩]

theorem blk_v (c : Dev nD) (t : Fin cfg0.N) (r : Fin 4096) (l : Fin 128) (h : t.val / 64 * 4096 + r.val < 8192)
    (h' : 3584 + (t.val / 16 % 4 * 128 + l.val) < 11520) :
    (iblk m c 3 ⟨16 * (t.val / 16), Pipeline.run_start_lt t⟩ : FVec Ideal S4096x128 .f32) (ix2 r l) = m ((c : Thread nD τ).loc main_arg0)
      (ix2 ⟨t.val / 64 * 4096 + r.val, h⟩ ⟨3584 + (t.val / 16 % 4 * 128 + l.val), h'⟩) := by
  blk_ext [iblk, V, idx ⟨16 * (t.val / 16), Pipeline.run_start_lt t⟩]

theorem attn_congr {lo init tiny : EReal} {n : ℕ} {ok ok' : Fin n → Prop} [DecidablePred ok] [DecidablePred ok'] {s s' v v' : Fin n → EReal}
    (h : ∀ k, ok k ↔ ok' k) (hs : ∀ k, s k = s' k) (hv : ∀ k, v k = v' k) : attn lo init tiny ok s v = attn lo init tiny ok' s' v' := by
  obtain rfl : ok = ok' := funext fun k => propext (h k)
  obtain rfl : s = s' := funext hs
  obtain rfl : v = v' := funext hv
  congr!

/-- A point's block holds the selected attention of its rows and columns. -/
theorem point (c : Dev nD) (t : Fin cfg0.N) (r : Fin 256) (q : Fin 512) (h : (t.val / 64 * 16 + t.val % 16) * 256 + r.val < 8192)
    (h' : t.val / 16 % 4 * 512 + q.val < 2048) :
    outS (grid0.coords t) (X0_0 m c t) (iblk m c 1 t) (keys (iblk m c 2 ⟨16 * (t.val / 16), Pipeline.run_start_lt t⟩))
      (vals (iblk m c 3 ⟨16 * (t.val / 16), Pipeline.run_start_lt t⟩)) (t.val % 16) (ix2 r q)
      = Cert.Reference5Ideal.Sel.sel (m ((c : Thread nD τ).loc main_arg0)) (m ((c : Thread nD τ).loc main_arg1))
        ⟨(t.val / 64 * 16 + t.val % 16) * 256 + r.val, h⟩ ⟨t.val / 16 % 4 * 512 + q.val, h'⟩ := by
  have hN : t.val < 128 := lt_of_lt_of_eq t.isLt N_0
  have hr := r.isLt
  have hq := q.isLt
  rw [outS_apply _ _ _ _ _ _ (by omega) (idx t).2.2.2.2.2 (own_eq t)]
  unfold Cert.Reference5Ideal.Sel.sel
  refine attn_congr ?_ ?_ ?_
  · intro k
    dsimp only [ok]
    omega
  · intro k
    have hk := k.isLt
    rw [fsc_eq]
    unfold Cert.Reference5Ideal.Sel.sc
    refine congrArg (· * _) (congrArg₂ (· + ·) (Finset.sum_congr rfl fun l _ => congrArg₂ (· * ·) ?_ ?_) ?_)
    · have hl := l.isLt
      rw [blk_k m c t _ l (by omega) (by omega)]
      exact congrArg _ (congrArg₂ ix2 (Fin.ext (by dsimp only; omega)) (Fin.ext (by dsimp only; omega)))
    · have hl := l.isLt
      rw [blk_q m c t _ _ (by dsimp only; omega) (by dsimp only; omega)]
      exact congrArg _ (congrArg₂ ix2 (Fin.ext (by dsimp only; omega)) (Fin.ext (by dsimp only; omega)))
    · rw [blk_a m c t _ _ (by omega) (by omega) (by dsimp only; omega)]
      refine congrArg _ (funext fun a => ?_)
      fin_cases a
      · exact Fin.ext (by show t.val / 64 = ((t.val / 64 * 16 + t.val % 16) * 256 + r.val) / 4096; omega)
      · exact Fin.ext (by show t.val / 16 % 4 = (t.val / 16 % 4 * 512 + q.val) / 512; omega)
      · exact Fin.ext (by show t.val % 16 * 256 + (q.val / 128 * 256 + r.val) % 256 = ((t.val / 64 * 16 + t.val % 16) * 256 + r.val) % 4096; omega)
      · rfl
  · intro k
    have hk := k.isLt
    unfold fv
    rw [← vals_at _ _ k ⟨q.val % 128, by omega⟩ (by show k.val = k.val / 256 * 256 + k.val % 256; omega) rfl,
      blk_v m c t _ _ (by omega) (by dsimp only; omega)]
    exact congrArg _ (congrArg₂ ix2 (Fin.ext (by dsimp only; omega)) (Fin.ext (by dsimp only; omega)))

/-- The result array after the run. -/
theorem final (c : Dev nD) : (dats m 0 c).arrAt 4 cfg0.N
    = fun i => Cert.Reference5Ideal.Sel.sel (m ((c : Thread nD τ).loc main_arg0)) (m ((c : Thread nD τ).loc main_arg1)) (i 0) (i 1) := by
  refine (dats m 0 c).arrAt_eq_of_covers 4 _ (by decide +kernel) fun t _ y => ?_
  blk_simp
  rw [after0_4, out_eq m c t]
  have hN : t.val < 128 := lt_of_lt_of_eq t.isLt N_0
  have h0 : (y 0).val < 256 := (y 0).isLt
  have h1 : (y 1).val < 512 := (y 1).isLt
  have e : (win0_4.blk t).view.emb y
      = (ix2 ⟨(t.val / 64 * 16 + t.val % 16) * 256 + (y 0).val, by omega⟩ ⟨t.val / 16 % 4 * 512 + (y 1).val, by omega⟩ : S8192x2048.Idx) := by
    blk_ext [idx t]
  rw [e]
  have ey : y = (ix2 ⟨(y 0).val, h0⟩ ⟨(y 1).val, h1⟩ : S256x512.Idx) := funext fun a => by fin_cases a <;> rfl
  exact (congrArg _ ey).trans (point m c t ⟨(y 0).val, h0⟩ ⟨(y 1).val, h1⟩ _ _)

end Cert.Kernel5Ideal.Sel

end
-- ==== Proof.SelClaims.lean ====
/- The claims about the selected attention. -/
module

public import proofs.«01_k».proof.Defs
public import proofs.«01_k».proof.Proof.SelFinal
public import proofs.«01_k».proof.Proof.Gen.Kernel5.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Sel

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)
theorem preserves : Cert.preserves_Kernel5_Kernel5Ideal :=
  ⟨IdealRules.named_const.statement Cert.Kernel5Ideal.κ "mask" .f32 0xF149F2CA#32 ⊥ rfl,
    IdealRules.named_const.statement Cert.Kernel5Ideal.κ "s" .f32 0x3DB504F3#32 (((Real.sqrt 128)⁻¹ : ℝ) : EReal) rfl⟩

/-- The reference's array at every row and column. -/
theorem ref_eq (z : FVec Ideal Cert.Reference5Ideal.S8192x11520 .f32) (a : FVec Ideal Cert.Reference5Ideal.S2x4x4096x128 .bf16) :
    Cert.Reference5Ideal.Read.val_main_v40 (F := Ideal) z a = fun i => Cert.Reference5Ideal.Sel.sel z a (i 0) (i 1) := by
  funext i
  idx_vars i
  exact Cert.Reference5Ideal.Sel.out z a i0 i1

/-- Both programs end with the selected attention of their arguments. -/
theorem algebraic : Cert.algebraic_Kernel5Ideal_Reference5Ideal := fun m ρ m' ρ' _ hag =>
  ⟨fun c => fun i => Cert.Reference5Ideal.Sel.sel (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1)) (i 0) (i 1),
    (θ_run _ _ _).mono (fun _ h c => ⟨(h c).1.trans (Cert.Kernel5Ideal.Sel.final m c), (h c).2⟩)
      (Cert.Kernel5Ideal.Value.run_blocks (F := Ideal) m ρ),
    (θ_run _ _ _).mono (fun _ h c => ⟨(h c).1.trans ((Cert.Reference5Ideal.Read.val_main_v40_eq (F := Ideal) _ _).trans
        ((ref_eq _ _).trans (by rw [(hag c).1, (hag c).2]; rfl))), (h c).2⟩)
      (Cert.Reference5Ideal.Value.run (F := Ideal) m' ρ')⟩

end Cert.Proof.Sel

end
-- ==== Proof.SampBody.lean ====
/- What one grid point of the input projection of the sample leaves behind: the normalised row block kept in the
   scratch, and the product of that block with the point's block of columns. -/
module

public import proofs.«01_k».proof.Proof.Gen.Kernel6Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Samp

open Cert.Kernel6Ideal Cert.Kernel6Ideal.Gen

variable (m : (ℓ : Loc nD τ sig) → Buf (Elt Ideal) ℓ)

/-- The three block indices at a point: row block `t / 15`, column block `t % 15`. -/
theorem idx : ∀ t : Fin cfg0.N, win0_0.index t = ![t.val / 15, 0] ∧ win0_1.index t = ![0, 0]
    ∧ win0_2.index t = ![0, t.val % 15] ∧ win0_3.index t = ![t.val / 15, t.val % 15] :=
  (by decide +kernel : ∀ t : Fin grid0.N, _)

/-- The first point of a run leaves the normalised row block in the scratch. -/
theorem scr_A (c : Dev nD) (t : Fin cfg0.N) (h : t.val % 15 = 0) :
    (outsAt0 m c t.val t.isLt).2 = k0_pay1 (iblk m c 0 t) (iblk m c 1 t) := by
  rw [outsAt0_A m c t h]
  frame_out

/-- The later points of a run leave the scratch as it was. -/
theorem scr_B (c : Dev nD) (t : Fin cfg0.N) (h : ¬t.val % 15 = 0) :
    (outsAt0 m c t.val t.isLt).2 = (outsAt0 m c (t.val - 1) (Nat.lt_of_le_of_lt (Nat.sub_le _ _) t.isLt)).2 := by
  rw [outsAt0_B m c t h]
  dsimp only
  unfold sout0_B_0
  first | rfl | frame_out

/-- What a point writes to its output block, over what it leaves in the scratch. -/
theorem out_eq (c : Dev nD) (t : Fin cfg0.N) :
    (outsAt0 m c t.val t.isLt).1 = k0_pay2 (outsAt0 m c t.val t.isLt).2 (iblk m c 2 t) := by
  by_cases h : t.val % 15 = 0
  · rw [scr_A m c t h, outsAt0_A m c t h]
    frame_out
  · rw [scr_B m c t h, outsAt0_B m c t h]
    frame_out
    simp only [read_unread_whole]

end Cert.Kernel6Ideal.Samp

end
-- ==== Proof.SampFinal.lean ====
/- The array the input projection of the sample leaves, the slices of it that are new keys and values, and the
   reference's arrays read the same way. The normalised entry and the reordered weights are those of the
   prompt's projection. -/
module

public import proofs.«01_k».proof.Proof.SampBody
public import proofs.«01_k».proof.Proof.ProjFinal
public import proofs.«01_k».proof.Proof.Gen.Reference6Ideal.Read

@[expose] public section

set_option maxRecDepth 16384

noncomputable section

open Idealize.ShloMosaic Idealize.ShloMosaic.TcCoe Idealize.SL.Sem
open Idealize.ShloMosaic.Pipeline (Dat)

namespace Cert.Kernel6Ideal.Samp

open Cert.Kernel6Ideal Cert.Kernel6Ideal.Gen
open Cert.Kernel2Ideal.Proj (nrm nrm_congr cols cols_apply)

variable (m : (ℓ : Loc nD τ sig) → Buf (Elt Ideal) ℓ)

set_option maxHeartbeats 2000000 in
/-- The weight operand at the region's start. -/
theorem entry_w (c : Dev nD) : V m c main_v8 = cols (m ((c : Thread nD τ).loc main_arg2)) := by
  entry_read
  rfl

/-- The gain operand at the region's start. -/
theorem entry_g (c : Dev nD) : V m c main_v9
    = shapeCast S1x2048 (shapeCast S2048 (m ((c : Thread nD τ).loc main_arg1) : FVec Ideal S1x2048 .f32) shapeCasts_S1x2048_S2048)
        shapeCasts_S2048_S1x2048 := by
  entry_read
  rfl

/-- The input operand at the region's start: the rows of all sequences one after the other. -/
theorem entry_x (c : Dev nD) : V m c main_v0
    = shapeCast S256x2048 (m ((c : Thread nD τ).loc main_arg0) : FVec Ideal S32x8x2048 .f32) shapeCasts_S32x8x2048_S256x2048 := by
  entry_read
  rfl

/-- The rows of all sequences one after the other. -/
def row (x : FVec Ideal S32x8x2048 .f32) (r : Fin 256) (j : Fin 2048) : EReal :=
  x (ix3 ⟨r.val / 8, by omega⟩ ⟨r.val % 8, by omega⟩ j)

/-- The product of the normalised input with the reordered weights. -/
def proj (x : FVec Ideal S32x8x2048 .f32) (g : FVec Ideal S1x2048 .f32) (w : FVec Ideal S1x2048x11312 .f32) :
    FVec Ideal S256x11520 .f32 :=
  fun i => ∑ k : Fin 2048, nrm (row x) (fun j => g (ix2 0 j)) (i 0) k * cols w (ix2 k (i 1))

theorem proj_apply (x : FVec Ideal S32x8x2048 .f32) (g : FVec Ideal S1x2048 .f32) (w : FVec Ideal S1x2048x11312 .f32)
    (r : Fin 256) (l : Fin 11520) :
    proj x g w (ix2 r l) = ∑ k : Fin 2048, nrm (row x) (fun j => g (ix2 0 j)) r k * cols w (ix2 k l) := rfl

/-- What a point stores, read at an index of its block. -/
theorem pay (X : FVec Ideal S256x2048 .f32) (G : FVec Ideal S1x2048 .f32) (W : FVec Ideal S2048x768 .bf16)
    (y : S256x768.Idx) :
    (k0_pay2 (F := Ideal) (k0_pay1 (F := Ideal) X G : FVec Ideal S256x2048 .bf16) W : FVec Ideal S256x768 .f32) y
      = ∑ k : Fin 2048, nrm (fun (r : Fin 256) j => X (ix2 r j)) (fun j => G (ix2 0 j)) (y 0) k * W (ix2 k (y 1)) := by
  pointwise [k0_pay2, k0_pay1, nrm]

/-- The scratch after any point: the normalised row block of the point's run. -/
theorem scr (c : Dev nD) (t : Fin cfg0.N) :
    (outsAt0 m c t.val t.isLt).2 = k0_pay1 (iblk m c 0 ⟨15 * (t.val / 15), Pipeline.run_start_lt t⟩)
      (iblk m c 1 ⟨15 * (t.val / 15), Pipeline.run_start_lt t⟩) :=
  Pipeline.eq_of_write_hold (fun n h => (outsAt0 m c n h).2) 15 (fun t => k0_pay1 (iblk m c 0 t) (iblk m c 1 t))
    (scr_A m c) (scr_B m c) t

/-- The reshape that puts the rows of all sequences one after the other. -/
theorem flat_apply (x : FVec Ideal S32x8x2048 .f32) (r : Fin 256) (j : Fin 2048) :
    shapeCast S256x2048 x shapeCasts_S32x8x2048_S256x2048 (ix2 r j) = row x r j := by
  pointwise [row]

/-- The row block a run's first point staged, read in the argument. -/
theorem blk_x (c : Dev nD) (t : Fin cfg0.N) (r : Fin 256) (j : Fin 2048) (h : t.val / 15 * 256 + r.val < 256) :
    (iblk m c 0 ⟨15 * (t.val / 15), Pipeline.run_start_lt t⟩ : FVec Ideal S256x2048 .f32) (ix2 r j)
      = row (m ((c : Thread nD τ).loc main_arg0)) ⟨t.val / 15 * 256 + r.val, h⟩ j := by
  have e : (iblk m c 0 ⟨15 * (t.val / 15), Pipeline.run_start_lt t⟩ : FVec Ideal S256x2048 .f32) (ix2 r j)
      = (V m c main_v0 : FVec Ideal S256x2048 .f32) (ix2 ⟨t.val / 15 * 256 + r.val, h⟩ j) := by
    blk_ext [iblk, idx ⟨15 * (t.val / 15), Pipeline.run_start_lt t⟩]
  rw [e, entry_x, flat_apply]

/-- The gain block is the gain. -/
theorem blk_g (c : Dev nD) (t : Fin cfg0.N) (j : Fin 2048) :
    (iblk m c 1 t : FVec Ideal S1x2048 .f32) (ix2 0 j) = m ((c : Thread nD τ).loc main_arg1) (ix2 0 j) := by
  have e : (iblk m c 1 t : FVec Ideal S1x2048 .f32) (ix2 0 j) = (V m c main_v9 : FVec Ideal S1x2048 .f32) (ix2 0 j) := by
    blk_ext [iblk, idx t]
  rw [e, entry_g]
  pointwise

/-- The column block a point staged, read in the reordered weights. -/
theorem blk_w (c : Dev nD) (t : Fin cfg0.N) (k : Fin 2048) (l : Fin 768) (h : t.val % 15 * 768 + l.val < 11520) :
    (iblk m c 2 t : FVec Ideal S2048x768 .bf16) (ix2 k l)
      = cols (m ((c : Thread nD τ).loc main_arg2)) (ix2 k ⟨t.val % 15 * 768 + l.val, h⟩) := by
  have e : (iblk m c 2 t : FVec Ideal S2048x768 .bf16) (ix2 k l)
      = (V m c main_v8 : FVec Ideal S2048x11520 .bf16) (ix2 k ⟨t.val % 15 * 768 + l.val, h⟩) := by
    blk_ext [iblk, idx t]
  rw [e, entry_w]

/-- The result array after the run. -/
theorem final (c : Dev nD) : (dats m 0 c).arrAt 3 cfg0.N
    = proj (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out_eq m c t, scr m c t]
  have hN : t.val < 15 := lt_of_lt_of_eq t.isLt N_0
  have h0 : (y 0).val < 256 := (y 0).isLt
  have h1 : (y 1).val < 768 := (y 1).isLt
  have e : (win0_3.blk t).view.emb y
      = (ix2 ⟨t.val / 15 * 256 + (y 0).val, by omega⟩ ⟨t.val % 15 * 768 + (y 1).val, by omega⟩ : S256x11520.Idx) := by
    blk_ext [idx t]
  rw [e, proj_apply]
  refine (pay _ _ _ y).trans (Finset.sum_congr rfl fun k _ => ?_)
  refine congrArg₂ (· * ·) ?_ (blk_w m c t k (y 1) _)
  exact nrm_congr _ _ _ _ (y 0) _ k (fun j => blk_x m c t (y 0) j (by omega)) (blk_g m c _ k)

/-- 512 columns of the product as heads of keys or values. -/
def heads (off : ℕ) (h : off + 512 ≤ 11520) (z : FVec Ideal S256x11520 .f32) : FVec Ideal S1x32x8x4x128 .f32 := fun i =>
  z (ix2 ⟨(i 1).val * 8 + (i 2).val, by have h1 : (i 1).val < 32 := (i 1).isLt; have h2 : (i 2).val < 8 := (i 2).isLt; omega⟩
    ⟨off + ((i 3).val * 128 + (i 4).val), by have h3 : (i 3).val < 4 := (i 3).isLt; have h4 : (i 4).val < 128 := (i 4).isLt; omega⟩)

/-- The host's slice and reshape of the product, for any slice of 512 columns. -/
theorem heads_eq (off : ℕ) (h : off + 512 ≤ 11520) (hs : S256x11520.Slices ![0, off] S256x512) {y z : FVec Ideal S256x11520 .f32}
    (hz : y = z) :
    broadcastInDim S1x32x8x4x128 ![1, 2, 3, 4] bcast_S32x8x4x128_S1x32x8x4x128_1_2_3_4
      (shapeCast S32x8x4x128 (extractStridedSlice S256x512 ![0, off] y hs) shapeCasts_S256x512_S32x8x4x128) = heads off h z := by
  subst hz
  funext i
  idx_vars i
  pointwise [heads]

end Cert.Kernel6Ideal.Samp

namespace Cert.Reference6Ideal.Samp

open Cert.Reference6Ideal Cert.Reference6Ideal.Gen Cert.Reference6Ideal.Read

variable (x : FVec Ideal S32x8x2048 .f32) (g : FVec Ideal S1x2048 .f32) (w : FVec Ideal S1x2048x11312 .f32)

/-- An entry of the reference's product. -/
theorem prod_apply (b : Fin 32) (t : Fin 8) (l : Fin 11312) :
    (val_main_v15 (F := Ideal) x g w : FVec Ideal S32x8x11312 .f32) (ix3 b t l)
      = ∑ k : Fin 2048, Cert.Kernel2Ideal.Proj.nrm (fun (t : Fin 8) j => x (ix3 b t j)) (fun j => g (ix2 0 j)) t k * w (ix3 0 k l) := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, Cert.Kernel2Ideal.Proj.nrm]

/-- A row of the reference's product over the rows of all sequences. -/
theorem row_apply (r : Fin 256) (b : Fin 32) (t : Fin 8) (h : r.val = b.val * 8 + t.val) (l : Fin 11312) :
    (val_main_v15 (F := Ideal) x g w : FVec Ideal S32x8x11312 .f32) (ix3 b t l)
      = ∑ k : Fin 2048, Cert.Kernel2Ideal.Proj.nrm (Cert.Kernel6Ideal.Samp.row x) (fun j => g (ix2 0 j)) r k * w (ix3 0 k l) := by
  rw [prod_apply]
  refine Finset.sum_congr rfl fun k _ => congrArg (· * _) (Cert.Kernel2Ideal.Proj.nrm_congr _ _ _ _ t r k (fun j => ?_) rfl)
  unfold Cert.Kernel6Ideal.Samp.row
  exact congrArg₂ (fun b t => x (ix3 b t j)) (Fin.ext (by dsimp only; omega)) (Fin.ext (by dsimp only; omega))

/-- The reference's array is the kernel's. -/
theorem ref_eq : val_main_v29 (F := Ideal) x g w = Cert.Kernel6Ideal.Samp.proj x g w := by
  funext i
  idx_vars i
  refine Eq.trans ?_ (Cert.Kernel6Ideal.Samp.proj_apply x g w i0 i1).symm
  simp only [Cert.Kernel2Ideal.Proj.cols_apply]
  pointwise [val_main_v29, val_main_v28, val_main_v25, val_main_v26, val_main_v27, val_main_v24, val_main_cst_2]
  have hr : i0.val = i0.val / 8 * 8 + i0.val % 8 := by omega
  have e := row_apply x g w i0 ⟨i0.val / 8, by omega⟩ ⟨i0.val % 8, by omega⟩ hr
  by_cases h1 : i1.val < 5120
  · simp only [dif_pos h1, e]
  by_cases h2 : i1.val - 5120 < 6144
  · simp only [dif_neg h1, dif_pos h2, e]
  by_cases h3 : i1.val - 5120 - 6144 < 48
  · simp only [dif_neg h1, dif_neg h2, dif_pos h3, e]
  · simp only [dif_neg h1, dif_neg h2, dif_neg h3, mul_zero, Finset.sum_const_zero]

/-- An entry of the product in a column that the reordering keeps in its place. -/
theorem low_apply (r : Fin 256) (b : Fin 32) (t : Fin 8) (h : r.val = b.val * 8 + t.val) (l : Fin 11312) (l' : Fin 11520)
    (e : l.val = l'.val) (hl : l.val < 5120) :
    (val_main_v15 (F := Ideal) x g w : FVec Ideal S32x8x11312 .f32) (ix3 b t l) = Cert.Kernel6Ideal.Samp.proj x g w (ix2 r l') := by
  rw [row_apply x g w r b t h, Cert.Kernel6Ideal.Samp.proj_apply]
  refine Finset.sum_congr rfl fun k _ => congrArg₂ (· * ·) rfl ?_
  rw [Cert.Kernel2Ideal.Proj.cols_apply, dif_pos (by omega)]
  exact congrArg (fun l => w (ix3 0 k l)) (Fin.ext e)

theorem heads0 : val_main_v30 (F := Ideal) x g w = Cert.Kernel6Ideal.Samp.heads 2048 (by omega) (Cert.Kernel6Ideal.Samp.proj x g w) := by
  funext i
  idx_vars i
  pointwise [val_main_v30, val_main_v17, val_main_v16]
  exact low_apply x g w _ _ _ rfl _ _ rfl (by dsimp only; omega)

theorem heads1 : val_main_v31 (F := Ideal) x g w = Cert.Kernel6Ideal.Samp.heads 2560 (by omega) (Cert.Kernel6Ideal.Samp.proj x g w) := by
  funext i
  idx_vars i
  pointwise [val_main_v31, val_main_v19, val_main_v18]
  exact low_apply x g w _ _ _ rfl _ _ rfl (by dsimp only; omega)

theorem heads2 : val_main_v32 (F := Ideal) x g w = Cert.Kernel6Ideal.Samp.heads 3072 (by omega) (Cert.Kernel6Ideal.Samp.proj x g w) := by
  funext i
  idx_vars i
  pointwise [val_main_v32, val_main_v21, val_main_v20]
  exact low_apply x g w _ _ _ rfl _ _ rfl (by dsimp only; omega)

theorem heads3 : val_main_v33 (F := Ideal) x g w = Cert.Kernel6Ideal.Samp.heads 3584 (by omega) (Cert.Kernel6Ideal.Samp.proj x g w) := by
  funext i
  idx_vars i
  pointwise [val_main_v33, val_main_v23, val_main_v22]
  exact low_apply x g w _ _ _ rfl _ _ rfl (by dsimp only; omega)

end Cert.Reference6Ideal.Samp

end
-- ==== Proof.SampClaims.lean ====
/- The claims about the input projection of the sample. -/
module

public import proofs.«01_k».proof.Defs
public import proofs.«01_k».proof.Proof.SampFinal
public import proofs.«01_k».proof.Proof.Gen.Kernel6.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Samp

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2.2.2.2,
      Idealize.ShloMosaic.sem_eq_zero_of_no_sems (by decide) r.2⟩)
    (Cert.Reference6Ideal.Value.run (F := Ideal) m ρ)
theorem preserves : Cert.preserves_Kernel6_Kernel6Ideal := trivial

/-- The product the kernel leaves in its result array, from the arguments as launched. -/
abbrev z (m : (ℓ : Loc Cert.Kernel6Ideal.nD Cert.Kernel6Ideal.τ Cert.Kernel6Ideal.sig) → Buf (Elt Ideal) ℓ) (c : Dev Cert.Kernel6Ideal.nD) :
    FVec Ideal Cert.Kernel6Ideal.S256x11520 .f32 :=
  Cert.Kernel6Ideal.Samp.proj (m ((c : Thread Cert.Kernel6Ideal.nD Cert.Kernel6Ideal.τ).loc Cert.Kernel6Ideal.main_arg0))
    (m ((c : Thread Cert.Kernel6Ideal.nD Cert.Kernel6Ideal.τ).loc Cert.Kernel6Ideal.main_arg1))
    (m ((c : Thread Cert.Kernel6Ideal.nD Cert.Kernel6Ideal.τ).loc Cert.Kernel6Ideal.main_arg2))

theorem region (m : (ℓ : Loc Cert.Kernel6Ideal.nD Cert.Kernel6Ideal.τ Cert.Kernel6Ideal.sig) → Buf (Elt Ideal) ℓ) (c : Dev Cert.Kernel6Ideal.nD) :
    Cert.Kernel6Ideal.Value.reg_main_v10 m c = z m c := Cert.Kernel6Ideal.Samp.final m c

/-- Both programs end with the product of the normalised input with the reordered weights, and with the four
    slices of it that are the layer's new keys and values. -/
theorem algebraic : Cert.algebraic_Kernel6Ideal_Reference6Ideal := fun m ρ m' ρ' _ hag =>
  have same : ∀ c : Dev Cert.Kernel6Ideal.nD, Cert.Kernel6Ideal.Samp.proj
      (m' ((c : Thread Cert.Reference6Ideal.nD Cert.Reference6Ideal.τ).loc Cert.Reference6Ideal.main_arg0))
      (m' ((c : Thread Cert.Reference6Ideal.nD Cert.Reference6Ideal.τ).loc Cert.Reference6Ideal.main_arg1))
      (m' ((c : Thread Cert.Reference6Ideal.nD Cert.Reference6Ideal.τ).loc Cert.Reference6Ideal.main_arg2)) = z m c := fun c => by
    rw [(hag c).1, (hag c).2.1, (hag c).2.2]
  ⟨fun c => z m c,
    fun c => Cert.Kernel6Ideal.Samp.heads 2048 (by omega) (z m c),
    fun c => Cert.Kernel6Ideal.Samp.heads 2560 (by omega) (z m c),
    fun c => Cert.Kernel6Ideal.Samp.heads 3072 (by omega) (z m c),
    fun c => Cert.Kernel6Ideal.Samp.heads 3584 (by omega) (z m c),
    (θ_run _ _ _).mono (fun _ h c =>
        have ⟨h0, h1, h2, h3, h4, ha⟩ := h c
        ⟨h0.trans (region m c), h1.trans (Cert.Kernel6Ideal.Samp.heads_eq 2048 (by omega) _ (region m c)), h2.trans (Cert.Kernel6Ideal.Samp.heads_eq 2560 (by omega) _ (region m c)),
          h3.trans (Cert.Kernel6Ideal.Samp.heads_eq 3072 (by omega) _ (region m c)), h4.trans (Cert.Kernel6Ideal.Samp.heads_eq 3584 (by omega) _ (region m c)), ha⟩)
      (Cert.Kernel6Ideal.Value.run (F := Ideal) m ρ),
    (θ_run _ _ _).mono (fun _ h c =>
        have ⟨h0, h1, h2, h3, h4, ha⟩ := h c
        ⟨h0.trans ((Cert.Reference6Ideal.Read.val_main_v29_eq (F := Ideal) _ _ _).trans
            ((Cert.Reference6Ideal.Samp.ref_eq _ _ _).trans (same c))),
          h1.trans ((Cert.Reference6Ideal.Read.val_main_v30_eq (F := Ideal) _ _ _).trans
            ((Cert.Reference6Ideal.Samp.heads0 _ _ _).trans (congrArg (Cert.Kernel6Ideal.Samp.heads 2048 (by omega)) (same c)))),
          h2.trans ((Cert.Reference6Ideal.Read.val_main_v31_eq (F := Ideal) _ _ _).trans
            ((Cert.Reference6Ideal.Samp.heads1 _ _ _).trans (congrArg (Cert.Kernel6Ideal.Samp.heads 2560 (by omega)) (same c)))),
          h3.trans ((Cert.Reference6Ideal.Read.val_main_v32_eq (F := Ideal) _ _ _).trans
            ((Cert.Reference6Ideal.Samp.heads2 _ _ _).trans (congrArg (Cert.Kernel6Ideal.Samp.heads 3072 (by omega)) (same c)))),
          h4.trans ((Cert.Reference6Ideal.Read.val_main_v33_eq (F := Ideal) _ _ _).trans
            ((Cert.Reference6Ideal.Samp.heads3 _ _ _).trans (congrArg (Cert.Kernel6Ideal.Samp.heads 3584 (by omega)) (same c)))),
          ha⟩)
      (Cert.Reference6Ideal.Value.run (F := Ideal) m' ρ')⟩

end Cert.Proof.Samp

end
-- ==== Proof.CacheBody.lean ====
/- What one grid point of the sample's window attention leaves in the two new window caches: the old rows moved up by
   the rows of the new positions, which follow them. -/
module

public import proofs.«01_k».proof.Proof.Gen.Kernel7Ideal.Run
public import Idealize.ShloMosaic.Lib.Pipeline.ValueKit
public import Idealize.ShloMosaic.Lib.Pipeline.ReadBack
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Cache

open Cert.Kernel7Ideal Cert.Kernel7Ideal.Gen

variable (m : (ℓ : Loc nD τ sig) → Buf (Elt Ideal) ℓ)

/-- The block indices at a point. -/
theorem idx : ∀ t : Fin cfg0.N, win0_1.index t = ![t.val, 0] ∧ win0_2.index t = ![t.val, 0] ∧ win0_3.index t = ![t.val, 0]
    ∧ win0_4.index t = ![t.val, 0] ∧ win0_6.index t = ![t.val, 0] ∧ win0_7.index t = ![t.val, 0] :=
  (by decide +kernel : ∀ t : Fin grid0.N, _)

/-- One sequence's cache after its first 32 rows are dropped and 32 rows follow. -/
def shift (W : FVec Ideal S2048x128 .f32) (K : FVec Ideal S512x128 .f32) : FVec Ideal S2048x128 .f32 := fun y =>
  if h : (y 0).val < 2016 then W (ix2 ⟨(y 0).val + 32, by omega⟩ (y 1))
  else K (ix2 ⟨(y 0).val - 2016, by have h0 : (y 0).val < 2048 := (y 0).isLt; omega⟩ (y 1))

theorem shift_lo (W : FVec Ideal S2048x128 .f32) (K : FVec Ideal S512x128 .f32) (y : S2048x128.Idx) (r : Fin 2048) (l : Fin 128)
    (h : (y 0).val < 2016) (hr : r.val = (y 0).val + 32) (hl : l.val = (y 1).val) : W (ix2 r l) = shift W K y := by
  unfold shift
  rw [dif_pos h]
  exact congrArg W (funext fun a => by fin_cases a <;> [exact Fin.ext hr; exact Fin.ext hl])

theorem shift_hi (W : FVec Ideal S2048x128 .f32) (K : FVec Ideal S512x128 .f32) (y : S2048x128.Idx) (r : Fin 512) (l : Fin 128)
    (h : ¬(y 0).val < 2016) (hr : r.val = (y 0).val - 2016) (hl : l.val = (y 1).val) : K (ix2 r l) = shift W K y := by
  unfold shift
  rw [dif_neg h]
  exact congrArg K (funext fun a => by fin_cases a <;> [exact Fin.ext hr; exact Fin.ext hl])

/-- The new keys a point leaves. -/
theorem out_k (c : Dev nD) (t : Fin cfg0.N) : (outsAt0 m c t).2.1 = shift (iblk m c 1 t) (iblk m c 3 t) := by
  unfold outsAt0
  frame_out
  funext y
  canon_tiles x h using View.cover_of_tiledBy _ ![32, 128] (by sl_kernel_rfl) y
  all_goals (open_payloads; pointwise)
  · exact shift_hi _ _ y _ _ (by omega) (by dsimp only; omega) h1.symm
  · exact shift_lo _ _ y _ _ (by omega) (by dsimp only; omega) h1.symm

/-- The new values a point leaves. -/
theorem out_v (c : Dev nD) (t : Fin cfg0.N) : (outsAt0 m c t).2.2 = shift (iblk m c 2 t) (iblk m c 4 t) := by
  unfold outsAt0
  frame_out
  funext y
  canon_tiles x h using View.cover_of_tiledBy _ ![32, 128] (by sl_kernel_rfl) y
  all_goals (open_payloads; pointwise)
  · exact shift_hi _ _ y _ _ (by omega) (by dsimp only; omega) h1.symm
  · exact shift_lo _ _ y _ _ (by omega) (by dsimp only; omega) h1.symm

/-- The old cache of all sequences, one position and head a row. -/
def rows (w : FVec Ideal S1x32x512x4x128 .f32) : FVec Ideal S65536x128 .f32 :=
  shapeCast S65536x128 (shapeCast S32x512x4x128 w shapeCasts_S1x32x512x4x128_S32x512x4x128) shapeCasts_S32x512x4x128_S65536x128

/-- 512 columns of the projection as rows, one position and head a row, 32 rows of each sequence filled to 512. -/
def news (off : ℕ) (hs : S256x11520.Slices ![0, off] S256x512) (z : FVec Ideal S256x11520 .f32) : FVec Ideal S16384x128 .f32 :=
  shapeCast S16384x128 (pad S32x512x128 ![0, 0, 0] ![0, 480, 0] ![0, 0, 0]
    (shapeCast S32x32x128 (extractStridedSlice S256x512 ![0, off] z hs) shapeCasts_S256x512_S32x32x128)
    (sitofp .f32 (constantI S_ 32 0#32)) pads_S32x32x128_S32x512x128_000_04800_000 h_S_) shapeCasts_S32x512x128_S16384x128

theorem entry_wk (c : Dev nD) : V m c main_v1 = rows (m ((c : Thread nD τ).loc main_arg1)) := by
  entry_read
  rfl

theorem entry_wv (c : Dev nD) : V m c main_v3 = rows (m ((c : Thread nD τ).loc main_arg2)) := by
  entry_read
  rfl

theorem entry_k (c : Dev nD) : V m c main_v7
    = news 4096 slices_S256x11520_S256x512_0_4096 (m ((c : Thread nD τ).loc main_arg0)) := by
  entry_read
  rfl

theorem entry_v (c : Dev nD) : V m c main_v11
    = news 4608 slices_S256x11520_S256x512_0_4608 (m ((c : Thread nD τ).loc main_arg0)) := by
  entry_read
  rfl

theorem rows_apply (w : FVec Ideal S1x32x512x4x128 .f32) (r : Fin 65536) (l : Fin 128) :
    rows w (ix2 r l) = w (ix5 0 ⟨r.val / 2048, by omega⟩ ⟨r.val / 4 % 512, by omega⟩ ⟨r.val % 4, by omega⟩ l) := by
  pointwise [rows]

/-- A row of a new position, read in the projection. -/
theorem news_apply (off : ℕ) (hoff : off + 512 ≤ 11520) (hs : S256x11520.Slices ![0, off] S256x512)
    (z : FVec Ideal S256x11520 .f32) (r : Fin 16384) (l : Fin 128) (h : r.val % 512 < 32) :
    news off hs z (ix2 r l) = z (ix2 ⟨r.val / 512 * 8 + r.val % 512 / 4, by omega⟩
      ⟨off + (r.val % 512 % 4 * 128 + l.val), by omega⟩) := by
  pointwise [news]
  rw [dif_pos ⟨by omega, h⟩]

/-- The new cache of all sequences, one position and head a row: the old cache moved up by eight positions, then the
    eight new ones. -/
def moved (off : ℕ) (hoff : off + 512 ≤ 11520) (z : FVec Ideal S256x11520 .f32) (w : FVec Ideal S1x32x512x4x128 .f32) :
    FVec Ideal S65536x128 .f32 := fun i =>
  have h0 : (i 0).val < 65536 := (i 0).isLt
  have h1 : (i 1).val < 128 := (i 1).isLt
  if h : (i 0).val % 2048 < 2016 then
    w (ix5 0 ⟨(i 0).val / 2048, by omega⟩ ⟨(i 0).val / 4 % 512 + 8, by omega⟩ ⟨(i 0).val % 4, by omega⟩ (i 1))
  else z (ix2 ⟨(i 0).val / 2048 * 8 + ((i 0).val / 4 % 512 - 504), by omega⟩ ⟨off + ((i 0).val % 4 * 128 + (i 1).val), by omega⟩)

theorem moved_apply (off : ℕ) (hoff : off + 512 ≤ 11520) (z : FVec Ideal S256x11520 .f32) (w : FVec Ideal S1x32x512x4x128 .f32)
    (r : Fin 65536) (l : Fin 128) : moved off hoff z w (ix2 r l) = if h : r.val % 2048 < 2016 then
      w (ix5 0 ⟨r.val / 2048, by omega⟩ ⟨r.val / 4 % 512 + 8, by omega⟩ ⟨r.val % 4, by omega⟩ l)
    else z (ix2 ⟨r.val / 2048 * 8 + (r.val / 4 % 512 - 504), by omega⟩ ⟨off + (r.val % 4 * 128 + l.val), by omega⟩) := rfl

/-- One sequence's part of the new cache, from its part of the old cache and of the new rows. -/
theorem shift_eq (off : ℕ) (hoff : off + 512 ≤ 11520) (z : FVec Ideal S256x11520 .f32) (w : FVec Ideal S1x32x512x4x128 .f32)
    (hs : S256x11520.Slices ![0, off] S256x512) (W : FVec Ideal S2048x128 .f32) (K : FVec Ideal S512x128 .f32) (t : ℕ) (ht : t < 32)
    (hW : ∀ (r : Fin 2048) (l : Fin 128), W (ix2 r l) = rows w (ix2 ⟨t * 2048 + r.val, by omega⟩ l))
    (hK : ∀ (r : Fin 512) (l : Fin 128), K (ix2 r l) = news off hs z (ix2 ⟨t * 512 + r.val, by omega⟩ l))
    (r : Fin 2048) (l : Fin 128) :
    shift W K (ix2 r l) = moved off hoff z w (ix2 ⟨t * 2048 + r.val, by omega⟩ l) := by
  rw [moved_apply]
  by_cases h : r.val < 2016
  · refine (shift_lo W K (ix2 r l) ⟨r.val + 32, by omega⟩ l h rfl rfl).symm.trans ?_
    rw [dif_pos (show (t * 2048 + r.val) % 2048 < 2016 by omega), hW, rows_apply]
    refine congrArg w (funext fun a => ?_)
    fin_cases a <;> [rfl; exact Fin.ext (show (t * 2048 + (r.val + 32)) / 2048 = (t * 2048 + r.val) / 2048 by omega);
      exact Fin.ext (show (t * 2048 + (r.val + 32)) / 4 % 512 = (t * 2048 + r.val) / 4 % 512 + 8 by omega);
      exact Fin.ext (show (t * 2048 + (r.val + 32)) % 4 = (t * 2048 + r.val) % 4 by omega); rfl]
  · refine (shift_hi W K (ix2 r l) ⟨r.val - 2016, by omega⟩ l h rfl rfl).symm.trans ?_
    rw [dif_neg (show ¬(t * 2048 + r.val) % 2048 < 2016 by omega), hK]
    have hr : (t * 512 + (r.val - 2016)) % 512 < 32 := by omega
    have e := news_apply off hoff hs z ⟨t * 512 + (r.val - 2016), by omega⟩ l hr
    refine e.trans ?_
    refine congrArg z (funext fun a => ?_)
    fin_cases a <;> [exact Fin.ext (show (t * 512 + (r.val - 2016)) / 512 * 8 + (t * 512 + (r.val - 2016)) % 512 / 4
        = (t * 2048 + r.val) / 2048 * 8 + ((t * 2048 + r.val) / 4 % 512 - 504) by omega);
      exact Fin.ext (show off + ((t * 512 + (r.val - 2016)) % 512 % 4 * 128 + l.val) = off + ((t * 2048 + r.val) % 4 * 128 + l.val) by omega)]

theorem blk_wk (c : Dev nD) (t : Fin cfg0.N) (r : Fin 2048) (l : Fin 128) (h : t.val * 2048 + r.val < 65536) :
    (iblk m c 1 t : FVec Ideal S2048x128 .f32) (ix2 r l)
      = rows (m ((c : Thread nD τ).loc main_arg1)) (ix2 ⟨t.val * 2048 + r.val, h⟩ l) := by
  rw [← entry_wk]
  blk_ext [iblk, idx t]

theorem blk_wv (c : Dev nD) (t : Fin cfg0.N) (r : Fin 2048) (l : Fin 128) (h : t.val * 2048 + r.val < 65536) :
    (iblk m c 2 t : FVec Ideal S2048x128 .f32) (ix2 r l)
      = rows (m ((c : Thread nD τ).loc main_arg2)) (ix2 ⟨t.val * 2048 + r.val, h⟩ l) := by
  rw [← entry_wv]
  blk_ext [iblk, idx t]

theorem blk_k (c : Dev nD) (t : Fin cfg0.N) (r : Fin 512) (l : Fin 128) (h : t.val * 512 + r.val < 16384) :
    (iblk m c 3 t : FVec Ideal S512x128 .f32) (ix2 r l)
      = news 4096 slices_S256x11520_S256x512_0_4096 (m ((c : Thread nD τ).loc main_arg0)) (ix2 ⟨t.val * 512 + r.val, h⟩ l) := by
  rw [← entry_k]
  blk_ext [iblk, idx t]

theorem blk_v (c : Dev nD) (t : Fin cfg0.N) (r : Fin 512) (l : Fin 128) (h : t.val * 512 + r.val < 16384) :
    (iblk m c 4 t : FVec Ideal S512x128 .f32) (ix2 r l)
      = news 4608 slices_S256x11520_S256x512_0_4608 (m ((c : Thread nD τ).loc main_arg0)) (ix2 ⟨t.val * 512 + r.val, h⟩ l) := by
  rw [← entry_v]
  blk_ext [iblk, idx t]

/-- The new keys after the run. -/
theorem final_k (c : Dev nD) : (dats m 0 c).arrAt 6 cfg0.N
    = moved 4096 (by omega) (m ((c : Thread nD τ).loc main_arg0)) (m ((c : Thread nD τ).loc main_arg1)) := by
  refine (dats m 0 c).arrAt_eq_of_covers 6 _ (by decide +kernel) fun t _ y => ?_
  blk_simp
  rw [after0_6, out_k]
  have hN : t.val < 32 := lt_of_lt_of_eq t.isLt N_0
  have h0 : (y 0).val < 2048 := (y 0).isLt
  have h1 : (y 1).val < 128 := (y 1).isLt
  have e : (win0_6.blk t).view.emb y
      = (ix2 ⟨t.val * 2048 + (y 0).val, by omega⟩ ⟨(y 1).val, h1⟩ : S65536x128.Idx) := by
    blk_ext [idx t]
  rw [e]
  have ey : y = (ix2 ⟨(y 0).val, h0⟩ ⟨(y 1).val, h1⟩ : S2048x128.Idx) := funext fun a => by fin_cases a <;> rfl
  exact (congrArg _ ey).trans (shift_eq 4096 _ _ _ _ _ _ t.val hN (fun r l => blk_wk m c t r l _) (fun r l => blk_k m c t r l _)
    ⟨(y 0).val, h0⟩ ⟨(y 1).val, h1⟩)

/-- The new values after the run. -/
theorem final_v (c : Dev nD) : (dats m 0 c).arrAt 7 cfg0.N
    = moved 4608 (by omega) (m ((c : Thread nD τ).loc main_arg0)) (m ((c : Thread nD τ).loc main_arg2)) := by
  refine (dats m 0 c).arrAt_eq_of_covers 7 _ (by decide +kernel) fun t _ y => ?_
  blk_simp
  rw [after0_7, out_v]
  have hN : t.val < 32 := lt_of_lt_of_eq t.isLt N_0
  have h0 : (y 0).val < 2048 := (y 0).isLt
  have h1 : (y 1).val < 128 := (y 1).isLt
  have e : (win0_7.blk t).view.emb y
      = (ix2 ⟨t.val * 2048 + (y 0).val, by omega⟩ ⟨(y 1).val, h1⟩ : S65536x128.Idx) := by
    blk_ext [idx t]
  rw [e]
  have ey : y = (ix2 ⟨(y 0).val, h0⟩ ⟨(y 1).val, h1⟩ : S2048x128.Idx) := funext fun a => by fin_cases a <;> rfl
  exact (congrArg _ ey).trans (shift_eq 4608 _ _ _ _ _ _ t.val hN (fun r l => blk_wv m c t r l _) (fun r l => blk_v m c t r l _)
    ⟨(y 0).val, h0⟩ ⟨(y 1).val, h1⟩)

end Cert.Kernel7Ideal.Cache

end
-- ==== Proof.CacheClaims.lean ====
/- The two new window caches of the sample: what the reference computes, and what is claimed of them. -/
module

public import proofs.«01_k».proof.Defs
public import proofs.«01_k».proof.Proof.CacheBody
public import proofs.«01_k».proof.Proof.Gen.Kernel7.Frame
public import proofs.«01_k».proof.Proof.Gen.Reference7Ideal.Read
public import Idealize.ShloMosaic.Lib.Quiescent

@[expose] public section

set_option maxRecDepth 16384

noncomputable section

open Idealize.ShloMosaic Idealize.ShloMosaic.TcCoe Idealize.SL.Sem

namespace Cert.Reference7Ideal.Cache

open Cert.Reference7Ideal Cert.Reference7Ideal.Gen Cert.Reference7Ideal.Read
open Cert.Kernel7Ideal.Cache (moved)

/-- A new cache in the result's shape. -/
def shaped (y : FVec Ideal Cert.Kernel7Ideal.S65536x128 .f32) : FVec Ideal S1x32x512x4x128 .f32 :=
  broadcastInDim S1x32x512x4x128 ![1, 2, 3, 4] Cert.Kernel7Ideal.Gen.bcast_S32x512x4x128_S1x32x512x4x128_1_2_3_4
    (shapeCast S32x512x4x128 y Cert.Kernel7Ideal.Gen.shapeCasts_S65536x128_S32x512x4x128)

/-- The two ways to read an entry of a new cache. -/
theorem read_eq (off : ℕ) (hoff : off + 512 ≤ 11520) (z : FVec Ideal S256x11520 .f32) (w : FVec Ideal S1x32x512x4x128 .f32)
    (i1 : Fin 32) (i2 : Fin 512) (i3 : Fin 4) (i4 : Fin 128) :
    (if h : 8 + i2.val < 512 then w (ix5 0 i1 ⟨8 + i2.val, h⟩ i3 i4)
      else z (ix2 ⟨i1.val * 8 + (8 + i2.val - 512), by omega⟩ ⟨off + (i3.val * 128 + i4.val), by omega⟩))
      = moved off hoff z w (ix2 ⟨i1.val * 2048 + i2.val * 4 + i3.val, by omega⟩ i4) := by
  rw [Cert.Kernel7Ideal.Cache.moved_apply]
  by_cases h : 8 + i2.val < 512
  · rw [dif_pos h, dif_pos (show (i1.val * 2048 + i2.val * 4 + i3.val) % 2048 < 2016 by omega)]
    refine congrArg w (funext fun a => ?_)
    fin_cases a <;> [rfl; exact Fin.ext (show i1.val = (i1.val * 2048 + i2.val * 4 + i3.val) / 2048 by omega);
      exact Fin.ext (show 8 + i2.val = (i1.val * 2048 + i2.val * 4 + i3.val) / 4 % 512 + 8 by omega);
      exact Fin.ext (show i3.val = (i1.val * 2048 + i2.val * 4 + i3.val) % 4 by omega); rfl]
  · rw [dif_neg h, dif_neg (show ¬(i1.val * 2048 + i2.val * 4 + i3.val) % 2048 < 2016 by omega)]
    refine congrArg z (funext fun a => ?_)
    fin_cases a <;> [exact Fin.ext (show i1.val * 8 + (8 + i2.val - 512) = (i1.val * 2048 + i2.val * 4 + i3.val) / 2048 * 8
        + ((i1.val * 2048 + i2.val * 4 + i3.val) / 4 % 512 - 504) by omega);
      exact Fin.ext (show off + (i3.val * 128 + i4.val)
        = off + ((i1.val * 2048 + i2.val * 4 + i3.val) % 4 * 128 + i4.val) by omega)]

/-- The reference's new keys. -/
theorem ref_k (z : FVec Ideal S256x11520 .f32) (w : FVec Ideal S1x32x512x4x128 .f32) :
    val_main_v9 (F := Ideal) z w = shaped (moved 4096 (by omega) z w) := by
  funext i
  idx_vars i
  pointwise [shaped, val_main_v9, val_main_v8, val_main_v5, val_main_v4, val_main_v1, val_main_v0]
  exact read_eq 4096 (by omega) z w i1 i2 i3 i4

/-- The reference's new values. -/
theorem ref_v (z : FVec Ideal S256x11520 .f32) (w : FVec Ideal S1x32x512x4x128 .f32) :
    val_main_v11 (F := Ideal) z w = shaped (moved 4608 (by omega) z w) := by
  funext i
  idx_vars i
  pointwise [shaped, val_main_v11, val_main_v10, val_main_v7, val_main_v6, val_main_v3, val_main_v2]
  exact read_eq 4608 (by omega) z w i1 i2 i3 i4

end Cert.Reference7Ideal.Cache

namespace Cert.Proof.Cache

open Cert.Kernel7Ideal.Cache (moved)
open Cert.Reference7Ideal.Cache (shaped)

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)
theorem preserves : Cert.preserves_Kernel7_Kernel7Ideal := trivial

/-- Both programs end with the old caches moved up by the new positions. -/
theorem algebraic : Cert.algebraic_Kernel7Ideal_Reference7Ideal := fun m ρ m' ρ' _ hag =>
  ⟨fun c => shaped (moved 4096 (by omega)
      (m ((c : Thread Cert.Kernel7Ideal.nD Cert.Kernel7Ideal.τ).loc Cert.Kernel7Ideal.main_arg0))
      (m ((c : Thread Cert.Kernel7Ideal.nD Cert.Kernel7Ideal.τ).loc Cert.Kernel7Ideal.main_arg1))),
    fun c => shaped (moved 4608 (by omega)
      (m ((c : Thread Cert.Kernel7Ideal.nD Cert.Kernel7Ideal.τ).loc Cert.Kernel7Ideal.main_arg0))
      (m ((c : Thread Cert.Kernel7Ideal.nD Cert.Kernel7Ideal.τ).loc Cert.Kernel7Ideal.main_arg2))),
    (θ_run _ _ _).mono (fun _ h c => ⟨(h c).1.trans (congrArg shaped (Cert.Kernel7Ideal.Cache.final_k m c)),
        (h c).2.1.trans (congrArg shaped (Cert.Kernel7Ideal.Cache.final_v m c)), (h c).2.2⟩)
      (Cert.Kernel7Ideal.Value.run (F := Ideal) m ρ),
    (θ_run _ _ _).mono (fun _ h c => ⟨(h c).1.trans ((Cert.Reference7Ideal.Read.val_main_v9_eq (F := Ideal) _ _).trans
          ((Cert.Reference7Ideal.Cache.ref_k _ _).trans (by rw [(hag c).1, (hag c).2.1]))),
        (h c).2.1.trans ((Cert.Reference7Ideal.Read.val_main_v11_eq (F := Ideal) _ _).trans
          ((Cert.Reference7Ideal.Cache.ref_v _ _).trans (by rw [(hag c).1, (hag c).2.2]))), (h c).2.2⟩)
      (Cert.Reference7Ideal.Value.run (F := Ideal) m' ρ')⟩

end Cert.Proof.Cache

end
-- ==== Proof.TailBody.lean ====
/- What the last grid point of each batch's convolution leaves in the tail: the last 32 gated rows of its block. -/
module

public import proofs.«01_k».proof.Proof.Gen.Kernel8Ideal.Frame
public import Idealize.ShloMosaic.Lib.Pipeline.ValueKit
public import Idealize.ShloMosaic.Lib.Pipeline.ReadBack
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Tail

open Cert.Kernel8Ideal Cert.Kernel8Ideal.Gen

variable (m : (ℓ : Loc nD τ sig) → Buf (Elt Ideal) ℓ)

/-- The block indices at a point. -/
theorem idx : ∀ t : Fin cfg0.N, win0_0.index t = ![t.val, 5] ∧ win0_1.index t = ![t.val, 6] ∧ win0_9.index t = ![t.val / 16, 0, 0] :=
  (by decide +kernel : ∀ t : Fin grid0.N, _)

/-- The last 32 gated rows of a block. -/
def last (A B : FVec Ideal S256x1024 .f32) : FVec Ideal S1x32x1024 .f32 := fun y =>
  have h1 : (y 1).val < 32 := (y 1).isLt
  A (ix2 ⟨224 + (y 1).val, by omega⟩ (y 2)) * Ideal.logistic (B (ix2 ⟨224 + (y 1).val, by omega⟩ (y 2)))

theorem last_apply (A B : FVec Ideal S256x1024 .f32) (r : Fin 32) (l : Fin 1024) :
    last A B (ix3 0 r l) = A (ix2 ⟨224 + r.val, by omega⟩ l) * Ideal.logistic (B (ix2 ⟨224 + r.val, by omega⟩ l)) := rfl

/-- The two stores of the scratch, the first one's contents not needed. -/
abbrev stores (H : FVec Ideal S32x1024 .f32) (A B : FVec Ideal S256x1024 .f32) : List (View.Piece (Elt Ideal) S288x1024 .f32) :=
  [⟨Rect.unit ![32, 0] ![256, 1024] inb_S288x1024_S256x1024_32_0, k0_pay4 (F := Ideal) A B⟩,
    ⟨Rect.unit ![0, 0] ![32, 1024] inb_S288x1024_S32x1024_0_0, H⟩]

/-- A row of the scratch the tail is read from. -/
theorem scratch (H : FVec Ideal S32x1024 .f32) (A B : FVec Ideal S256x1024 .f32) (r : Fin 32) (l : Fin 1024) :
    View.canon (stores H A B) (ix2 ⟨256 + r.val, by omega⟩ l : S288x1024.Idx) = last A B (ix3 0 r l) := by
  rw [last_apply]
  have e : (ix2 ⟨256 + r.val, by omega⟩ l : S288x1024.Idx)
      = (Rect.unit (s := S288x1024) ![32, 0] ![256, 1024] inb_S288x1024_S256x1024_32_0).emb (ix2 ⟨224 + r.val, by omega⟩ l : S256x1024.Idx) :=
    funext fun a => by
      fin_cases a <;> [exact Fin.ext (show 256 + r.val = 32 + 1 * (224 + r.val) by omega); exact Fin.ext (show l.val = 0 + 1 * l.val by omega)]
  rw [e]
  refine (View.canon_cons_emb _ _ _ _).trans ?_
  pointwise [k0_pay4]

/-- What the last point of a batch leaves in the tail. -/
theorem out_eq (c : Dev nD) (t : Fin cfg0.N) (h : t.val % 16 = 15) : (outsAt0 m c t.val t.isLt).2 = last (X0_0 m c t) (X0_1 m c t) := by
  rw [outsAt0_B m c t h]
  frame_out
  rw [View.readCov_eq_canon']
  funext y
  idx_vars y
  pointwise [k0_pay2]
  refine (scratch (k0_pay3 (grid0.coords t) (X0_2 m c t) (X0_3 m c t)) (X0_0 m c t) (X0_1 m c t) y1 y2).trans (congrArg _ (funext fun a => ?_))
  fin_cases a <;> [exact Subsingleton.elim (α := Fin 1) _ _; rfl; rfl]

/-- The gated rows of all batches, and the last 32 of each. -/
def tail (z : FVec Ideal S8192x11520 .f32) : FVec Ideal S2x32x1024 .f32 := fun i =>
  have h0 : (i 0).val < 2 := (i 0).isLt
  have h1 : (i 1).val < 32 := (i 1).isLt
  have h2 : (i 2).val < 1024 := (i 2).isLt
  z (ix2 ⟨(i 0).val * 4096 + (4064 + (i 1).val), by omega⟩ ⟨5120 + (i 2).val, by omega⟩)
    * Ideal.logistic (z (ix2 ⟨(i 0).val * 4096 + (4064 + (i 1).val), by omega⟩ ⟨6144 + (i 2).val, by omega⟩))

theorem tail_apply (z : FVec Ideal S8192x11520 .f32) (b : Fin 2) (r : Fin 32) (l : Fin 1024) :
    tail z (ix3 b r l) = z (ix2 ⟨b.val * 4096 + (4064 + r.val), by omega⟩ ⟨5120 + l.val, by omega⟩)
      * Ideal.logistic (z (ix2 ⟨b.val * 4096 + (4064 + r.val), by omega⟩ ⟨6144 + l.val, by omega⟩)) := rfl

theorem blk_a (c : Dev nD) (t : Fin cfg0.N) (r : Fin 256) (l : Fin 1024) (h : t.val * 256 + r.val < 8192) :
    (X0_0 m c t : FVec Ideal S256x1024 .f32) (ix2 r l)
      = m ((c : Thread nD τ).loc main_arg0) (ix2 ⟨t.val * 256 + r.val, h⟩ ⟨5120 + l.val, by omega⟩) := by
  unfold X0_0 Pipeline.Window.fill
  rw [dif_pos (moved0_0 t _)]
  blk_ext [iblk, V, idx t]

theorem blk_b (c : Dev nD) (t : Fin cfg0.N) (r : Fin 256) (l : Fin 1024) (h : t.val * 256 + r.val < 8192) :
    (X0_1 m c t : FVec Ideal S256x1024 .f32) (ix2 r l)
      = m ((c : Thread nD τ).loc main_arg0) (ix2 ⟨t.val * 256 + r.val, h⟩ ⟨6144 + l.val, by omega⟩) := by
  unfold X0_1 Pipeline.Window.fill
  rw [dif_pos (moved0_1 t _)]
  blk_ext [iblk, V, idx t]

/-- The tail is written back after a batch's last point only. -/
theorem flush_last : ∀ t : Fin cfg0.N, (cfg0.win 9).flush t = true → t.val % 16 = 15 := by decide +kernel

/-- The tail after the run. -/
theorem final (c : Dev nD) : (dats m 0 c).arrAt 9 cfg0.N = tail (m ((c : Thread nD τ).loc main_arg0)) := by
  refine (dats m 0 c).arrAt_eq_of_covers 9 _ (by decide +kernel) fun t hf y => ?_
  have ht : t.val % 16 = 15 := flush_last t hf
  blk_simp
  rw [after0_9, out_eq m c t ht]
  have hN : t.val < 32 := lt_of_lt_of_eq t.isLt N_0
  have h0 : (y 0).val < 1 := (y 0).isLt
  have h1 : (y 1).val < 32 := (y 1).isLt
  have h2 : (y 2).val < 1024 := (y 2).isLt
  have e : (win0_9.blk t).view.emb y
      = (ix3 ⟨t.val / 16, by omega⟩ ⟨(y 1).val, h1⟩ ⟨(y 2).val, h2⟩ : S2x32x1024.Idx) := by
    blk_ext [idx t]
  rw [e, tail_apply]
  have ey : y = (ix3 0 ⟨(y 1).val, h1⟩ ⟨(y 2).val, h2⟩ : S1x32x1024.Idx) := funext fun a => by
    fin_cases a <;> [exact Fin.ext (show (y 0).val = 0 by omega); rfl; rfl]
  refine (congrArg _ ey).trans ((last_apply _ _ ⟨(y 1).val, h1⟩ ⟨(y 2).val, h2⟩).trans ?_)
  have er (k : ℕ) (hk : k < 11520) (h : t.val * 256 + (224 + (y 1).val) < 8192) :
      (ix2 ⟨t.val * 256 + (224 + (y 1).val), h⟩ ⟨k, hk⟩ : S8192x11520.Idx)
        = ix2 ⟨t.val / 16 * 4096 + (4064 + (y 1).val), by omega⟩ ⟨k, hk⟩ := funext fun a => by
    fin_cases a <;> [exact Fin.ext (show t.val * 256 + (224 + (y 1).val) = t.val / 16 * 4096 + (4064 + (y 1).val) by omega); rfl]
  exact congrArg₂ (fun a b => a * Ideal.logistic b)
    ((blk_a m c t ⟨224 + (y 1).val, by omega⟩ ⟨(y 2).val, h2⟩ (by dsimp only; omega)).trans (congrArg _ (er _ _ _)))
    ((blk_b m c t ⟨224 + (y 1).val, by omega⟩ ⟨(y 2).val, h2⟩ (by dsimp only; omega)).trans (congrArg _ (er _ _ _)))

/-- The call's result: the tail without its first two rows. -/
def rest (a : FVec Ideal S2x32x1024 .f32) : FVec Ideal S2x30x1024 .f32 :=
  extractStridedSlice S2x30x1024 ![0, 2, 0] a slices_S2x32x1024_S2x30x1024_0_2_0

/-- The run: the result is cut from the tail that the kernel leaves, and the arguments are kept. -/
theorem run (ρ) : θ_run defs (onTc (τ := τ) (main (F := Ideal))) ⟨m, fun _ => 0, ρ⟩ fun r => ∀ c : Dev nD,
      r.2.mem ((c : Thread nD τ).loc main_v8) = rest (tail (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨by
      refine ((h.1 c).2 main_v8 (by decide +kernel)).trans ?_
      refine Eq.trans ?_ (congrArg rest (final m c))
      exact congrArg rest ((dats m 0 c).withArrays_arrAt sharedIn0 (V0 m c) (A_eq m c) 9), h.2 c⟩)
    (θ_run_and (run_main m ρ) (unchanged m ρ))

end Cert.Kernel8Ideal.Tail

end
-- ==== Proof.TailClaims.lean ====
/- The last rows of the prompt's convolution: what the reference computes, and what is claimed of it. -/
module

public import proofs.«01_k».proof.Defs
public import proofs.«01_k».proof.Proof.TailBody
public import proofs.«01_k».proof.Proof.Gen.Kernel8.Frame
public import proofs.«01_k».proof.Proof.Gen.Reference8Ideal.Read
public import Idealize.ShloMosaic.Lib.Quiescent

@[expose] public section

set_option maxRecDepth 16384

noncomputable section

open Idealize.ShloMosaic Idealize.ShloMosaic.TcCoe Idealize.SL.Sem

namespace Cert.Reference8Ideal.Tail

open Cert.Reference8Ideal Cert.Reference8Ideal.Gen Cert.Reference8Ideal.Read
open Cert.Kernel8Ideal.Tail (tail tail_apply rest)

/-- The reference's last rows. -/
theorem ref_eq (z : FVec Ideal S8192x11520 .f32) : val_main_v10 (F := Ideal) z = rest (tail z) := by
  funext i
  idx_vars i
  have e : rest (tail z) (ix3 i0 i1 i2) = tail z (ix3 i0 ⟨2 + i1.val, by omega⟩ i2) := by
    pointwise [rest]
  refine Eq.trans ?_ (e.trans (tail_apply z i0 ⟨2 + i1.val, by omega⟩ i2)).symm
  pointwise [val_main_v10, val_main_v9, val_main_v8, val_main_v7, val_main_v6, val_main_v5, val_main_v4,
    val_main_v3, val_main_v2, val_main_v1, val_main_v0, val_main_cst, val_main_cst_0]
  have ek (h1 : i0.val * 4096 + (4066 + i1.val) < 8192) (h2 : i0.val * 4096 + (4064 + (2 + i1.val)) < 8192) :
      (⟨i0.val * 4096 + (4066 + i1.val), h1⟩ : Fin 8192) = ⟨i0.val * 4096 + (4064 + (2 + i1.val)), h2⟩ := Fin.ext (by dsimp only; omega)
  exact congrArg (fun k : Fin 8192 => z (ix2 k ⟨5120 + i2.val, by omega⟩) * Ideal.logistic (z (ix2 k ⟨6144 + i2.val, by omega⟩))) (ek _ _)

end Cert.Reference8Ideal.Tail

namespace Cert.Proof.Tail

open Cert.Kernel8Ideal.Tail (tail rest)

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)
theorem preserves : Cert.preserves_Kernel8_Kernel8Ideal := trivial

/-- Both programs end with the last gated rows of each batch. -/
theorem algebraic : Cert.algebraic_Kernel8Ideal_Reference8Ideal := fun m ρ m' ρ' _ hag =>
  ⟨fun c => rest (tail (m ((c : Thread Cert.Kernel8Ideal.nD Cert.Kernel8Ideal.τ).loc Cert.Kernel8Ideal.main_arg0))),
    Cert.Kernel8Ideal.Tail.run m ρ,
    (θ_run _ _ _).mono (fun _ h c => ⟨(h c).1.trans ((Cert.Reference8Ideal.Read.val_main_v10_eq (F := Ideal) _).trans
        ((Cert.Reference8Ideal.Tail.ref_eq _).trans (by rw [(hag c).1]))), (h c).2⟩)
      (Cert.Reference8Ideal.Value.run (F := Ideal) m' ρ')⟩

end Cert.Proof.Tail

end
-- ==== Proof.HistBody.lean ====
/- What one grid point of the sample's convolution leaves in the new history: the last rows of the old history followed
   by the gated rows of the new positions. -/
module

public import proofs.«01_k».proof.Proof.Gen.Kernel9Ideal.Value
public import Idealize.ShloMosaic.Lib.Pipeline.ValueKit
public import Idealize.ShloMosaic.Lib.Pipeline.ReadBack
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.Hist

open Cert.Kernel9Ideal Cert.Kernel9Ideal.Gen

variable (m : (ℓ : Loc nD τ sig) → Buf (Elt Ideal) ℓ)

/-- The block indices at a point. -/
theorem idx : ∀ t : Fin cfg0.N, win0_0.index t = ![t.val, 5] ∧ win0_1.index t = ![t.val, 6] ∧ win0_2.index t = ![t.val, 0, 0]
    ∧ win0_8.index t = ![t.val, 0, 0] :=
  (by decide +kernel : ∀ t : Fin grid0.N, _)

/-- The new history of one sequence: the last 22 rows of its old history, then the 8 gated rows. -/
def hist (S : FVec Ideal S1x30x1024 .f32) (A B : FVec Ideal S8x1024 .f32) : FVec Ideal S1x30x1024 .f32 := fun y =>
  have h1 : (y 1).val < 30 := (y 1).isLt
  if h : (y 1).val < 22 then S (ix3 0 ⟨(y 1).val + 8, by omega⟩ (y 2))
  else A (ix2 ⟨(y 1).val - 22, by omega⟩ (y 2)) * Ideal.logistic (B (ix2 ⟨(y 1).val - 22, by omega⟩ (y 2)))

theorem hist_apply (S : FVec Ideal S1x30x1024 .f32) (A B : FVec Ideal S8x1024 .f32) (r : Fin 30) (l : Fin 1024) :
    hist S A B (ix3 0 r l) = if h : r.val < 22 then S (ix3 0 ⟨r.val + 8, by omega⟩ l)
      else A (ix2 ⟨r.val - 22, by omega⟩ l) * Ideal.logistic (B (ix2 ⟨r.val - 22, by omega⟩ l)) := rfl

/-- The two stores of the scratch. -/
abbrev stores (S : FVec Ideal S1x30x1024 .f32) (A B : FVec Ideal S8x1024 .f32) : List (View.Piece (Elt Ideal) S40x1024 .f32) :=
  [⟨Rect.unit ![30, 0] ![8, 1024] inb_S40x1024_S8x1024_30_0, k0_pay3 (F := Ideal) A B⟩,
    ⟨Rect.unit ![0, 0] ![30, 1024] inb_S40x1024_S30x1024_0_0, k0_pay2 (F := Ideal) S⟩]

/-- A row of the scratch the new history is read from. -/
theorem scratch (S : FVec Ideal S1x30x1024 .f32) (A B : FVec Ideal S8x1024 .f32) (r : Fin 30) (l : Fin 1024) :
    View.canon (stores S A B) (ix2 ⟨8 + r.val, by omega⟩ l : S40x1024.Idx) = hist S A B (ix3 0 r l) := by
  have hc : ∃ p ∈ stores S A B, (ix2 ⟨8 + r.val, by omega⟩ l : S40x1024.Idx) ∈ p.1.set := by
    by_cases h : r.val < 22
    · refine ⟨_, List.mem_cons_of_mem _ List.mem_cons_self, ?_⟩
      rw [Rect.mem_set_unit]
      intro a
      fin_cases a <;> [exact ⟨Nat.zero_le _, show 8 + r.val < 0 + 30 by omega⟩; exact ⟨Nat.zero_le _, show l.val < 0 + 1024 by omega⟩]
    · refine ⟨_, List.mem_cons_self, ?_⟩
      rw [Rect.mem_set_unit]
      intro a
      fin_cases a <;> [exact ⟨show 30 ≤ 8 + r.val by omega, show 8 + r.val < 30 + 8 by omega⟩;
        exact ⟨Nat.zero_le _, show l.val < 0 + 1024 by omega⟩]
  rw [hist_apply]
  revert hc
  generalize hy : (ix2 ⟨8 + r.val, by omega⟩ l : S40x1024.Idx) = y
  intro hc
  have hy0 : (y 0).val = 8 + r.val := by rw [← hy]; rfl
  have hy1 : (y 1).val = l.val := by rw [← hy]; rfl
  canon_tiles x h using hc
  all_goals (open_payloads; pointwise)
  · have ex : x = ix2 ⟨r.val - 22, by omega⟩ l := funext fun a => by
      fin_cases a <;> [exact Fin.ext (show (x 0).val = r.val - 22 by omega); exact Fin.ext (show (x 1).val = l.val by omega)]
    rw [dif_neg (by omega)]
    exact congrArg (fun x => A x * Ideal.logistic (B x)) ex
  · rw [dif_pos (by omega)]
    exact congrArg S (funext fun a => by
      fin_cases a <;> [rfl; exact Fin.ext (show (x 0).val = r.val + 8 by omega); exact Fin.ext (show (x 1).val = l.val by omega)])

/-- What a point leaves in the new history. -/
theorem out_eq (c : Dev nD) (t : Fin cfg0.N) : (outsAt0 m c t).2 = hist (iblk m c 2 t) (X0_0 m c t) (X0_1 m c t) := by
  unfold outsAt0
  frame_out
  rw [View.readCov_eq_canon']
  funext y
  idx_vars y
  pointwise [k0_pay1]
  refine (scratch (iblk m c 2 t) (X0_0 m c t) (X0_1 m c t) y1 y2).trans (congrArg _ (funext fun a => ?_))
  fin_cases a <;> [exact Subsingleton.elim (α := Fin 1) _ _; rfl; rfl]

/-- The new history of all sequences: the old one moved up by eight rows, then the eight gated rows of the projection. -/
def fresh (z : FVec Ideal S256x11520 .f32) (s : FVec Ideal S1x32x30x1024 .f32) : FVec Ideal S32x30x1024 .f32 := fun i =>
  have h0 : (i 0).val < 32 := (i 0).isLt
  have h1 : (i 1).val < 30 := (i 1).isLt
  have h2 : (i 2).val < 1024 := (i 2).isLt
  if h : (i 1).val < 22 then s (ix4 0 (i 0) ⟨(i 1).val + 8, by omega⟩ (i 2))
  else z (ix2 ⟨(i 0).val * 8 + ((i 1).val - 22), by omega⟩ ⟨5120 + (i 2).val, by omega⟩)
    * Ideal.logistic (z (ix2 ⟨(i 0).val * 8 + ((i 1).val - 22), by omega⟩ ⟨6144 + (i 2).val, by omega⟩))

theorem fresh_apply (z : FVec Ideal S256x11520 .f32) (s : FVec Ideal S1x32x30x1024 .f32) (b : Fin 32) (r : Fin 30) (l : Fin 1024) :
    fresh z s (ix3 b r l) = if h : r.val < 22 then s (ix4 0 b ⟨r.val + 8, by omega⟩ l)
      else z (ix2 ⟨b.val * 8 + (r.val - 22), by omega⟩ ⟨5120 + l.val, by omega⟩)
        * Ideal.logistic (z (ix2 ⟨b.val * 8 + (r.val - 22), by omega⟩ ⟨6144 + l.val, by omega⟩)) := rfl

theorem flat_apply (s : FVec Ideal S1x32x30x1024 .f32) (b : Fin 32) (r : Fin 30) (l : Fin 1024) :
    shapeCast S32x30x1024 s shapeCasts_S1x32x30x1024_S32x30x1024 (ix3 b r l) = s (ix4 0 b r l) := by
  pointwise

theorem entry_s (c : Dev nD) : V m c main_v0
    = shapeCast S32x30x1024 (m ((c : Thread nD τ).loc main_arg1) : FVec Ideal S1x32x30x1024 .f32) shapeCasts_S1x32x30x1024_S32x30x1024 := by
  entry_read
  rfl

theorem blk_a (c : Dev nD) (t : Fin cfg0.N) (r : Fin 8) (l : Fin 1024) (h : t.val * 8 + r.val < 256) :
    (X0_0 m c t : FVec Ideal S8x1024 .f32) (ix2 r l)
      = m ((c : Thread nD τ).loc main_arg0) (ix2 ⟨t.val * 8 + r.val, h⟩ ⟨5120 + l.val, by omega⟩) := by
  unfold X0_0 Pipeline.Window.fill
  rw [dif_pos (moved0_0 t _)]
  blk_ext [iblk, V, idx t]

theorem blk_b (c : Dev nD) (t : Fin cfg0.N) (r : Fin 8) (l : Fin 1024) (h : t.val * 8 + r.val < 256) :
    (X0_1 m c t : FVec Ideal S8x1024 .f32) (ix2 r l)
      = m ((c : Thread nD τ).loc main_arg0) (ix2 ⟨t.val * 8 + r.val, h⟩ ⟨6144 + l.val, by omega⟩) := by
  unfold X0_1 Pipeline.Window.fill
  rw [dif_pos (moved0_1 t _)]
  blk_ext [iblk, V, idx t]

theorem blk_s (c : Dev nD) (t : Fin cfg0.N) (r : Fin 30) (l : Fin 1024) (h : t.val < 32) :
    (iblk m c 2 t : FVec Ideal S1x30x1024 .f32) (ix3 0 r l) = m ((c : Thread nD τ).loc main_arg1) (ix4 0 ⟨t.val, h⟩ r l) := by
  have e : (iblk m c 2 t : FVec Ideal S1x30x1024 .f32) (ix3 0 r l) = (V m c main_v0 : FVec Ideal S32x30x1024 .f32) (ix3 ⟨t.val, h⟩ r l) := by
    blk_ext [iblk, idx t]
  rw [e, entry_s]
  exact flat_apply _ _ _ _

/-- The new history after the run. -/
theorem final (c : Dev nD) : (dats m 0 c).arrAt 8 cfg0.N
    = fresh (m ((c : Thread nD τ).loc main_arg0)) (m ((c : Thread nD τ).loc main_arg1)) := by
  refine (dats m 0 c).arrAt_eq_of_covers 8 _ (by decide +kernel) fun t _ y => ?_
  blk_simp
  rw [after0_8, out_eq]
  have hN : t.val < 32 := lt_of_lt_of_eq t.isLt N_0
  have h0 : (y 0).val < 1 := (y 0).isLt
  have h1 : (y 1).val < 30 := (y 1).isLt
  have h2 : (y 2).val < 1024 := (y 2).isLt
  have e : (win0_8.blk t).view.emb y
      = (ix3 ⟨t.val, hN⟩ ⟨(y 1).val, h1⟩ ⟨(y 2).val, h2⟩ : S32x30x1024.Idx) := by
    blk_ext [idx t]
  rw [e, fresh_apply]
  have ey : y = (ix3 0 ⟨(y 1).val, h1⟩ ⟨(y 2).val, h2⟩ : S1x30x1024.Idx) := funext fun a => by
    fin_cases a <;> [exact Fin.ext (show (y 0).val = 0 by omega); rfl; rfl]
  refine (congrArg _ ey).trans ((hist_apply _ _ _ ⟨(y 1).val, h1⟩ ⟨(y 2).val, h2⟩).trans ?_)
  by_cases h : (y 1).val < 22
  · rw [dif_pos h, dif_pos h]
    exact blk_s m c t ⟨(y 1).val + 8, by omega⟩ ⟨(y 2).val, h2⟩ hN
  · rw [dif_neg h, dif_neg h]
    exact congrArg₂ (fun a b => a * Ideal.logistic b) (blk_a m c t ⟨(y 1).val - 22, by omega⟩ ⟨(y 2).val, h2⟩ _)
      (blk_b m c t ⟨(y 1).val - 22, by omega⟩ ⟨(y 2).val, h2⟩ _)

end Cert.Kernel9Ideal.Hist

end
-- ==== Proof.HistClaims.lean ====
/- The new history of the sample's convolution: what the reference computes, and what is claimed of it. -/
module

public import proofs.«01_k».proof.Defs
public import proofs.«01_k».proof.Proof.HistBody
public import proofs.«01_k».proof.Proof.Gen.Kernel9.Frame
public import proofs.«01_k».proof.Proof.Gen.Reference9Ideal.Read
public import Idealize.ShloMosaic.Lib.Quiescent

@[expose] public section

set_option maxRecDepth 16384

noncomputable section

open Idealize.ShloMosaic Idealize.ShloMosaic.TcCoe Idealize.SL.Sem

namespace Cert.Reference9Ideal.Hist

open Cert.Reference9Ideal Cert.Reference9Ideal.Gen Cert.Reference9Ideal.Read
open Cert.Kernel9Ideal.Hist (fresh fresh_apply)

/-- The reference's new history. -/
theorem ref_eq (z : FVec Ideal S256x11520 .f32) (s : FVec Ideal S1x32x30x1024 .f32) :
    val_main_v12 (F := Ideal) z s = fresh z s := by
  funext i
  idx_vars i
  refine Eq.trans ?_ (fresh_apply z s i0 i1 i2).symm
  pointwise [val_main_v12, val_main_v11, val_main_v10, val_main_v9, val_main_v8, val_main_v7, val_main_v6, val_main_v5, val_main_v4,
    val_main_v3, val_main_v2, val_main_v1, val_main_v0, val_main_cst, val_main_cst_0]
  by_cases h : i1.val < 22
  · rw [dif_pos (show 8 + i1.val < 30 by omega), dif_pos h]
    exact congrArg (fun k : Fin 30 => s (ix4 0 i0 k i2)) (Fin.ext (Nat.add_comm 8 i1.val))
  · rw [dif_neg (show ¬ 8 + i1.val < 30 by omega), dif_neg h]
    have e : i0.val * 8 + (8 + i1.val - 30) = i0.val * 8 + (i1.val - 22) := by omega
    have ek (h1 : i0.val * 8 + (8 + i1.val - 30) < 256) (h2 : i0.val * 8 + (i1.val - 22) < 256) :
        (⟨i0.val * 8 + (8 + i1.val - 30), h1⟩ : Fin 256) = ⟨i0.val * 8 + (i1.val - 22), h2⟩ := Fin.ext e
    exact congrArg (fun k : Fin 256 => z (ix2 k ⟨5120 + i2.val, by omega⟩) * Ideal.logistic (z (ix2 k ⟨6144 + i2.val, by omega⟩))) (ek _ _)

end Cert.Reference9Ideal.Hist

namespace Cert.Proof.Hist

open Cert.Kernel9Ideal.Hist (fresh)

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)
theorem preserves : Cert.preserves_Kernel9_Kernel9Ideal := trivial

/-- Both programs end with the old history moved up by the gated rows of the new positions. -/
theorem algebraic : Cert.algebraic_Kernel9Ideal_Reference9Ideal := fun m ρ m' ρ' _ hag =>
  ⟨fun c => fresh (m ((c : Thread Cert.Kernel9Ideal.nD Cert.Kernel9Ideal.τ).loc Cert.Kernel9Ideal.main_arg0))
      (m ((c : Thread Cert.Kernel9Ideal.nD Cert.Kernel9Ideal.τ).loc Cert.Kernel9Ideal.main_arg1)),
    (θ_run _ _ _).mono (fun _ h c => ⟨(h c).2.1.trans (Cert.Kernel9Ideal.Hist.final m c), (h c).2.2⟩)
      (Cert.Kernel9Ideal.Value.run_blocks (F := Ideal) m ρ),
    (θ_run _ _ _).mono (fun _ h c => ⟨(h c).1.trans ((Cert.Reference9Ideal.Read.val_main_v12_eq (F := Ideal) _ _).trans
        ((Cert.Reference9Ideal.Hist.ref_eq _ _).trans (by rw [(hag c).1, (hag c).2.1]))), (h c).2⟩)
      (Cert.Reference9Ideal.Value.run (F := Ideal) m' ρ')⟩

end Cert.Proof.Hist

end
-- ==== Proof.LastClaims.lean ====
/- The last call: the sum of the hidden rows and the feed-forward rows, normalised; what the kernel leaves and what
   the reference computes. -/
module

public import proofs.«01_k».proof.Defs
public import proofs.«01_k».proof.Proof.ProjFinal
public import proofs.«01_k».proof.Proof.Gen.Kernel10.Frame
public import proofs.«01_k».proof.Proof.Gen.Kernel10Ideal.Run
public import proofs.«01_k».proof.Proof.Gen.Reference10Ideal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel10Ideal.Last

open Cert.Kernel10Ideal Cert.Kernel10Ideal.Gen
open Cert.Kernel2Ideal.Proj (nrm nrm_congr)

variable (m : (ℓ : Loc nD τ sig) → Buf (Elt Ideal) ℓ)

/-- The normalised sum. -/
def sum (x f : FVec Ideal S8192x2048 .f32) (g : FVec Ideal S2048 .f32) : FVec Ideal S8192x2048 .f32 :=
  fun i => nrm (fun (r : Fin 8192) k => x (ix2 r k) + f (ix2 r k)) (fun l => g (ix1 l)) (i 0) (i 1)

/-- The block indices at a point. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem entry_g (c : Dev nD) : V m c main_v0
    = shapeCast S1x2048 (m ((c : Thread nD τ).loc main_arg2) : FVec Ideal S2048 .f32) shapeCasts_S2048_S1x2048 := by
  entry_read
  rfl

theorem out3 (x0 x1 : Vec Ideal S256x2048 .f32) (x2 : Vec Ideal S1x2048 .f32) : out0_3 x0 x1 x2 = k0_pay1 x0 x1 x2 := by
  frame_out

/-- What a point stores, read at an index of its block. -/
theorem pay (X F : FVec Ideal S256x2048 .f32) (G : FVec Ideal S1x2048 .f32) (r : Fin 256) (l : Fin 2048) :
    (k0_pay1 (F := Ideal) X F G : FVec Ideal S256x2048 .f32) (ix2 r l)
      = nrm (fun (r : Fin 256) k => X (ix2 r k) + F (ix2 r k)) (fun l => G (ix2 0 l)) r l := by
  pointwise [k0_pay1, nrm]

theorem blk_x (c : Dev nD) (t : Fin cfg0.N) (r : Fin 256) (j : Fin 2048) (h : t.val * 256 + r.val < 8192) :
    (iblk m c 0 t : FVec Ideal S256x2048 .f32) (ix2 r j)
      = m ((c : Thread nD τ).loc main_arg0) (ix2 ⟨t.val * 256 + r.val, h⟩ j) := by
  blk_ext [iblk, V, idx t]

theorem blk_f (c : Dev nD) (t : Fin cfg0.N) (r : Fin 256) (j : Fin 2048) (h : t.val * 256 + r.val < 8192) :
    (iblk m c 1 t : FVec Ideal S256x2048 .f32) (ix2 r j)
      = m ((c : Thread nD τ).loc main_arg1) (ix2 ⟨t.val * 256 + r.val, h⟩ j) := by
  blk_ext [iblk, V, idx t]

theorem blk_g (c : Dev nD) (t : Fin cfg0.N) (j : Fin 2048) :
    (iblk m c 2 t : FVec Ideal S1x2048 .f32) (ix2 0 j) = m ((c : Thread nD τ).loc main_arg2) (ix1 j) := by
  have e : (iblk m c 2 t : FVec Ideal S1x2048 .f32) (ix2 0 j) = (V m c main_v0 : FVec Ideal S1x2048 .f32) (ix2 0 j) := by
    blk_ext [iblk, idx t]
  rw [e, entry_g]
  pointwise

/-- The result array after the run. -/
theorem final (c : Dev nD) : (dats m 0 c).arrAt 3 cfg0.N
    = sum (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out3]
  have hN : t.val < 32 := lt_of_lt_of_eq t.isLt N_0
  have h0 : (y 0).val < 256 := (y 0).isLt
  have h1 : (y 1).val < 2048 := (y 1).isLt
  have e : (win0_3.blk t).view.emb y
      = (ix2 ⟨t.val * 256 + (y 0).val, by omega⟩ ⟨(y 1).val, h1⟩ : S8192x2048.Idx) := by
    blk_ext [idx t]
  rw [e]
  have ey : y = (ix2 ⟨(y 0).val, h0⟩ ⟨(y 1).val, h1⟩ : S256x2048.Idx) := funext fun a => by fin_cases a <;> rfl
  refine (congrArg _ ey).trans ((pay _ _ _ ⟨(y 0).val, h0⟩ ⟨(y 1).val, h1⟩).trans ?_)
  exact nrm_congr _ _ _ _ _ _ _ (fun j => congrArg₂ (· + ·) (blk_x m c t ⟨(y 0).val, h0⟩ j _) (blk_f m c t ⟨(y 0).val, h0⟩ j _))
    (blk_g m c t _)

end Cert.Kernel10Ideal.Last

namespace Cert.Reference10Ideal.Last

open Cert.Reference10Ideal Cert.Reference10Ideal.Gen Cert.Reference10Ideal.Read

/-- The reference's result is the normalised sum, reshaped. -/
theorem ref_eq (x f : FVec Ideal S8192x2048 .f32) (g : FVec Ideal S2048 .f32) :
    val_main_v14 (F := Ideal) x f g
      = shapeCast S2x4096x2048 (Cert.Kernel10Ideal.Last.sum x f g) shapeCasts_S8192x2048_S2x4096x2048 := by
  refine congrArg (fun y : FVec Ideal S8192x2048 .f32 => shapeCast S2x4096x2048 y shapeCasts_S8192x2048_S2x4096x2048) ?_
  funext i
  idx_vars i
  pointwise [val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, Cert.Kernel10Ideal.Last.sum, Cert.Kernel2Ideal.Proj.nrm]

end Cert.Reference10Ideal.Last

namespace Cert.Proof.Last

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)
theorem preserves : Cert.preserves_Kernel10_Kernel10Ideal := trivial

/-- Both programs end with the normalised sum. -/
theorem algebraic : Cert.algebraic_Kernel10Ideal_Reference10Ideal := fun m ρ m' ρ' _ hag =>
  ⟨fun c => shapeCast Cert.Kernel10Ideal.S2x4096x2048
      (Cert.Kernel10Ideal.Last.sum (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1))
        (m ((c : Thread Cert.Kernel10Ideal.nD Cert.Kernel10Ideal.τ).loc Cert.Kernel10Ideal.main_arg2)))
      Cert.Kernel10Ideal.Gen.shapeCasts_S8192x2048_S2x4096x2048,
    (θ_run _ _ _).mono (fun _ h c => ⟨(h c).1.trans (congrArg (fun y : FVec Ideal Cert.Kernel10Ideal.S8192x2048 .f32 =>
        shapeCast Cert.Kernel10Ideal.S2x4096x2048 y Cert.Kernel10Ideal.Gen.shapeCasts_S8192x2048_S2x4096x2048)
        (Cert.Kernel10Ideal.Last.final m c)), (h c).2⟩)
      (Cert.Kernel10Ideal.Value.run (F := Ideal) m ρ),
    (θ_run _ _ _).mono (fun _ h c => ⟨(h c).1.trans ((Cert.Reference10Ideal.Read.val_main_v14_eq (F := Ideal) _ _ _).trans
        ((Cert.Reference10Ideal.Last.ref_eq _ _ _).trans (by rw [(hag c).1, (hag c).2.1, (hag c).2.2]))), (h c).2⟩)
      (Cert.Reference10Ideal.Value.run (F := Ideal) m' ρ')⟩

end Cert.Proof.Last

end
-- ==== Proof.LastSamp.lean ====
/- The last call on the sample, whose rows are one block: what the kernel leaves and what the reference computes. -/
module

public import proofs.«01_k».proof.Defs
public import proofs.«01_k».proof.Proof.LastClaims
public import proofs.«01_k».proof.Proof.Gen.Kernel11.Frame
public import proofs.«01_k».proof.Proof.Gen.Kernel11Ideal.Run
public import proofs.«01_k».proof.Proof.Gen.Reference11Ideal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel11Ideal.LastSamp

open Cert.Kernel11Ideal Cert.Kernel11Ideal.Gen
open Cert.Kernel2Ideal.Proj (nrm nrm_congr)

variable (m : (ℓ : Loc nD τ sig) → Buf (Elt Ideal) ℓ)

/-- The normalised sum. -/
def sum (x f : FVec Ideal S256x2048 .f32) (g : FVec Ideal S2048 .f32) : FVec Ideal S256x2048 .f32 :=
  fun i => nrm (fun (r : Fin 256) k => x (ix2 r k) + f (ix2 r k)) (fun l => g (ix1 l)) (i 0) (i 1)

/-- The block indices at a point. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem entry_g (c : Dev nD) : V m c main_v0
    = shapeCast S1x2048 (m ((c : Thread nD τ).loc main_arg2) : FVec Ideal S2048 .f32) shapeCasts_S2048_S1x2048 := by
  entry_read
  rfl

/-- A point stores what a block of the prompt's call does. -/
theorem out3 (x0 x1 : Vec Ideal S256x2048 .f32) (x2 : Vec Ideal S1x2048 .f32) : out0_3 x0 x1 x2 = Cert.Kernel10Ideal.Gen.k0_pay1 x0 x1 x2 := by
  frame_out
  rfl

theorem blk_x (c : Dev nD) (t : Fin cfg0.N) (r : Fin 256) (j : Fin 2048) (h : t.val = 0) :
    (iblk m c 0 t : FVec Ideal S256x2048 .f32) (ix2 r j) = m ((c : Thread nD τ).loc main_arg0) (ix2 r j) := by
  blk_ext [iblk, V, idx t]

theorem blk_f (c : Dev nD) (t : Fin cfg0.N) (r : Fin 256) (j : Fin 2048) (h : t.val = 0) :
    (iblk m c 1 t : FVec Ideal S256x2048 .f32) (ix2 r j) = m ((c : Thread nD τ).loc main_arg1) (ix2 r j) := by
  blk_ext [iblk, V, idx t]

theorem blk_g (c : Dev nD) (t : Fin cfg0.N) (j : Fin 2048) :
    (iblk m c 2 t : FVec Ideal S1x2048 .f32) (ix2 0 j) = m ((c : Thread nD τ).loc main_arg2) (ix1 j) := by
  have e : (iblk m c 2 t : FVec Ideal S1x2048 .f32) (ix2 0 j) = (V m c main_v0 : FVec Ideal S1x2048 .f32) (ix2 0 j) := by
    blk_ext [iblk, idx t]
  rw [e, entry_g]
  pointwise

/-- The result array after the run. -/
theorem final (c : Dev nD) : (dats m 0 c).arrAt 3 cfg0.N
    = sum (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out3]
  have hN : t.val < 1 := lt_of_lt_of_eq t.isLt N_0
  have ht : t.val = 0 := by omega
  have h0 : (y 0).val < 256 := (y 0).isLt
  have h1 : (y 1).val < 2048 := (y 1).isLt
  have e : (win0_3.blk t).view.emb y = (ix2 ⟨(y 0).val, h0⟩ ⟨(y 1).val, h1⟩ : S256x2048.Idx) := by
    blk_ext [idx t]
  rw [e]
  have ey : y = (ix2 ⟨(y 0).val, h0⟩ ⟨(y 1).val, h1⟩ : S256x2048.Idx) := funext fun a => by fin_cases a <;> rfl
  refine (congrArg _ ey).trans ((Cert.Kernel10Ideal.Last.pay _ _ _ ⟨(y 0).val, h0⟩ ⟨(y 1).val, h1⟩).trans ?_)
  exact nrm_congr _ _ _ _ _ _ _ (fun j => congrArg₂ (· + ·) (blk_x m c t ⟨(y 0).val, h0⟩ j ht) (blk_f m c t ⟨(y 0).val, h0⟩ j ht))
    (blk_g m c t _)

end Cert.Kernel11Ideal.LastSamp

namespace Cert.Reference11Ideal.LastSamp

open Cert.Reference11Ideal Cert.Reference11Ideal.Gen Cert.Reference11Ideal.Read

/-- The reference's result is the normalised sum, reshaped. -/
theorem ref_eq (x f : FVec Ideal S256x2048 .f32) (g : FVec Ideal S2048 .f32) :
    val_main_v14 (F := Ideal) x f g
      = shapeCast S32x8x2048 (Cert.Kernel11Ideal.LastSamp.sum x f g) shapeCasts_S256x2048_S32x8x2048 := by
  refine congrArg (fun y : FVec Ideal S256x2048 .f32 => shapeCast S32x8x2048 y shapeCasts_S256x2048_S32x8x2048) ?_
  funext i
  idx_vars i
  pointwise [val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, Cert.Kernel11Ideal.LastSamp.sum, Cert.Kernel2Ideal.Proj.nrm]

end Cert.Reference11Ideal.LastSamp

namespace Cert.Proof.LastSamp

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)
theorem preserves : Cert.preserves_Kernel11_Kernel11Ideal := trivial

/-- Both programs end with the normalised sum. -/
theorem algebraic : Cert.algebraic_Kernel11Ideal_Reference11Ideal := fun m ρ m' ρ' _ hag =>
  ⟨fun c => shapeCast Cert.Kernel11Ideal.S32x8x2048
      (Cert.Kernel11Ideal.LastSamp.sum (m ((c : Thread Cert.Kernel11Ideal.nD Cert.Kernel11Ideal.τ).loc Cert.Kernel11Ideal.main_arg0))
        (m ((c : Thread Cert.Kernel11Ideal.nD Cert.Kernel11Ideal.τ).loc Cert.Kernel11Ideal.main_arg1))
        (m ((c : Thread Cert.Kernel11Ideal.nD Cert.Kernel11Ideal.τ).loc Cert.Kernel11Ideal.main_arg2)))
      Cert.Kernel11Ideal.Gen.shapeCasts_S256x2048_S32x8x2048,
    (θ_run _ _ _).mono (fun _ h c => ⟨(h c).1.trans (congrArg (fun y : FVec Ideal Cert.Kernel11Ideal.S256x2048 .f32 =>
        shapeCast Cert.Kernel11Ideal.S32x8x2048 y Cert.Kernel11Ideal.Gen.shapeCasts_S256x2048_S32x8x2048)
        (Cert.Kernel11Ideal.LastSamp.final m c)), (h c).2⟩)
      (Cert.Kernel11Ideal.Value.run (F := Ideal) m ρ),
    (θ_run _ _ _).mono (fun _ h c => ⟨(h c).1.trans ((Cert.Reference11Ideal.Read.val_main_v14_eq (F := Ideal) _ _ _).trans
        ((Cert.Reference11Ideal.LastSamp.ref_eq _ _ _).trans (by rw [(hag c).1, (hag c).2.1, (hag c).2.2]))), (h c).2⟩)
      (Cert.Reference11Ideal.Value.run (F := Ideal) m' ρ')⟩

end Cert.Proof.LastSamp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.Kernel2Ideal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Run
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Run
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Run
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Run
public import proofs.«01_k».proof.Proof.Gen.Reference11Ideal.Run
public import proofs.«01_k».proof.Proof.Gen.Reference11Ideal.Read
public import proofs.«01_k».proof.Proof.WinClaims
public import proofs.«01_k».proof.Proof.ProjClaims
public import proofs.«01_k».proof.Proof.OutClaims
public import proofs.«01_k».proof.Proof.MergeClaims
public import proofs.«01_k».proof.Proof.SelClaims
public import proofs.«01_k».proof.Proof.SampClaims
public import proofs.«01_k».proof.Proof.CacheClaims
public import proofs.«01_k».proof.Proof.TailClaims
public import proofs.«01_k».proof.Proof.HistClaims
public import proofs.«01_k».proof.Proof.LastClaims
public import proofs.«01_k».proof.Proof.LastSamp
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Win.frame_p, Win.frame_pi, Win.frame_ri,
  Proj.frame_p, Proj.frame_pi, Proj.frame_ri,
  Out.frame_p, Out.frame_pi, Out.frame_ri,
  Merge.frame_p, Merge.frame_pi, Merge.frame_ri,
  Sel.frame_p, Sel.frame_pi, Sel.frame_ri,
  Samp.frame_p, Samp.frame_pi, Samp.frame_ri,
  Cache.frame_p, Cache.frame_pi, Cache.frame_ri,
  Tail.frame_p, Tail.frame_pi, Tail.frame_ri,
  Hist.frame_p, Hist.frame_pi, Hist.frame_ri,
  Last.frame_p, Last.frame_pi, Last.frame_ri,
  LastSamp.frame_p, LastSamp.frame_pi, LastSamp.frame_ri,
  Win.preserves, Win.algebraic,
  Proj.preserves, Proj.algebraic,
  Out.preserves, Out.algebraic,
  Merge.preserves, Merge.algebraic,
  Sel.preserves, Sel.algebraic,
  Samp.preserves, Samp.algebraic,
  Cache.preserves, Cache.algebraic,
  Tail.preserves, Tail.algebraic,
  Hist.preserves, Hist.algebraic,
  Last.preserves, Last.algebraic,
  LastSamp.preserves, LastSamp.algebraic⟩

end Cert.Proof

end
